-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_nonneg [hPre_mask_nonneg : Cert.Pre_mask_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_mask_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_nonneg [hPre_mask_nonneg : Cert.Pre_mask_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_KernelTc (m : (ℓ : Loc Cert.KernelTc.nD Cert.KernelTc.τ Cert.KernelTc.sig) → Buf (Elt Bits) ℓ) : Prop :=
  True

def Pre_KernelTcIdeal (m : (ℓ : Loc Cert.KernelTcIdeal.nD Cert.KernelTcIdeal.τ Cert.KernelTcIdeal.sig) → Buf (Elt Ideal) ℓ) : Prop :=
  True

def Pre_KernelTcIdeal_mask_nonneg [hPre_mask_nonneg : Cert.Pre_mask_nonneg.Facts] (m : (ℓ : Loc Cert.KernelTcIdeal.nD Cert.KernelTcIdeal.τ Cert.KernelTcIdeal.sig) → Buf (Elt Ideal) ℓ) : Prop :=
  ∀ c : Dev Cert.KernelTcIdeal.nD,
    (Cert.Pre_mask_nonneg.fn (F := Ideal) (m ((c.tc : Thread Cert.KernelTcIdeal.nD Cert.KernelTcIdeal.τ).loc Cert.KernelTcIdeal.main_arg0)) (m ((c.tc : Thread Cert.KernelTcIdeal.nD Cert.KernelTcIdeal.τ).loc Cert.KernelTcIdeal.main_arg1))) = (fun _ => 1#1)

def Pre_ReferenceRowsIdeal (m : (ℓ : Loc Cert.ReferenceRowsIdeal.nD Cert.ReferenceRowsIdeal.τ Cert.ReferenceRowsIdeal.sig) → Buf (Elt Ideal) ℓ) : Prop :=
  True

def Pre_ReferenceRowsIdeal_mask_nonneg [hPre_mask_nonneg : Cert.Pre_mask_nonneg.Facts] (m : (ℓ : Loc Cert.ReferenceRowsIdeal.nD Cert.ReferenceRowsIdeal.τ Cert.ReferenceRowsIdeal.sig) → Buf (Elt Ideal) ℓ) : Prop :=
  ∀ c : Dev Cert.ReferenceRowsIdeal.nD,
    (Cert.Pre_mask_nonneg.fn (F := Ideal) (m ((c.tc : Thread Cert.ReferenceRowsIdeal.nD Cert.ReferenceRowsIdeal.τ).loc Cert.ReferenceRowsIdeal.main_arg0)) (m ((c.tc : Thread Cert.ReferenceRowsIdeal.nD Cert.ReferenceRowsIdeal.τ).loc Cert.ReferenceRowsIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_mask_nonneg [hKernelIdeal : Cert.KernelIdeal.Facts] [hPre_mask_nonneg : Cert.Pre_mask_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_nonneg m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_mask_nonneg [hReferenceIdeal : Cert.ReferenceIdeal.Facts] [hPre_mask_nonneg : Cert.Pre_mask_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelTc [hKernelTc : Cert.KernelTc.Facts] : Prop :=
  ∀ (m : (ℓ : Loc Cert.KernelTc.nD Cert.KernelTc.τ Cert.KernelTc.sig) → Buf (Elt Bits) ℓ) (g : Dev Cert.KernelTc.nD → PrngReg), Pre_KernelTc m →
    θ_run (Cert.KernelTc.defs (F := Bits)) (onTc (τ := Cert.KernelTc.τ) (Cert.KernelTc.main (F := Bits))) ⟨m, fun _ => 0, g⟩ (fun r => (∀ c : Dev Cert.KernelTc.nD,
      r.2.mem ((c.tc : Thread Cert.KernelTc.nD Cert.KernelTc.τ).loc Cert.KernelTc.main_arg0) = m ((c.tc : Thread Cert.KernelTc.nD Cert.KernelTc.τ).loc Cert.KernelTc.main_arg0)
      ∧ r.2.mem ((c.tc : Thread Cert.KernelTc.nD Cert.KernelTc.τ).loc Cert.KernelTc.main_arg1) = m ((c.tc : Thread Cert.KernelTc.nD Cert.KernelTc.τ).loc Cert.KernelTc.main_arg1))
      ∧ r.2.sem = fun _ => 0)

def quiescent_KernelTcIdeal [hKernelTcIdeal : Cert.KernelTcIdeal.Facts] : Prop :=
  ∀ (m : (ℓ : Loc Cert.KernelTcIdeal.nD Cert.KernelTcIdeal.τ Cert.KernelTcIdeal.sig) → Buf (Elt Ideal) ℓ) (g : Dev Cert.KernelTcIdeal.nD → PrngReg), Pre_KernelTcIdeal m →
    θ_run (Cert.KernelTcIdeal.defs (F := Ideal)) (onTc (τ := Cert.KernelTcIdeal.τ) (Cert.KernelTcIdeal.main (F := Ideal))) ⟨m, fun _ => 0, g⟩ (fun r => (∀ c : Dev Cert.KernelTcIdeal.nD,
      r.2.mem ((c.tc : Thread Cert.KernelTcIdeal.nD Cert.KernelTcIdeal.τ).loc Cert.KernelTcIdeal.main_arg0) = m ((c.tc : Thread Cert.KernelTcIdeal.nD Cert.KernelTcIdeal.τ).loc Cert.KernelTcIdeal.main_arg0)
      ∧ r.2.mem ((c.tc : Thread Cert.KernelTcIdeal.nD Cert.KernelTcIdeal.τ).loc Cert.KernelTcIdeal.main_arg1) = m ((c.tc : Thread Cert.KernelTcIdeal.nD Cert.KernelTcIdeal.τ).loc Cert.KernelTcIdeal.main_arg1))
      ∧ r.2.sem = fun _ => 0)

def quiescent_KernelTcIdeal_pre_mask_nonneg [hKernelTcIdeal : Cert.KernelTcIdeal.Facts] [hPre_mask_nonneg : Cert.Pre_mask_nonneg.Facts] : Prop :=
  ∀ (m : (ℓ : Loc Cert.KernelTcIdeal.nD Cert.KernelTcIdeal.τ Cert.KernelTcIdeal.sig) → Buf (Elt Ideal) ℓ) (g : Dev Cert.KernelTcIdeal.nD → PrngReg), Pre_KernelTcIdeal_mask_nonneg m →
    θ_run (Cert.KernelTcIdeal.defs (F := Ideal)) (onTc (τ := Cert.KernelTcIdeal.τ) (Cert.KernelTcIdeal.main (F := Ideal))) ⟨m, fun _ => 0, g⟩ (fun r => (∀ c : Dev Cert.KernelTcIdeal.nD,
      r.2.mem ((c.tc : Thread Cert.KernelTcIdeal.nD Cert.KernelTcIdeal.τ).loc Cert.KernelTcIdeal.main_arg0) = m ((c.tc : Thread Cert.KernelTcIdeal.nD Cert.KernelTcIdeal.τ).loc Cert.KernelTcIdeal.main_arg0)
      ∧ r.2.mem ((c.tc : Thread Cert.KernelTcIdeal.nD Cert.KernelTcIdeal.τ).loc Cert.KernelTcIdeal.main_arg1) = m ((c.tc : Thread Cert.KernelTcIdeal.nD Cert.KernelTcIdeal.τ).loc Cert.KernelTcIdeal.main_arg1))
      ∧ r.2.sem = fun _ => 0)

def quiescent_ReferenceRowsIdeal [hReferenceRowsIdeal : Cert.ReferenceRowsIdeal.Facts] : Prop :=
  ∀ (m : (ℓ : Loc Cert.ReferenceRowsIdeal.nD Cert.ReferenceRowsIdeal.τ Cert.ReferenceRowsIdeal.sig) → Buf (Elt Ideal) ℓ) (g : Dev Cert.ReferenceRowsIdeal.nD → PrngReg), Pre_ReferenceRowsIdeal m →
    θ_run (Cert.ReferenceRowsIdeal.defs (F := Ideal)) (onTc (τ := Cert.ReferenceRowsIdeal.τ) (Cert.ReferenceRowsIdeal.main (F := Ideal))) ⟨m, fun _ => 0, g⟩ (fun r => (∀ c : Dev Cert.ReferenceRowsIdeal.nD,
      r.2.mem ((c.tc : Thread Cert.ReferenceRowsIdeal.nD Cert.ReferenceRowsIdeal.τ).loc Cert.ReferenceRowsIdeal.main_arg0) = m ((c.tc : Thread Cert.ReferenceRowsIdeal.nD Cert.ReferenceRowsIdeal.τ).loc Cert.ReferenceRowsIdeal.main_arg0)
      ∧ r.2.mem ((c.tc : Thread Cert.ReferenceRowsIdeal.nD Cert.ReferenceRowsIdeal.τ).loc Cert.ReferenceRowsIdeal.main_arg1) = m ((c.tc : Thread Cert.ReferenceRowsIdeal.nD Cert.ReferenceRowsIdeal.τ).loc Cert.ReferenceRowsIdeal.main_arg1))
      ∧ r.2.sem = fun _ => 0)

def quiescent_ReferenceRowsIdeal_pre_mask_nonneg [hReferenceRowsIdeal : Cert.ReferenceRowsIdeal.Facts] [hPre_mask_nonneg : Cert.Pre_mask_nonneg.Facts] : Prop :=
  ∀ (m : (ℓ : Loc Cert.ReferenceRowsIdeal.nD Cert.ReferenceRowsIdeal.τ Cert.ReferenceRowsIdeal.sig) → Buf (Elt Ideal) ℓ) (g : Dev Cert.ReferenceRowsIdeal.nD → PrngReg), Pre_ReferenceRowsIdeal_mask_nonneg m →
    θ_run (Cert.ReferenceRowsIdeal.defs (F := Ideal)) (onTc (τ := Cert.ReferenceRowsIdeal.τ) (Cert.ReferenceRowsIdeal.main (F := Ideal))) ⟨m, fun _ => 0, g⟩ (fun r => (∀ c : Dev Cert.ReferenceRowsIdeal.nD,
      r.2.mem ((c.tc : Thread Cert.ReferenceRowsIdeal.nD Cert.ReferenceRowsIdeal.τ).loc Cert.ReferenceRowsIdeal.main_arg0) = m ((c.tc : Thread Cert.ReferenceRowsIdeal.nD Cert.ReferenceRowsIdeal.τ).loc Cert.ReferenceRowsIdeal.main_arg0)
      ∧ r.2.mem ((c.tc : Thread Cert.ReferenceRowsIdeal.nD Cert.ReferenceRowsIdeal.τ).loc Cert.ReferenceRowsIdeal.main_arg1) = m ((c.tc : Thread Cert.ReferenceRowsIdeal.nD Cert.ReferenceRowsIdeal.τ).loc Cert.ReferenceRowsIdeal.main_arg1))
      ∧ r.2.sem = fun _ => 0)

def preserves_Kernel_KernelIdeal : Prop :=
  True

def algebraic_KernelIdeal_ReferenceIdeal_pre_mask_nonneg [hKernelIdeal : Cert.KernelIdeal.Facts] [hReferenceIdeal : Cert.ReferenceIdeal.Facts] [hPre_mask_nonneg : Cert.Pre_mask_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelTc_KernelTcIdeal : Prop :=
  True

def algebraic_KernelTcIdeal_ReferenceRowsIdeal_pre_mask_nonneg [hKernelTcIdeal : Cert.KernelTcIdeal.Facts] [hReferenceRowsIdeal : Cert.ReferenceRowsIdeal.Facts] [hPre_mask_nonneg : Cert.Pre_mask_nonneg.Facts] : Prop :=
  ∀ (m : (ℓ : Loc Cert.KernelTcIdeal.nD Cert.KernelTcIdeal.τ Cert.KernelTcIdeal.sig) → Buf (Elt Ideal) ℓ) (g : Dev Cert.KernelTcIdeal.nD → PrngReg)
    (m' : (ℓ : Loc Cert.ReferenceRowsIdeal.nD Cert.ReferenceRowsIdeal.τ Cert.ReferenceRowsIdeal.sig) → Buf (Elt Ideal) ℓ) (g' : Dev Cert.ReferenceRowsIdeal.nD → PrngReg), Pre_KernelTcIdeal_mask_nonneg m →
    (∀ c : Dev Cert.KernelTcIdeal.nD,
      m' ((c.tc : Thread Cert.ReferenceRowsIdeal.nD Cert.ReferenceRowsIdeal.τ).loc Cert.ReferenceRowsIdeal.main_arg0) = m ((c.tc : Thread Cert.KernelTcIdeal.nD Cert.KernelTcIdeal.τ).loc Cert.KernelTcIdeal.main_arg0)
      ∧ m' ((c.tc : Thread Cert.ReferenceRowsIdeal.nD Cert.ReferenceRowsIdeal.τ).loc Cert.ReferenceRowsIdeal.main_arg1) = m ((c.tc : Thread Cert.KernelTcIdeal.nD Cert.KernelTcIdeal.τ).loc Cert.KernelTcIdeal.main_arg1)) →
    ∃ (v0 : (c : Dev Cert.KernelTcIdeal.nD) → Buf (Elt Ideal) ((c.tc : Thread Cert.KernelTcIdeal.nD Cert.KernelTcIdeal.τ).loc Cert.KernelTcIdeal.main_v3_0)) (v1 : (c : Dev Cert.KernelTcIdeal.nD) → Buf (Elt Ideal) ((c.tc : Thread Cert.KernelTcIdeal.nD Cert.KernelTcIdeal.τ).loc Cert.KernelTcIdeal.main_v3_1)),
      θ_run (Cert.KernelTcIdeal.defs (F := Ideal)) (onTc (τ := Cert.KernelTcIdeal.τ) (Cert.KernelTcIdeal.main (F := Ideal))) ⟨m, fun _ => 0, g⟩ (fun r => ∀ c : Dev Cert.KernelTcIdeal.nD,
          r.2.mem ((c.tc : Thread Cert.KernelTcIdeal.nD Cert.KernelTcIdeal.τ).loc Cert.KernelTcIdeal.main_v3_0) = v0 c
          ∧ r.2.mem ((c.tc : Thread Cert.KernelTcIdeal.nD Cert.KernelTcIdeal.τ).loc Cert.KernelTcIdeal.main_v3_1) = v1 c
          ∧ r.2.mem ((c.tc : Thread Cert.KernelTcIdeal.nD Cert.KernelTcIdeal.τ).loc Cert.KernelTcIdeal.main_arg0) = m ((c.tc : Thread Cert.KernelTcIdeal.nD Cert.KernelTcIdeal.τ).loc Cert.KernelTcIdeal.main_arg0)
          ∧ r.2.mem ((c.tc : Thread Cert.KernelTcIdeal.nD Cert.KernelTcIdeal.τ).loc Cert.KernelTcIdeal.main_arg1) = m ((c.tc : Thread Cert.KernelTcIdeal.nD Cert.KernelTcIdeal.τ).loc Cert.KernelTcIdeal.main_arg1))
      ∧ θ_run (Cert.ReferenceRowsIdeal.defs (F := Ideal)) (onTc (τ := Cert.ReferenceRowsIdeal.τ) (Cert.ReferenceRowsIdeal.main (F := Ideal))) ⟨m', fun _ => 0, g'⟩ (fun r => ∀ c : Dev Cert.ReferenceRowsIdeal.nD,
          r.2.mem ((c.tc : Thread Cert.ReferenceRowsIdeal.nD Cert.ReferenceRowsIdeal.τ).loc Cert.ReferenceRowsIdeal.main_v19) = v0 c
          ∧ r.2.mem ((c.tc : Thread Cert.ReferenceRowsIdeal.nD Cert.ReferenceRowsIdeal.τ).loc Cert.ReferenceRowsIdeal.main_v20) = v1 c
          ∧ r.2.mem ((c.tc : Thread Cert.ReferenceRowsIdeal.nD Cert.ReferenceRowsIdeal.τ).loc Cert.ReferenceRowsIdeal.main_arg0) = m' ((c.tc : Thread Cert.ReferenceRowsIdeal.nD Cert.ReferenceRowsIdeal.τ).loc Cert.ReferenceRowsIdeal.main_arg0)
          ∧ r.2.mem ((c.tc : Thread Cert.ReferenceRowsIdeal.nD Cert.ReferenceRowsIdeal.τ).loc Cert.ReferenceRowsIdeal.main_arg1) = m' ((c.tc : Thread Cert.ReferenceRowsIdeal.nD Cert.ReferenceRowsIdeal.τ).loc Cert.ReferenceRowsIdeal.main_arg1))

def Claim : Prop :=
  ∃ (hKernel : Cert.Kernel.Facts) (hKernelIdeal : Cert.KernelIdeal.Facts) (hReferenceIdeal : Cert.ReferenceIdeal.Facts) (hKernelTc : Cert.KernelTc.Facts) (hKernelTcIdeal : Cert.KernelTcIdeal.Facts) (hReferenceRowsIdeal : Cert.ReferenceRowsIdeal.Facts) (hPre_mask_nonneg : Cert.Pre_mask_nonneg.Facts),
    quiescent_Kernel (hKernel := hKernel)
    ∧ quiescent_KernelIdeal (hKernelIdeal := hKernelIdeal)
    ∧ quiescent_KernelIdeal_pre_mask_nonneg (hKernelIdeal := hKernelIdeal) (hPre_mask_nonneg := hPre_mask_nonneg)
    ∧ quiescent_ReferenceIdeal (hReferenceIdeal := hReferenceIdeal)
    ∧ quiescent_ReferenceIdeal_pre_mask_nonneg (hReferenceIdeal := hReferenceIdeal) (hPre_mask_nonneg := hPre_mask_nonneg)
    ∧ quiescent_KernelTc (hKernelTc := hKernelTc)
    ∧ quiescent_KernelTcIdeal (hKernelTcIdeal := hKernelTcIdeal)
    ∧ quiescent_KernelTcIdeal_pre_mask_nonneg (hKernelTcIdeal := hKernelTcIdeal) (hPre_mask_nonneg := hPre_mask_nonneg)
    ∧ quiescent_ReferenceRowsIdeal (hReferenceRowsIdeal := hReferenceRowsIdeal)
    ∧ quiescent_ReferenceRowsIdeal_pre_mask_nonneg (hReferenceRowsIdeal := hReferenceRowsIdeal) (hPre_mask_nonneg := hPre_mask_nonneg)
    ∧ preserves_Kernel_KernelIdeal
    ∧ algebraic_KernelIdeal_ReferenceIdeal_pre_mask_nonneg (hKernelIdeal := hKernelIdeal) (hReferenceIdeal := hReferenceIdeal) (hPre_mask_nonneg := hPre_mask_nonneg)
    ∧ preserves_KernelTc_KernelTcIdeal
    ∧ algebraic_KernelTcIdeal_ReferenceRowsIdeal_pre_mask_nonneg (hKernelTcIdeal := hKernelTcIdeal) (hReferenceRowsIdeal := hReferenceRowsIdeal) (hPre_mask_nonneg := hPre_mask_nonneg)
-- ==== Pre_mask_nonneg.lean ====
abbrev S3x4x2048x2048 : Shape := ⟨4, ![3, 4, 2048, 2048]⟩
abbrev S3x4x2048x1 : Shape := ⟨4, ![3, 4, 2048, 1]⟩
abbrev S_ : Shape := ⟨0, ![]⟩

class Facts : Prop where
  bcast_S_S3x4x2048x1 : S_.BroadcastsInDim S3x4x2048x1 (![] : Fin 0 → Fin S3x4x2048x1.rank)
  reducesTo_S3x4x2048x1_S_d0_1_2_3 : S3x4x2048x1.ReducesTo [0, 1, 2, 3] S_
  h_S_ : 0 < S_.numel

variable [Facts]

def fn {F : FTy → Type} [FloatOps F] (main_arg0 : FVec F S3x4x2048x2048 .f32) (main_arg1 : FVec F S3x4x2048x1 .f32) : IVec S_ 1 :=
  let main_cst : FVec F S_ .f32 := constant S_ .f32 0x00000000#32
  let main_v0 : FVec F S3x4x2048x1 .f32 := broadcastInDim S3x4x2048x1 ![] bcast_S_S3x4x2048x1 main_cst
  let main_v1 : IVec S3x4x2048x1 1 := cmpf .oge main_arg1 main_v0
  let main_c : IVec S_ 1 := constantI S_ 1 1#1
  let main_v2 : IVec S_ 1 := (fun x v => Host.reduce IntOp.andi x v reducesTo_S3x4x2048x1_S_d0_1_2_3 h_S_) main_v1 main_c
  main_v2
-- ==== Kernel.lean ====
abbrev S3x4x2048x2048 : Shape := ⟨4, ![3, 4, 2048, 2048]⟩
abbrev S3x4x2048x1 : Shape := ⟨4, ![3, 4, 2048, 1]⟩
abbrev S12x2048x2048 : Shape := ⟨3, ![12, 2048, 2048]⟩
abbrev S12x2048 : Shape := ⟨2, ![12, 2048]⟩
abbrev S12x16 : Shape := ⟨2, ![12, 16]⟩
abbrev S128x256 : Shape := ⟨2, ![128, 256]⟩
abbrev S1024 : Shape := ⟨1, ![1024]⟩
abbrev S256 : Shape := ⟨1, ![256]⟩
abbrev S16 : Shape := ⟨1, ![16]⟩
abbrev S_ : Shape := ⟨0, ![]⟩
abbrev S1x1024 : Shape := ⟨2, ![1, 1024]⟩
abbrev S1x128x256 : Shape := ⟨3, ![1, 128, 256]⟩
abbrev S1 : Shape := ⟨1, ![1]⟩
abbrev S1x16 : Shape := ⟨2, ![1, 16]⟩
abbrev S1x256 : Shape := ⟨2, ![1, 256]⟩
abbrev S3x4x1x2048 : Shape := ⟨4, ![3, 4, 1, 2048]⟩
abbrev S12x1 : Shape := ⟨2, ![12, 1]⟩
abbrev S3x4x1x1 : Shape := ⟨4, ![3, 4, 1, 1]⟩

abbrev nBuf : Table → Nat
  | .hbm => 9
  | .local .scVector .vmem => 5
  | _ => 0

abbrev bufTy : (tb : Table) → Fin (nBuf tb) → BufTy
  | .hbm, ⟨0, _⟩ => ⟨S3x4x2048x2048, .f32⟩
  | .hbm, ⟨1, _⟩ => ⟨S3x4x2048x1, .f32⟩
  | .hbm, ⟨2, _⟩ => ⟨S12x2048x2048, .f32⟩
  | .hbm, ⟨3, _⟩ => ⟨S12x2048, .f32⟩
  | .hbm, ⟨4, _⟩ => ⟨S12x2048, .f32⟩
  | .hbm, ⟨5, _⟩ => ⟨S12x16, .f32⟩
  | .hbm, ⟨6, _⟩ => ⟨S3x4x1x2048, .f32⟩
  | .hbm, ⟨7, _⟩ => ⟨S12x1, .f32⟩
  | .hbm, ⟨8, _⟩ => ⟨S3x4x1x1, .f32⟩
  | .local .scVector .vmem, ⟨0, _⟩ => ⟨S128x256, .f32⟩
  | .local .scVector .vmem, ⟨1, _⟩ => ⟨S128x256, .f32⟩
  | .local .scVector .vmem, ⟨2, _⟩ => ⟨S1024, .f32⟩
  | .local .scVector .vmem, ⟨3, _⟩ => ⟨S256, .f32⟩
  | .local .scVector .vmem, ⟨4, _⟩ => ⟨S16, .f32⟩
  | _, _ => ⟨S3x4x2048x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v0_scv : Ref sig .scVector := ⟨.hbm, 2, rfl⟩
abbrev main_v1_scv : Ref sig .scVector := ⟨.hbm, 3, rfl⟩
abbrev main_v2_0_scv : Ref sig .scVector := ⟨.hbm, 4, rfl⟩
abbrev main_v2_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let c0_i32 : BitVec 32 := 0#32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c1024_i32 : BitVec 32 := 1024#32
  ![v20.toNat, 1024]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let c0_i32 : BitVec 32 := 0#32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c1024_i32_14 : BitVec 32 := 1024#32
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c256_i32 : BitVec 32 := 256#32
  let v31 : BitVec 32 := Scalar.muli v30 c256_i32
  ![v20.toNat, 1024, v31.toNat]
@[reducible] def k0_t1_loop : Scf.Loop 32 :=
  let c0_i32_17 : BitVec 32 := 0#32
  let c64_i32 : BitVec 32 := 64#32
  let v46 : BitVec 32 := Scalar.addi c0_i32_17 c64_i32
  let c1_i32_18 : BitVec 32 := 1#32
  ⟨c0_i32_17, v46, c1_i32_18⟩
def k0_off3 (k0_t1 : Fin k0_t1_loop.trips) : Fin 1 → Nat :=
  let c0_i32_17 : BitVec 32 := 0#32
  let c1_i32_18 : BitVec 32 := 1#32
  let arg18 : BitVec 32 := Scf.iv c0_i32_17 c1_i32_18 k0_t1
  let c16_i32 : BitVec 32 := 16#32
  let v1379 : BitVec 32 := Scalar.muli arg18 c16_i32
  let v1380 : Index := Scalar.indexCast v1379
  ![v1380.toNat]

def k0_chk1 (v173 : IVec S16 32) : Prop :=
  (∀ a x, ((![v173] : Fin 1 → IVec S16 32) a x).toNat < S256.size a)
theorem k0_idx1_inb : ∀ (v173 : IVec S16 32) (k0_hw1 : k0_chk1 v173), ∀ a x, ((![v173] : Fin 1 → IVec S16 32) a x).toNat < S256.size a := fun v173 k0_hw1 => k0_hw1
@[reducible] def k0_t2_loop : Scf.Loop 32 :=
  let c0_i32_62 : BitVec 32 := 0#32
  let c64_i32_63 : BitVec 32 := 64#32
  let v340 : BitVec 32 := Scalar.addi c0_i32_62 c64_i32_63
  let c1_i32_64 : BitVec 32 := 1#32
  ⟨c0_i32_62, v340, c1_i32_64⟩
def k0_off4 (k0_t2 : Fin k0_t2_loop.trips) : Fin 1 → Nat :=
  let c0_i32_62 : BitVec 32 := 0#32
  let c1_i32_64 : BitVec 32 := 1#32
  let arg18 : BitVec 32 := Scf.iv c0_i32_62 c1_i32_64 k0_t2
  let c16_i32 : BitVec 32 := 16#32
  let v1379 : BitVec 32 := Scalar.muli arg18 c16_i32
  let v1380 : Index := Scalar.indexCast v1379
  ![v1380.toNat]
def k0_off5 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let c0_i32 : BitVec 32 := 0#32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c1152_i32 : BitVec 32 := 1152#32
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c256_i32 : BitVec 32 := 256#32
  let v31 : BitVec 32 := Scalar.muli v30 c256_i32
  ![v20.toNat, 1152, v31.toNat]
def k0_off6 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c1024_i32_83 : BitVec 32 := 1024#32
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c256_i32 : BitVec 32 := 256#32
  let v31 : BitVec 32 := Scalar.muli v30 c256_i32
  ![v20.toNat, 1024, v31.toNat]
@[reducible] def k0_t3_loop : Scf.Loop 32 :=
  let c0_i32_85 : BitVec 32 := 0#32
  let c128_i32 : BitVec 32 := 128#32
  let v366 : BitVec 32 := Scalar.addi c0_i32_85 c128_i32
  let c1_i32_86 : BitVec 32 := 1#32
  ⟨c0_i32_85, v366, c1_i32_86⟩

def k0_chk2 (v1382 : IVec S16 32) : Prop :=
  (∀ a x, ((![v1382] : Fin 1 → IVec S16 32) a x).toNat < S1024.size a)
theorem k0_idx2_inb : ∀ (v1382 : IVec S16 32) (k0_hw2 : k0_chk2 v1382), ∀ a x, ((![v1382] : Fin 1 → IVec S16 32) a x).toNat < S1024.size a := fun v1382 k0_hw2 => k0_hw2
def k0_off7 (k0_t3 : Fin k0_t3_loop.trips) : Fin 2 → Nat :=
  let c0_i32_85 : BitVec 32 := 0#32
  let c1_i32_86 : BitVec 32 := 1#32
  let arg18 : BitVec 32 := Scf.iv c0_i32_85 c1_i32_86 k0_t3
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_506 : Index := 0#32
  ![v1384.toNat, 0]
def k0_off8 (k0_t3 : Fin k0_t3_loop.trips) : Fin 2 → Nat :=
  let c0_i32_85 : BitVec 32 := 0#32
  let c1_i32_86 : BitVec 32 := 1#32
  let arg18 : BitVec 32 := Scf.iv c0_i32_85 c1_i32_86 k0_t3
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_507 : Index := 16#32
  ![v1388.toNat, 16]
def k0_off9 (k0_t3 : Fin k0_t3_loop.trips) : Fin 2 → Nat :=
  let c0_i32_85 : BitVec 32 := 0#32
  let c1_i32_86 : BitVec 32 := 1#32
  let arg18 : BitVec 32 := Scf.iv c0_i32_85 c1_i32_86 k0_t3
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_508 : Index := 32#32
  ![v1392.toNat, 32]
def k0_off10 (k0_t3 : Fin k0_t3_loop.trips) : Fin 2 → Nat :=
  let c0_i32_85 : BitVec 32 := 0#32
  let c1_i32_86 : BitVec 32 := 1#32
  let arg18 : BitVec 32 := Scf.iv c0_i32_85 c1_i32_86 k0_t3
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_509 : Index := 48#32
  ![v1396.toNat, 48]
def k0_off11 (k0_t3 : Fin k0_t3_loop.trips) : Fin 2 → Nat :=
  let c0_i32_85 : BitVec 32 := 0#32
  let c1_i32_86 : BitVec 32 := 1#32
  let arg18 : BitVec 32 := Scf.iv c0_i32_85 c1_i32_86 k0_t3
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_510 : Index := 64#32
  ![v1400.toNat, 64]
def k0_off12 (k0_t3 : Fin k0_t3_loop.trips) : Fin 2 → Nat :=
  let c0_i32_85 : BitVec 32 := 0#32
  let c1_i32_86 : BitVec 32 := 1#32
  let arg18 : BitVec 32 := Scf.iv c0_i32_85 c1_i32_86 k0_t3
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_511 : Index := 80#32
  ![v1404.toNat, 80]
def k0_off13 (k0_t3 : Fin k0_t3_loop.trips) : Fin 2 → Nat :=
  let c0_i32_85 : BitVec 32 := 0#32
  let c1_i32_86 : BitVec 32 := 1#32
  let arg18 : BitVec 32 := Scf.iv c0_i32_85 c1_i32_86 k0_t3
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_512 : Index := 96#32
  ![v1408.toNat, 96]
def k0_off14 (k0_t3 : Fin k0_t3_loop.trips) : Fin 2 → Nat :=
  let c0_i32_85 : BitVec 32 := 0#32
  let c1_i32_86 : BitVec 32 := 1#32
  let arg18 : BitVec 32 := Scf.iv c0_i32_85 c1_i32_86 k0_t3
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_513 : Index := 112#32
  ![v1412.toNat, 112]
def k0_off15 (k0_t3 : Fin k0_t3_loop.trips) : Fin 2 → Nat :=
  let c0_i32_85 : BitVec 32 := 0#32
  let c1_i32_86 : BitVec 32 := 1#32
  let arg18 : BitVec 32 := Scf.iv c0_i32_85 c1_i32_86 k0_t3
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_514 : Index := 128#32
  ![v1416.toNat, 128]
def k0_off16 (k0_t3 : Fin k0_t3_loop.trips) : Fin 2 → Nat :=
  let c0_i32_85 : BitVec 32 := 0#32
  let c1_i32_86 : BitVec 32 := 1#32
  let arg18 : BitVec 32 := Scf.iv c0_i32_85 c1_i32_86 k0_t3
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_515 : Index := 144#32
  ![v1420.toNat, 144]
def k0_off17 (k0_t3 : Fin k0_t3_loop.trips) : Fin 2 → Nat :=
  let c0_i32_85 : BitVec 32 := 0#32
  let c1_i32_86 : BitVec 32 := 1#32
  let arg18 : BitVec 32 := Scf.iv c0_i32_85 c1_i32_86 k0_t3
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_516 : Index := 160#32
  ![v1424.toNat, 160]
def k0_off18 (k0_t3 : Fin k0_t3_loop.trips) : Fin 2 → Nat :=
  let c0_i32_85 : BitVec 32 := 0#32
  let c1_i32_86 : BitVec 32 := 1#32
  let arg18 : BitVec 32 := Scf.iv c0_i32_85 c1_i32_86 k0_t3
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_517 : Index := 176#32
  ![v1428.toNat, 176]
def k0_off19 (k0_t3 : Fin k0_t3_loop.trips) : Fin 2 → Nat :=
  let c0_i32_85 : BitVec 32 := 0#32
  let c1_i32_86 : BitVec 32 := 1#32
  let arg18 : BitVec 32 := Scf.iv c0_i32_85 c1_i32_86 k0_t3
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_518 : Index := 192#32
  ![v1432.toNat, 192]
def k0_off20 (k0_t3 : Fin k0_t3_loop.trips) : Fin 2 → Nat :=
  let c0_i32_85 : BitVec 32 := 0#32
  let c1_i32_86 : BitVec 32 := 1#32
  let arg18 : BitVec 32 := Scf.iv c0_i32_85 c1_i32_86 k0_t3
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_519 : Index := 208#32
  ![v1436.toNat, 208]
def k0_off21 (k0_t3 : Fin k0_t3_loop.trips) : Fin 2 → Nat :=
  let c0_i32_85 : BitVec 32 := 0#32
  let c1_i32_86 : BitVec 32 := 1#32
  let arg18 : BitVec 32 := Scf.iv c0_i32_85 c1_i32_86 k0_t3
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_520 : Index := 224#32
  ![v1440.toNat, 224]
def k0_off22 (k0_t3 : Fin k0_t3_loop.trips) : Fin 2 → Nat :=
  let c0_i32_85 : BitVec 32 := 0#32
  let c1_i32_86 : BitVec 32 := 1#32
  let arg18 : BitVec 32 := Scf.iv c0_i32_85 c1_i32_86 k0_t3
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_521 : Index := 240#32
  ![v1444.toNat, 240]
def k0_off23 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let c0_i32 : BitVec 32 := 0#32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c1280_i32 : BitVec 32 := 1280#32
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c256_i32 : BitVec 32 := 256#32
  let v31 : BitVec 32 := Scalar.muli v30 c256_i32
  ![v20.toNat, 1280, v31.toNat]
@[reducible] def k0_t4_loop : Scf.Loop 32 :=
  let c0_i32_91 : BitVec 32 := 0#32
  let c128_i32_92 : BitVec 32 := 128#32
  let v376 : BitVec 32 := Scalar.addi c0_i32_91 c128_i32_92
  let c1_i32_93 : BitVec 32 := 1#32
  ⟨c0_i32_91, v376, c1_i32_93⟩

def k0_chk3 (v1382 : IVec S16 32) : Prop :=
  (∀ a x, ((![v1382] : Fin 1 → IVec S16 32) a x).toNat < S1024.size a)
theorem k0_idx3_inb : ∀ (v1382 : IVec S16 32) (k0_hw3 : k0_chk3 v1382), ∀ a x, ((![v1382] : Fin 1 → IVec S16 32) a x).toNat < S1024.size a := fun v1382 k0_hw3 => k0_hw3
def k0_off24 (k0_t4 : Fin k0_t4_loop.trips) : Fin 2 → Nat :=
  let c0_i32_91 : BitVec 32 := 0#32
  let c1_i32_93 : BitVec 32 := 1#32
  let arg18 : BitVec 32 := Scf.iv c0_i32_91 c1_i32_93 k0_t4
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_506 : Index := 0#32
  ![v1384.toNat, 0]
def k0_off25 (k0_t4 : Fin k0_t4_loop.trips) : Fin 2 → Nat :=
  let c0_i32_91 : BitVec 32 := 0#32
  let c1_i32_93 : BitVec 32 := 1#32
  let arg18 : BitVec 32 := Scf.iv c0_i32_91 c1_i32_93 k0_t4
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_507 : Index := 16#32
  ![v1388.toNat, 16]
def k0_off26 (k0_t4 : Fin k0_t4_loop.trips) : Fin 2 → Nat :=
  let c0_i32_91 : BitVec 32 := 0#32
  let c1_i32_93 : BitVec 32 := 1#32
  let arg18 : BitVec 32 := Scf.iv c0_i32_91 c1_i32_93 k0_t4
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_508 : Index := 32#32
  ![v1392.toNat, 32]
def k0_off27 (k0_t4 : Fin k0_t4_loop.trips) : Fin 2 → Nat :=
  let c0_i32_91 : BitVec 32 := 0#32
  let c1_i32_93 : BitVec 32 := 1#32
  let arg18 : BitVec 32 := Scf.iv c0_i32_91 c1_i32_93 k0_t4
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_509 : Index := 48#32
  ![v1396.toNat, 48]
def k0_off28 (k0_t4 : Fin k0_t4_loop.trips) : Fin 2 → Nat :=
  let c0_i32_91 : BitVec 32 := 0#32
  let c1_i32_93 : BitVec 32 := 1#32
  let arg18 : BitVec 32 := Scf.iv c0_i32_91 c1_i32_93 k0_t4
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_510 : Index := 64#32
  ![v1400.toNat, 64]
def k0_off29 (k0_t4 : Fin k0_t4_loop.trips) : Fin 2 → Nat :=
  let c0_i32_91 : BitVec 32 := 0#32
  let c1_i32_93 : BitVec 32 := 1#32
  let arg18 : BitVec 32 := Scf.iv c0_i32_91 c1_i32_93 k0_t4
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_511 : Index := 80#32
  ![v1404.toNat, 80]
def k0_off30 (k0_t4 : Fin k0_t4_loop.trips) : Fin 2 → Nat :=
  let c0_i32_91 : BitVec 32 := 0#32
  let c1_i32_93 : BitVec 32 := 1#32
  let arg18 : BitVec 32 := Scf.iv c0_i32_91 c1_i32_93 k0_t4
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_512 : Index := 96#32
  ![v1408.toNat, 96]
def k0_off31 (k0_t4 : Fin k0_t4_loop.trips) : Fin 2 → Nat :=
  let c0_i32_91 : BitVec 32 := 0#32
  let c1_i32_93 : BitVec 32 := 1#32
  let arg18 : BitVec 32 := Scf.iv c0_i32_91 c1_i32_93 k0_t4
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_513 : Index := 112#32
  ![v1412.toNat, 112]
def k0_off32 (k0_t4 : Fin k0_t4_loop.trips) : Fin 2 → Nat :=
  let c0_i32_91 : BitVec 32 := 0#32
  let c1_i32_93 : BitVec 32 := 1#32
  let arg18 : BitVec 32 := Scf.iv c0_i32_91 c1_i32_93 k0_t4
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_514 : Index := 128#32
  ![v1416.toNat, 128]
def k0_off33 (k0_t4 : Fin k0_t4_loop.trips) : Fin 2 → Nat :=
  let c0_i32_91 : BitVec 32 := 0#32
  let c1_i32_93 : BitVec 32 := 1#32
  let arg18 : BitVec 32 := Scf.iv c0_i32_91 c1_i32_93 k0_t4
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_515 : Index := 144#32
  ![v1420.toNat, 144]
def k0_off34 (k0_t4 : Fin k0_t4_loop.trips) : Fin 2 → Nat :=
  let c0_i32_91 : BitVec 32 := 0#32
  let c1_i32_93 : BitVec 32 := 1#32
  let arg18 : BitVec 32 := Scf.iv c0_i32_91 c1_i32_93 k0_t4
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_516 : Index := 160#32
  ![v1424.toNat, 160]
def k0_off35 (k0_t4 : Fin k0_t4_loop.trips) : Fin 2 → Nat :=
  let c0_i32_91 : BitVec 32 := 0#32
  let c1_i32_93 : BitVec 32 := 1#32
  let arg18 : BitVec 32 := Scf.iv c0_i32_91 c1_i32_93 k0_t4
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_517 : Index := 176#32
  ![v1428.toNat, 176]
def k0_off36 (k0_t4 : Fin k0_t4_loop.trips) : Fin 2 → Nat :=
  let c0_i32_91 : BitVec 32 := 0#32
  let c1_i32_93 : BitVec 32 := 1#32
  let arg18 : BitVec 32 := Scf.iv c0_i32_91 c1_i32_93 k0_t4
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_518 : Index := 192#32
  ![v1432.toNat, 192]
def k0_off37 (k0_t4 : Fin k0_t4_loop.trips) : Fin 2 → Nat :=
  let c0_i32_91 : BitVec 32 := 0#32
  let c1_i32_93 : BitVec 32 := 1#32
  let arg18 : BitVec 32 := Scf.iv c0_i32_91 c1_i32_93 k0_t4
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_519 : Index := 208#32
  ![v1436.toNat, 208]
def k0_off38 (k0_t4 : Fin k0_t4_loop.trips) : Fin 2 → Nat :=
  let c0_i32_91 : BitVec 32 := 0#32
  let c1_i32_93 : BitVec 32 := 1#32
  let arg18 : BitVec 32 := Scf.iv c0_i32_91 c1_i32_93 k0_t4
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_520 : Index := 224#32
  ![v1440.toNat, 224]
def k0_off39 (k0_t4 : Fin k0_t4_loop.trips) : Fin 2 → Nat :=
  let c0_i32_91 : BitVec 32 := 0#32
  let c1_i32_93 : BitVec 32 := 1#32
  let arg18 : BitVec 32 := Scf.iv c0_i32_91 c1_i32_93 k0_t4
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_521 : Index := 240#32
  ![v1444.toNat, 240]
def k0_off40 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let c0_i32 : BitVec 32 := 0#32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c1408_i32 : BitVec 32 := 1408#32
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c256_i32 : BitVec 32 := 256#32
  let v31 : BitVec 32 := Scalar.muli v30 c256_i32
  ![v20.toNat, 1408, v31.toNat]
@[reducible] def k0_t5_loop : Scf.Loop 32 :=
  let c0_i32_98 : BitVec 32 := 0#32
  let c128_i32_99 : BitVec 32 := 128#32
  let v386 : BitVec 32 := Scalar.addi c0_i32_98 c128_i32_99
  let c1_i32_100 : BitVec 32 := 1#32
  ⟨c0_i32_98, v386, c1_i32_100⟩

def k0_chk4 (v1382 : IVec S16 32) : Prop :=
  (∀ a x, ((![v1382] : Fin 1 → IVec S16 32) a x).toNat < S1024.size a)
theorem k0_idx4_inb : ∀ (v1382 : IVec S16 32) (k0_hw4 : k0_chk4 v1382), ∀ a x, ((![v1382] : Fin 1 → IVec S16 32) a x).toNat < S1024.size a := fun v1382 k0_hw4 => k0_hw4
def k0_off41 (k0_t5 : Fin k0_t5_loop.trips) : Fin 2 → Nat :=
  let c0_i32_98 : BitVec 32 := 0#32
  let c1_i32_100 : BitVec 32 := 1#32
  let arg18 : BitVec 32 := Scf.iv c0_i32_98 c1_i32_100 k0_t5
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_506 : Index := 0#32
  ![v1384.toNat, 0]
def k0_off42 (k0_t5 : Fin k0_t5_loop.trips) : Fin 2 → Nat :=
  let c0_i32_98 : BitVec 32 := 0#32
  let c1_i32_100 : BitVec 32 := 1#32
  let arg18 : BitVec 32 := Scf.iv c0_i32_98 c1_i32_100 k0_t5
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_507 : Index := 16#32
  ![v1388.toNat, 16]
def k0_off43 (k0_t5 : Fin k0_t5_loop.trips) : Fin 2 → Nat :=
  let c0_i32_98 : BitVec 32 := 0#32
  let c1_i32_100 : BitVec 32 := 1#32
  let arg18 : BitVec 32 := Scf.iv c0_i32_98 c1_i32_100 k0_t5
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_508 : Index := 32#32
  ![v1392.toNat, 32]
def k0_off44 (k0_t5 : Fin k0_t5_loop.trips) : Fin 2 → Nat :=
  let c0_i32_98 : BitVec 32 := 0#32
  let c1_i32_100 : BitVec 32 := 1#32
  let arg18 : BitVec 32 := Scf.iv c0_i32_98 c1_i32_100 k0_t5
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_509 : Index := 48#32
  ![v1396.toNat, 48]
def k0_off45 (k0_t5 : Fin k0_t5_loop.trips) : Fin 2 → Nat :=
  let c0_i32_98 : BitVec 32 := 0#32
  let c1_i32_100 : BitVec 32 := 1#32
  let arg18 : BitVec 32 := Scf.iv c0_i32_98 c1_i32_100 k0_t5
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_510 : Index := 64#32
  ![v1400.toNat, 64]
def k0_off46 (k0_t5 : Fin k0_t5_loop.trips) : Fin 2 → Nat :=
  let c0_i32_98 : BitVec 32 := 0#32
  let c1_i32_100 : BitVec 32 := 1#32
  let arg18 : BitVec 32 := Scf.iv c0_i32_98 c1_i32_100 k0_t5
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_511 : Index := 80#32
  ![v1404.toNat, 80]
def k0_off47 (k0_t5 : Fin k0_t5_loop.trips) : Fin 2 → Nat :=
  let c0_i32_98 : BitVec 32 := 0#32
  let c1_i32_100 : BitVec 32 := 1#32
  let arg18 : BitVec 32 := Scf.iv c0_i32_98 c1_i32_100 k0_t5
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_512 : Index := 96#32
  ![v1408.toNat, 96]
def k0_off48 (k0_t5 : Fin k0_t5_loop.trips) : Fin 2 → Nat :=
  let c0_i32_98 : BitVec 32 := 0#32
  let c1_i32_100 : BitVec 32 := 1#32
  let arg18 : BitVec 32 := Scf.iv c0_i32_98 c1_i32_100 k0_t5
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_513 : Index := 112#32
  ![v1412.toNat, 112]
def k0_off49 (k0_t5 : Fin k0_t5_loop.trips) : Fin 2 → Nat :=
  let c0_i32_98 : BitVec 32 := 0#32
  let c1_i32_100 : BitVec 32 := 1#32
  let arg18 : BitVec 32 := Scf.iv c0_i32_98 c1_i32_100 k0_t5
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_514 : Index := 128#32
  ![v1416.toNat, 128]
def k0_off50 (k0_t5 : Fin k0_t5_loop.trips) : Fin 2 → Nat :=
  let c0_i32_98 : BitVec 32 := 0#32
  let c1_i32_100 : BitVec 32 := 1#32
  let arg18 : BitVec 32 := Scf.iv c0_i32_98 c1_i32_100 k0_t5
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_515 : Index := 144#32
  ![v1420.toNat, 144]
def k0_off51 (k0_t5 : Fin k0_t5_loop.trips) : Fin 2 → Nat :=
  let c0_i32_98 : BitVec 32 := 0#32
  let c1_i32_100 : BitVec 32 := 1#32
  let arg18 : BitVec 32 := Scf.iv c0_i32_98 c1_i32_100 k0_t5
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_516 : Index := 160#32
  ![v1424.toNat, 160]
def k0_off52 (k0_t5 : Fin k0_t5_loop.trips) : Fin 2 → Nat :=
  let c0_i32_98 : BitVec 32 := 0#32
  let c1_i32_100 : BitVec 32 := 1#32
  let arg18 : BitVec 32 := Scf.iv c0_i32_98 c1_i32_100 k0_t5
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_517 : Index := 176#32
  ![v1428.toNat, 176]
def k0_off53 (k0_t5 : Fin k0_t5_loop.trips) : Fin 2 → Nat :=
  let c0_i32_98 : BitVec 32 := 0#32
  let c1_i32_100 : BitVec 32 := 1#32
  let arg18 : BitVec 32 := Scf.iv c0_i32_98 c1_i32_100 k0_t5
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_518 : Index := 192#32
  ![v1432.toNat, 192]
def k0_off54 (k0_t5 : Fin k0_t5_loop.trips) : Fin 2 → Nat :=
  let c0_i32_98 : BitVec 32 := 0#32
  let c1_i32_100 : BitVec 32 := 1#32
  let arg18 : BitVec 32 := Scf.iv c0_i32_98 c1_i32_100 k0_t5
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_519 : Index := 208#32
  ![v1436.toNat, 208]
def k0_off55 (k0_t5 : Fin k0_t5_loop.trips) : Fin 2 → Nat :=
  let c0_i32_98 : BitVec 32 := 0#32
  let c1_i32_100 : BitVec 32 := 1#32
  let arg18 : BitVec 32 := Scf.iv c0_i32_98 c1_i32_100 k0_t5
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_520 : Index := 224#32
  ![v1440.toNat, 224]
def k0_off56 (k0_t5 : Fin k0_t5_loop.trips) : Fin 2 → Nat :=
  let c0_i32_98 : BitVec 32 := 0#32
  let c1_i32_100 : BitVec 32 := 1#32
  let arg18 : BitVec 32 := Scf.iv c0_i32_98 c1_i32_100 k0_t5
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_521 : Index := 240#32
  ![v1444.toNat, 240]
def k0_off57 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let c0_i32 : BitVec 32 := 0#32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c1536_i32 : BitVec 32 := 1536#32
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c256_i32 : BitVec 32 := 256#32
  let v31 : BitVec 32 := Scalar.muli v30 c256_i32
  ![v20.toNat, 1536, v31.toNat]
@[reducible] def k0_t6_loop : Scf.Loop 32 :=
  let c0_i32_105 : BitVec 32 := 0#32
  let c128_i32_106 : BitVec 32 := 128#32
  let v396 : BitVec 32 := Scalar.addi c0_i32_105 c128_i32_106
  let c1_i32_107 : BitVec 32 := 1#32
  ⟨c0_i32_105, v396, c1_i32_107⟩

def k0_chk5 (v1382 : IVec S16 32) : Prop :=
  (∀ a x, ((![v1382] : Fin 1 → IVec S16 32) a x).toNat < S1024.size a)
theorem k0_idx5_inb : ∀ (v1382 : IVec S16 32) (k0_hw5 : k0_chk5 v1382), ∀ a x, ((![v1382] : Fin 1 → IVec S16 32) a x).toNat < S1024.size a := fun v1382 k0_hw5 => k0_hw5
def k0_off58 (k0_t6 : Fin k0_t6_loop.trips) : Fin 2 → Nat :=
  let c0_i32_105 : BitVec 32 := 0#32
  let c1_i32_107 : BitVec 32 := 1#32
  let arg18 : BitVec 32 := Scf.iv c0_i32_105 c1_i32_107 k0_t6
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_505 : Index := 0#32
  ![v1384.toNat, 0]
def k0_off59 (k0_t6 : Fin k0_t6_loop.trips) : Fin 2 → Nat :=
  let c0_i32_105 : BitVec 32 := 0#32
  let c1_i32_107 : BitVec 32 := 1#32
  let arg18 : BitVec 32 := Scf.iv c0_i32_105 c1_i32_107 k0_t6
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_506 : Index := 16#32
  ![v1388.toNat, 16]
def k0_off60 (k0_t6 : Fin k0_t6_loop.trips) : Fin 2 → Nat :=
  let c0_i32_105 : BitVec 32 := 0#32
  let c1_i32_107 : BitVec 32 := 1#32
  let arg18 : BitVec 32 := Scf.iv c0_i32_105 c1_i32_107 k0_t6
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_507 : Index := 32#32
  ![v1392.toNat, 32]
def k0_off61 (k0_t6 : Fin k0_t6_loop.trips) : Fin 2 → Nat :=
  let c0_i32_105 : BitVec 32 := 0#32
  let c1_i32_107 : BitVec 32 := 1#32
  let arg18 : BitVec 32 := Scf.iv c0_i32_105 c1_i32_107 k0_t6
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_508 : Index := 48#32
  ![v1396.toNat, 48]
def k0_off62 (k0_t6 : Fin k0_t6_loop.trips) : Fin 2 → Nat :=
  let c0_i32_105 : BitVec 32 := 0#32
  let c1_i32_107 : BitVec 32 := 1#32
  let arg18 : BitVec 32 := Scf.iv c0_i32_105 c1_i32_107 k0_t6
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_509 : Index := 64#32
  ![v1400.toNat, 64]
def k0_off63 (k0_t6 : Fin k0_t6_loop.trips) : Fin 2 → Nat :=
  let c0_i32_105 : BitVec 32 := 0#32
  let c1_i32_107 : BitVec 32 := 1#32
  let arg18 : BitVec 32 := Scf.iv c0_i32_105 c1_i32_107 k0_t6
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_510 : Index := 80#32
  ![v1404.toNat, 80]
def k0_off64 (k0_t6 : Fin k0_t6_loop.trips) : Fin 2 → Nat :=
  let c0_i32_105 : BitVec 32 := 0#32
  let c1_i32_107 : BitVec 32 := 1#32
  let arg18 : BitVec 32 := Scf.iv c0_i32_105 c1_i32_107 k0_t6
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_511 : Index := 96#32
  ![v1408.toNat, 96]
def k0_off65 (k0_t6 : Fin k0_t6_loop.trips) : Fin 2 → Nat :=
  let c0_i32_105 : BitVec 32 := 0#32
  let c1_i32_107 : BitVec 32 := 1#32
  let arg18 : BitVec 32 := Scf.iv c0_i32_105 c1_i32_107 k0_t6
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_512 : Index := 112#32
  ![v1412.toNat, 112]
def k0_off66 (k0_t6 : Fin k0_t6_loop.trips) : Fin 2 → Nat :=
  let c0_i32_105 : BitVec 32 := 0#32
  let c1_i32_107 : BitVec 32 := 1#32
  let arg18 : BitVec 32 := Scf.iv c0_i32_105 c1_i32_107 k0_t6
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_513 : Index := 128#32
  ![v1416.toNat, 128]
def k0_off67 (k0_t6 : Fin k0_t6_loop.trips) : Fin 2 → Nat :=
  let c0_i32_105 : BitVec 32 := 0#32
  let c1_i32_107 : BitVec 32 := 1#32
  let arg18 : BitVec 32 := Scf.iv c0_i32_105 c1_i32_107 k0_t6
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_514 : Index := 144#32
  ![v1420.toNat, 144]
def k0_off68 (k0_t6 : Fin k0_t6_loop.trips) : Fin 2 → Nat :=
  let c0_i32_105 : BitVec 32 := 0#32
  let c1_i32_107 : BitVec 32 := 1#32
  let arg18 : BitVec 32 := Scf.iv c0_i32_105 c1_i32_107 k0_t6
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_515 : Index := 160#32
  ![v1424.toNat, 160]
def k0_off69 (k0_t6 : Fin k0_t6_loop.trips) : Fin 2 → Nat :=
  let c0_i32_105 : BitVec 32 := 0#32
  let c1_i32_107 : BitVec 32 := 1#32
  let arg18 : BitVec 32 := Scf.iv c0_i32_105 c1_i32_107 k0_t6
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_516 : Index := 176#32
  ![v1428.toNat, 176]
def k0_off70 (k0_t6 : Fin k0_t6_loop.trips) : Fin 2 → Nat :=
  let c0_i32_105 : BitVec 32 := 0#32
  let c1_i32_107 : BitVec 32 := 1#32
  let arg18 : BitVec 32 := Scf.iv c0_i32_105 c1_i32_107 k0_t6
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_517 : Index := 192#32
  ![v1432.toNat, 192]
def k0_off71 (k0_t6 : Fin k0_t6_loop.trips) : Fin 2 → Nat :=
  let c0_i32_105 : BitVec 32 := 0#32
  let c1_i32_107 : BitVec 32 := 1#32
  let arg18 : BitVec 32 := Scf.iv c0_i32_105 c1_i32_107 k0_t6
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_518 : Index := 208#32
  ![v1436.toNat, 208]
def k0_off72 (k0_t6 : Fin k0_t6_loop.trips) : Fin 2 → Nat :=
  let c0_i32_105 : BitVec 32 := 0#32
  let c1_i32_107 : BitVec 32 := 1#32
  let arg18 : BitVec 32 := Scf.iv c0_i32_105 c1_i32_107 k0_t6
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_519 : Index := 224#32
  ![v1440.toNat, 224]
def k0_off73 (k0_t6 : Fin k0_t6_loop.trips) : Fin 2 → Nat :=
  let c0_i32_105 : BitVec 32 := 0#32
  let c1_i32_107 : BitVec 32 := 1#32
  let arg18 : BitVec 32 := Scf.iv c0_i32_105 c1_i32_107 k0_t6
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_520 : Index := 240#32
  ![v1444.toNat, 240]
def k0_off74 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let c0_i32 : BitVec 32 := 0#32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c1664_i32 : BitVec 32 := 1664#32
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c256_i32 : BitVec 32 := 256#32
  let v31 : BitVec 32 := Scalar.muli v30 c256_i32
  ![v20.toNat, 1664, v31.toNat]
@[reducible] def k0_t7_loop : Scf.Loop 32 :=
  let c0_i32_112 : BitVec 32 := 0#32
  let c128_i32_113 : BitVec 32 := 128#32
  let v406 : BitVec 32 := Scalar.addi c0_i32_112 c128_i32_113
  let c1_i32_114 : BitVec 32 := 1#32
  ⟨c0_i32_112, v406, c1_i32_114⟩

def k0_chk6 (v1382 : IVec S16 32) : Prop :=
  (∀ a x, ((![v1382] : Fin 1 → IVec S16 32) a x).toNat < S1024.size a)
theorem k0_idx6_inb : ∀ (v1382 : IVec S16 32) (k0_hw6 : k0_chk6 v1382), ∀ a x, ((![v1382] : Fin 1 → IVec S16 32) a x).toNat < S1024.size a := fun v1382 k0_hw6 => k0_hw6
def k0_off75 (k0_t7 : Fin k0_t7_loop.trips) : Fin 2 → Nat :=
  let c0_i32_112 : BitVec 32 := 0#32
  let c1_i32_114 : BitVec 32 := 1#32
  let arg18 : BitVec 32 := Scf.iv c0_i32_112 c1_i32_114 k0_t7
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_505 : Index := 0#32
  ![v1384.toNat, 0]
def k0_off76 (k0_t7 : Fin k0_t7_loop.trips) : Fin 2 → Nat :=
  let c0_i32_112 : BitVec 32 := 0#32
  let c1_i32_114 : BitVec 32 := 1#32
  let arg18 : BitVec 32 := Scf.iv c0_i32_112 c1_i32_114 k0_t7
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_506 : Index := 16#32
  ![v1388.toNat, 16]
def k0_off77 (k0_t7 : Fin k0_t7_loop.trips) : Fin 2 → Nat :=
  let c0_i32_112 : BitVec 32 := 0#32
  let c1_i32_114 : BitVec 32 := 1#32
  let arg18 : BitVec 32 := Scf.iv c0_i32_112 c1_i32_114 k0_t7
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_507 : Index := 32#32
  ![v1392.toNat, 32]
def k0_off78 (k0_t7 : Fin k0_t7_loop.trips) : Fin 2 → Nat :=
  let c0_i32_112 : BitVec 32 := 0#32
  let c1_i32_114 : BitVec 32 := 1#32
  let arg18 : BitVec 32 := Scf.iv c0_i32_112 c1_i32_114 k0_t7
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_508 : Index := 48#32
  ![v1396.toNat, 48]
def k0_off79 (k0_t7 : Fin k0_t7_loop.trips) : Fin 2 → Nat :=
  let c0_i32_112 : BitVec 32 := 0#32
  let c1_i32_114 : BitVec 32 := 1#32
  let arg18 : BitVec 32 := Scf.iv c0_i32_112 c1_i32_114 k0_t7
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_509 : Index := 64#32
  ![v1400.toNat, 64]
def k0_off80 (k0_t7 : Fin k0_t7_loop.trips) : Fin 2 → Nat :=
  let c0_i32_112 : BitVec 32 := 0#32
  let c1_i32_114 : BitVec 32 := 1#32
  let arg18 : BitVec 32 := Scf.iv c0_i32_112 c1_i32_114 k0_t7
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_510 : Index := 80#32
  ![v1404.toNat, 80]
def k0_off81 (k0_t7 : Fin k0_t7_loop.trips) : Fin 2 → Nat :=
  let c0_i32_112 : BitVec 32 := 0#32
  let c1_i32_114 : BitVec 32 := 1#32
  let arg18 : BitVec 32 := Scf.iv c0_i32_112 c1_i32_114 k0_t7
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_511 : Index := 96#32
  ![v1408.toNat, 96]
def k0_off82 (k0_t7 : Fin k0_t7_loop.trips) : Fin 2 → Nat :=
  let c0_i32_112 : BitVec 32 := 0#32
  let c1_i32_114 : BitVec 32 := 1#32
  let arg18 : BitVec 32 := Scf.iv c0_i32_112 c1_i32_114 k0_t7
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_512 : Index := 112#32
  ![v1412.toNat, 112]
def k0_off83 (k0_t7 : Fin k0_t7_loop.trips) : Fin 2 → Nat :=
  let c0_i32_112 : BitVec 32 := 0#32
  let c1_i32_114 : BitVec 32 := 1#32
  let arg18 : BitVec 32 := Scf.iv c0_i32_112 c1_i32_114 k0_t7
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_513 : Index := 128#32
  ![v1416.toNat, 128]
def k0_off84 (k0_t7 : Fin k0_t7_loop.trips) : Fin 2 → Nat :=
  let c0_i32_112 : BitVec 32 := 0#32
  let c1_i32_114 : BitVec 32 := 1#32
  let arg18 : BitVec 32 := Scf.iv c0_i32_112 c1_i32_114 k0_t7
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_514 : Index := 144#32
  ![v1420.toNat, 144]
def k0_off85 (k0_t7 : Fin k0_t7_loop.trips) : Fin 2 → Nat :=
  let c0_i32_112 : BitVec 32 := 0#32
  let c1_i32_114 : BitVec 32 := 1#32
  let arg18 : BitVec 32 := Scf.iv c0_i32_112 c1_i32_114 k0_t7
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_515 : Index := 160#32
  ![v1424.toNat, 160]
def k0_off86 (k0_t7 : Fin k0_t7_loop.trips) : Fin 2 → Nat :=
  let c0_i32_112 : BitVec 32 := 0#32
  let c1_i32_114 : BitVec 32 := 1#32
  let arg18 : BitVec 32 := Scf.iv c0_i32_112 c1_i32_114 k0_t7
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_516 : Index := 176#32
  ![v1428.toNat, 176]
def k0_off87 (k0_t7 : Fin k0_t7_loop.trips) : Fin 2 → Nat :=
  let c0_i32_112 : BitVec 32 := 0#32
  let c1_i32_114 : BitVec 32 := 1#32
  let arg18 : BitVec 32 := Scf.iv c0_i32_112 c1_i32_114 k0_t7
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_517 : Index := 192#32
  ![v1432.toNat, 192]
def k0_off88 (k0_t7 : Fin k0_t7_loop.trips) : Fin 2 → Nat :=
  let c0_i32_112 : BitVec 32 := 0#32
  let c1_i32_114 : BitVec 32 := 1#32
  let arg18 : BitVec 32 := Scf.iv c0_i32_112 c1_i32_114 k0_t7
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_518 : Index := 208#32
  ![v1436.toNat, 208]
def k0_off89 (k0_t7 : Fin k0_t7_loop.trips) : Fin 2 → Nat :=
  let c0_i32_112 : BitVec 32 := 0#32
  let c1_i32_114 : BitVec 32 := 1#32
  let arg18 : BitVec 32 := Scf.iv c0_i32_112 c1_i32_114 k0_t7
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_519 : Index := 224#32
  ![v1440.toNat, 224]
def k0_off90 (k0_t7 : Fin k0_t7_loop.trips) : Fin 2 → Nat :=
  let c0_i32_112 : BitVec 32 := 0#32
  let c1_i32_114 : BitVec 32 := 1#32
  let arg18 : BitVec 32 := Scf.iv c0_i32_112 c1_i32_114 k0_t7
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_520 : Index := 240#32
  ![v1444.toNat, 240]
def k0_off91 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let c0_i32 : BitVec 32 := 0#32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c1792_i32 : BitVec 32 := 1792#32
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c256_i32 : BitVec 32 := 256#32
  let v31 : BitVec 32 := Scalar.muli v30 c256_i32
  ![v20.toNat, 1792, v31.toNat]
@[reducible] def k0_t8_loop : Scf.Loop 32 :=
  let c0_i32_119 : BitVec 32 := 0#32
  let c128_i32_120 : BitVec 32 := 128#32
  let v416 : BitVec 32 := Scalar.addi c0_i32_119 c128_i32_120
  let c1_i32_121 : BitVec 32 := 1#32
  ⟨c0_i32_119, v416, c1_i32_121⟩

def k0_chk7 (v1382 : IVec S16 32) : Prop :=
  (∀ a x, ((![v1382] : Fin 1 → IVec S16 32) a x).toNat < S1024.size a)
theorem k0_idx7_inb : ∀ (v1382 : IVec S16 32) (k0_hw7 : k0_chk7 v1382), ∀ a x, ((![v1382] : Fin 1 → IVec S16 32) a x).toNat < S1024.size a := fun v1382 k0_hw7 => k0_hw7
def k0_off92 (k0_t8 : Fin k0_t8_loop.trips) : Fin 2 → Nat :=
  let c0_i32_119 : BitVec 32 := 0#32
  let c1_i32_121 : BitVec 32 := 1#32
  let arg18 : BitVec 32 := Scf.iv c0_i32_119 c1_i32_121 k0_t8
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_505 : Index := 0#32
  ![v1384.toNat, 0]
def k0_off93 (k0_t8 : Fin k0_t8_loop.trips) : Fin 2 → Nat :=
  let c0_i32_119 : BitVec 32 := 0#32
  let c1_i32_121 : BitVec 32 := 1#32
  let arg18 : BitVec 32 := Scf.iv c0_i32_119 c1_i32_121 k0_t8
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_506 : Index := 16#32
  ![v1388.toNat, 16]
def k0_off94 (k0_t8 : Fin k0_t8_loop.trips) : Fin 2 → Nat :=
  let c0_i32_119 : BitVec 32 := 0#32
  let c1_i32_121 : BitVec 32 := 1#32
  let arg18 : BitVec 32 := Scf.iv c0_i32_119 c1_i32_121 k0_t8
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_507 : Index := 32#32
  ![v1392.toNat, 32]
def k0_off95 (k0_t8 : Fin k0_t8_loop.trips) : Fin 2 → Nat :=
  let c0_i32_119 : BitVec 32 := 0#32
  let c1_i32_121 : BitVec 32 := 1#32
  let arg18 : BitVec 32 := Scf.iv c0_i32_119 c1_i32_121 k0_t8
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_508 : Index := 48#32
  ![v1396.toNat, 48]
def k0_off96 (k0_t8 : Fin k0_t8_loop.trips) : Fin 2 → Nat :=
  let c0_i32_119 : BitVec 32 := 0#32
  let c1_i32_121 : BitVec 32 := 1#32
  let arg18 : BitVec 32 := Scf.iv c0_i32_119 c1_i32_121 k0_t8
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_509 : Index := 64#32
  ![v1400.toNat, 64]
def k0_off97 (k0_t8 : Fin k0_t8_loop.trips) : Fin 2 → Nat :=
  let c0_i32_119 : BitVec 32 := 0#32
  let c1_i32_121 : BitVec 32 := 1#32
  let arg18 : BitVec 32 := Scf.iv c0_i32_119 c1_i32_121 k0_t8
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_510 : Index := 80#32
  ![v1404.toNat, 80]
def k0_off98 (k0_t8 : Fin k0_t8_loop.trips) : Fin 2 → Nat :=
  let c0_i32_119 : BitVec 32 := 0#32
  let c1_i32_121 : BitVec 32 := 1#32
  let arg18 : BitVec 32 := Scf.iv c0_i32_119 c1_i32_121 k0_t8
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_511 : Index := 96#32
  ![v1408.toNat, 96]
def k0_off99 (k0_t8 : Fin k0_t8_loop.trips) : Fin 2 → Nat :=
  let c0_i32_119 : BitVec 32 := 0#32
  let c1_i32_121 : BitVec 32 := 1#32
  let arg18 : BitVec 32 := Scf.iv c0_i32_119 c1_i32_121 k0_t8
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_512 : Index := 112#32
  ![v1412.toNat, 112]
def k0_off100 (k0_t8 : Fin k0_t8_loop.trips) : Fin 2 → Nat :=
  let c0_i32_119 : BitVec 32 := 0#32
  let c1_i32_121 : BitVec 32 := 1#32
  let arg18 : BitVec 32 := Scf.iv c0_i32_119 c1_i32_121 k0_t8
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_513 : Index := 128#32
  ![v1416.toNat, 128]
def k0_off101 (k0_t8 : Fin k0_t8_loop.trips) : Fin 2 → Nat :=
  let c0_i32_119 : BitVec 32 := 0#32
  let c1_i32_121 : BitVec 32 := 1#32
  let arg18 : BitVec 32 := Scf.iv c0_i32_119 c1_i32_121 k0_t8
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_514 : Index := 144#32
  ![v1420.toNat, 144]
def k0_off102 (k0_t8 : Fin k0_t8_loop.trips) : Fin 2 → Nat :=
  let c0_i32_119 : BitVec 32 := 0#32
  let c1_i32_121 : BitVec 32 := 1#32
  let arg18 : BitVec 32 := Scf.iv c0_i32_119 c1_i32_121 k0_t8
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_515 : Index := 160#32
  ![v1424.toNat, 160]
def k0_off103 (k0_t8 : Fin k0_t8_loop.trips) : Fin 2 → Nat :=
  let c0_i32_119 : BitVec 32 := 0#32
  let c1_i32_121 : BitVec 32 := 1#32
  let arg18 : BitVec 32 := Scf.iv c0_i32_119 c1_i32_121 k0_t8
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_516 : Index := 176#32
  ![v1428.toNat, 176]
def k0_off104 (k0_t8 : Fin k0_t8_loop.trips) : Fin 2 → Nat :=
  let c0_i32_119 : BitVec 32 := 0#32
  let c1_i32_121 : BitVec 32 := 1#32
  let arg18 : BitVec 32 := Scf.iv c0_i32_119 c1_i32_121 k0_t8
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_517 : Index := 192#32
  ![v1432.toNat, 192]
def k0_off105 (k0_t8 : Fin k0_t8_loop.trips) : Fin 2 → Nat :=
  let c0_i32_119 : BitVec 32 := 0#32
  let c1_i32_121 : BitVec 32 := 1#32
  let arg18 : BitVec 32 := Scf.iv c0_i32_119 c1_i32_121 k0_t8
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_518 : Index := 208#32
  ![v1436.toNat, 208]
def k0_off106 (k0_t8 : Fin k0_t8_loop.trips) : Fin 2 → Nat :=
  let c0_i32_119 : BitVec 32 := 0#32
  let c1_i32_121 : BitVec 32 := 1#32
  let arg18 : BitVec 32 := Scf.iv c0_i32_119 c1_i32_121 k0_t8
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_519 : Index := 224#32
  ![v1440.toNat, 224]
def k0_off107 (k0_t8 : Fin k0_t8_loop.trips) : Fin 2 → Nat :=
  let c0_i32_119 : BitVec 32 := 0#32
  let c1_i32_121 : BitVec 32 := 1#32
  let arg18 : BitVec 32 := Scf.iv c0_i32_119 c1_i32_121 k0_t8
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_520 : Index := 240#32
  ![v1444.toNat, 240]
def k0_off108 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let c0_i32 : BitVec 32 := 0#32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c1920_i32 : BitVec 32 := 1920#32
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c256_i32 : BitVec 32 := 256#32
  let v31 : BitVec 32 := Scalar.muli v30 c256_i32
  ![v20.toNat, 1920, v31.toNat]
@[reducible] def k0_t9_loop : Scf.Loop 32 :=
  let c0_i32_126 : BitVec 32 := 0#32
  let c128_i32_127 : BitVec 32 := 128#32
  let v426 : BitVec 32 := Scalar.addi c0_i32_126 c128_i32_127
  let c1_i32_128 : BitVec 32 := 1#32
  ⟨c0_i32_126, v426, c1_i32_128⟩

def k0_chk8 (v1382 : IVec S16 32) : Prop :=
  (∀ a x, ((![v1382] : Fin 1 → IVec S16 32) a x).toNat < S1024.size a)
theorem k0_idx8_inb : ∀ (v1382 : IVec S16 32) (k0_hw8 : k0_chk8 v1382), ∀ a x, ((![v1382] : Fin 1 → IVec S16 32) a x).toNat < S1024.size a := fun v1382 k0_hw8 => k0_hw8
def k0_off109 (k0_t9 : Fin k0_t9_loop.trips) : Fin 2 → Nat :=
  let c0_i32_126 : BitVec 32 := 0#32
  let c1_i32_128 : BitVec 32 := 1#32
  let arg18 : BitVec 32 := Scf.iv c0_i32_126 c1_i32_128 k0_t9
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_505 : Index := 0#32
  ![v1384.toNat, 0]
def k0_off110 (k0_t9 : Fin k0_t9_loop.trips) : Fin 2 → Nat :=
  let c0_i32_126 : BitVec 32 := 0#32
  let c1_i32_128 : BitVec 32 := 1#32
  let arg18 : BitVec 32 := Scf.iv c0_i32_126 c1_i32_128 k0_t9
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_506 : Index := 16#32
  ![v1388.toNat, 16]
def k0_off111 (k0_t9 : Fin k0_t9_loop.trips) : Fin 2 → Nat :=
  let c0_i32_126 : BitVec 32 := 0#32
  let c1_i32_128 : BitVec 32 := 1#32
  let arg18 : BitVec 32 := Scf.iv c0_i32_126 c1_i32_128 k0_t9
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_507 : Index := 32#32
  ![v1392.toNat, 32]
def k0_off112 (k0_t9 : Fin k0_t9_loop.trips) : Fin 2 → Nat :=
  let c0_i32_126 : BitVec 32 := 0#32
  let c1_i32_128 : BitVec 32 := 1#32
  let arg18 : BitVec 32 := Scf.iv c0_i32_126 c1_i32_128 k0_t9
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_508 : Index := 48#32
  ![v1396.toNat, 48]
def k0_off113 (k0_t9 : Fin k0_t9_loop.trips) : Fin 2 → Nat :=
  let c0_i32_126 : BitVec 32 := 0#32
  let c1_i32_128 : BitVec 32 := 1#32
  let arg18 : BitVec 32 := Scf.iv c0_i32_126 c1_i32_128 k0_t9
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_509 : Index := 64#32
  ![v1400.toNat, 64]
def k0_off114 (k0_t9 : Fin k0_t9_loop.trips) : Fin 2 → Nat :=
  let c0_i32_126 : BitVec 32 := 0#32
  let c1_i32_128 : BitVec 32 := 1#32
  let arg18 : BitVec 32 := Scf.iv c0_i32_126 c1_i32_128 k0_t9
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_510 : Index := 80#32
  ![v1404.toNat, 80]
def k0_off115 (k0_t9 : Fin k0_t9_loop.trips) : Fin 2 → Nat :=
  let c0_i32_126 : BitVec 32 := 0#32
  let c1_i32_128 : BitVec 32 := 1#32
  let arg18 : BitVec 32 := Scf.iv c0_i32_126 c1_i32_128 k0_t9
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_511 : Index := 96#32
  ![v1408.toNat, 96]
def k0_off116 (k0_t9 : Fin k0_t9_loop.trips) : Fin 2 → Nat :=
  let c0_i32_126 : BitVec 32 := 0#32
  let c1_i32_128 : BitVec 32 := 1#32
  let arg18 : BitVec 32 := Scf.iv c0_i32_126 c1_i32_128 k0_t9
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_512 : Index := 112#32
  ![v1412.toNat, 112]
def k0_off117 (k0_t9 : Fin k0_t9_loop.trips) : Fin 2 → Nat :=
  let c0_i32_126 : BitVec 32 := 0#32
  let c1_i32_128 : BitVec 32 := 1#32
  let arg18 : BitVec 32 := Scf.iv c0_i32_126 c1_i32_128 k0_t9
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_513 : Index := 128#32
  ![v1416.toNat, 128]
def k0_off118 (k0_t9 : Fin k0_t9_loop.trips) : Fin 2 → Nat :=
  let c0_i32_126 : BitVec 32 := 0#32
  let c1_i32_128 : BitVec 32 := 1#32
  let arg18 : BitVec 32 := Scf.iv c0_i32_126 c1_i32_128 k0_t9
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_514 : Index := 144#32
  ![v1420.toNat, 144]
def k0_off119 (k0_t9 : Fin k0_t9_loop.trips) : Fin 2 → Nat :=
  let c0_i32_126 : BitVec 32 := 0#32
  let c1_i32_128 : BitVec 32 := 1#32
  let arg18 : BitVec 32 := Scf.iv c0_i32_126 c1_i32_128 k0_t9
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_515 : Index := 160#32
  ![v1424.toNat, 160]
def k0_off120 (k0_t9 : Fin k0_t9_loop.trips) : Fin 2 → Nat :=
  let c0_i32_126 : BitVec 32 := 0#32
  let c1_i32_128 : BitVec 32 := 1#32
  let arg18 : BitVec 32 := Scf.iv c0_i32_126 c1_i32_128 k0_t9
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_516 : Index := 176#32
  ![v1428.toNat, 176]
def k0_off121 (k0_t9 : Fin k0_t9_loop.trips) : Fin 2 → Nat :=
  let c0_i32_126 : BitVec 32 := 0#32
  let c1_i32_128 : BitVec 32 := 1#32
  let arg18 : BitVec 32 := Scf.iv c0_i32_126 c1_i32_128 k0_t9
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_517 : Index := 192#32
  ![v1432.toNat, 192]
def k0_off122 (k0_t9 : Fin k0_t9_loop.trips) : Fin 2 → Nat :=
  let c0_i32_126 : BitVec 32 := 0#32
  let c1_i32_128 : BitVec 32 := 1#32
  let arg18 : BitVec 32 := Scf.iv c0_i32_126 c1_i32_128 k0_t9
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_518 : Index := 208#32
  ![v1436.toNat, 208]
def k0_off123 (k0_t9 : Fin k0_t9_loop.trips) : Fin 2 → Nat :=
  let c0_i32_126 : BitVec 32 := 0#32
  let c1_i32_128 : BitVec 32 := 1#32
  let arg18 : BitVec 32 := Scf.iv c0_i32_126 c1_i32_128 k0_t9
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_519 : Index := 224#32
  ![v1440.toNat, 224]
def k0_off124 (k0_t9 : Fin k0_t9_loop.trips) : Fin 2 → Nat :=
  let c0_i32_126 : BitVec 32 := 0#32
  let c1_i32_128 : BitVec 32 := 1#32
  let arg18 : BitVec 32 := Scf.iv c0_i32_126 c1_i32_128 k0_t9
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_520 : Index := 240#32
  ![v1444.toNat, 240]
@[reducible] def k0_t10_loop : Scf.Loop 32 :=
  let c0_i32_132 : BitVec 32 := 0#32
  let c128_i32_133 : BitVec 32 := 128#32
  let v432 : BitVec 32 := Scalar.addi c0_i32_132 c128_i32_133
  let c1_i32_134 : BitVec 32 := 1#32
  ⟨c0_i32_132, v432, c1_i32_134⟩

def k0_chk9 (v1382 : IVec S16 32) : Prop :=
  (∀ a x, ((![v1382] : Fin 1 → IVec S16 32) a x).toNat < S1024.size a)
theorem k0_idx9_inb : ∀ (v1382 : IVec S16 32) (k0_hw9 : k0_chk9 v1382), ∀ a x, ((![v1382] : Fin 1 → IVec S16 32) a x).toNat < S1024.size a := fun v1382 k0_hw9 => k0_hw9
def k0_off125 (k0_t10 : Fin k0_t10_loop.trips) : Fin 2 → Nat :=
  let c0_i32_132 : BitVec 32 := 0#32
  let c1_i32_134 : BitVec 32 := 1#32
  let arg18 : BitVec 32 := Scf.iv c0_i32_132 c1_i32_134 k0_t10
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_505 : Index := 0#32
  ![v1384.toNat, 0]
def k0_off126 (k0_t10 : Fin k0_t10_loop.trips) : Fin 2 → Nat :=
  let c0_i32_132 : BitVec 32 := 0#32
  let c1_i32_134 : BitVec 32 := 1#32
  let arg18 : BitVec 32 := Scf.iv c0_i32_132 c1_i32_134 k0_t10
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_506 : Index := 16#32
  ![v1388.toNat, 16]
def k0_off127 (k0_t10 : Fin k0_t10_loop.trips) : Fin 2 → Nat :=
  let c0_i32_132 : BitVec 32 := 0#32
  let c1_i32_134 : BitVec 32 := 1#32
  let arg18 : BitVec 32 := Scf.iv c0_i32_132 c1_i32_134 k0_t10
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_507 : Index := 32#32
  ![v1392.toNat, 32]
def k0_off128 (k0_t10 : Fin k0_t10_loop.trips) : Fin 2 → Nat :=
  let c0_i32_132 : BitVec 32 := 0#32
  let c1_i32_134 : BitVec 32 := 1#32
  let arg18 : BitVec 32 := Scf.iv c0_i32_132 c1_i32_134 k0_t10
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_508 : Index := 48#32
  ![v1396.toNat, 48]
def k0_off129 (k0_t10 : Fin k0_t10_loop.trips) : Fin 2 → Nat :=
  let c0_i32_132 : BitVec 32 := 0#32
  let c1_i32_134 : BitVec 32 := 1#32
  let arg18 : BitVec 32 := Scf.iv c0_i32_132 c1_i32_134 k0_t10
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_509 : Index := 64#32
  ![v1400.toNat, 64]
def k0_off130 (k0_t10 : Fin k0_t10_loop.trips) : Fin 2 → Nat :=
  let c0_i32_132 : BitVec 32 := 0#32
  let c1_i32_134 : BitVec 32 := 1#32
  let arg18 : BitVec 32 := Scf.iv c0_i32_132 c1_i32_134 k0_t10
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_510 : Index := 80#32
  ![v1404.toNat, 80]
def k0_off131 (k0_t10 : Fin k0_t10_loop.trips) : Fin 2 → Nat :=
  let c0_i32_132 : BitVec 32 := 0#32
  let c1_i32_134 : BitVec 32 := 1#32
  let arg18 : BitVec 32 := Scf.iv c0_i32_132 c1_i32_134 k0_t10
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_511 : Index := 96#32
  ![v1408.toNat, 96]
def k0_off132 (k0_t10 : Fin k0_t10_loop.trips) : Fin 2 → Nat :=
  let c0_i32_132 : BitVec 32 := 0#32
  let c1_i32_134 : BitVec 32 := 1#32
  let arg18 : BitVec 32 := Scf.iv c0_i32_132 c1_i32_134 k0_t10
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_512 : Index := 112#32
  ![v1412.toNat, 112]
def k0_off133 (k0_t10 : Fin k0_t10_loop.trips) : Fin 2 → Nat :=
  let c0_i32_132 : BitVec 32 := 0#32
  let c1_i32_134 : BitVec 32 := 1#32
  let arg18 : BitVec 32 := Scf.iv c0_i32_132 c1_i32_134 k0_t10
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_513 : Index := 128#32
  ![v1416.toNat, 128]
def k0_off134 (k0_t10 : Fin k0_t10_loop.trips) : Fin 2 → Nat :=
  let c0_i32_132 : BitVec 32 := 0#32
  let c1_i32_134 : BitVec 32 := 1#32
  let arg18 : BitVec 32 := Scf.iv c0_i32_132 c1_i32_134 k0_t10
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_514 : Index := 144#32
  ![v1420.toNat, 144]
def k0_off135 (k0_t10 : Fin k0_t10_loop.trips) : Fin 2 → Nat :=
  let c0_i32_132 : BitVec 32 := 0#32
  let c1_i32_134 : BitVec 32 := 1#32
  let arg18 : BitVec 32 := Scf.iv c0_i32_132 c1_i32_134 k0_t10
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_515 : Index := 160#32
  ![v1424.toNat, 160]
def k0_off136 (k0_t10 : Fin k0_t10_loop.trips) : Fin 2 → Nat :=
  let c0_i32_132 : BitVec 32 := 0#32
  let c1_i32_134 : BitVec 32 := 1#32
  let arg18 : BitVec 32 := Scf.iv c0_i32_132 c1_i32_134 k0_t10
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_516 : Index := 176#32
  ![v1428.toNat, 176]
def k0_off137 (k0_t10 : Fin k0_t10_loop.trips) : Fin 2 → Nat :=
  let c0_i32_132 : BitVec 32 := 0#32
  let c1_i32_134 : BitVec 32 := 1#32
  let arg18 : BitVec 32 := Scf.iv c0_i32_132 c1_i32_134 k0_t10
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_517 : Index := 192#32
  ![v1432.toNat, 192]
def k0_off138 (k0_t10 : Fin k0_t10_loop.trips) : Fin 2 → Nat :=
  let c0_i32_132 : BitVec 32 := 0#32
  let c1_i32_134 : BitVec 32 := 1#32
  let arg18 : BitVec 32 := Scf.iv c0_i32_132 c1_i32_134 k0_t10
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_518 : Index := 208#32
  ![v1436.toNat, 208]
def k0_off139 (k0_t10 : Fin k0_t10_loop.trips) : Fin 2 → Nat :=
  let c0_i32_132 : BitVec 32 := 0#32
  let c1_i32_134 : BitVec 32 := 1#32
  let arg18 : BitVec 32 := Scf.iv c0_i32_132 c1_i32_134 k0_t10
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_519 : Index := 224#32
  ![v1440.toNat, 224]
def k0_off140 (k0_t10 : Fin k0_t10_loop.trips) : Fin 2 → Nat :=
  let c0_i32_132 : BitVec 32 := 0#32
  let c1_i32_134 : BitVec 32 := 1#32
  let arg18 : BitVec 32 := Scf.iv c0_i32_132 c1_i32_134 k0_t10
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_520 : Index := 240#32
  ![v1444.toNat, 240]
def k0_off141 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let c0_i32 : BitVec 32 := 0#32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c256_i32 : BitVec 32 := 256#32
  let v31 : BitVec 32 := Scalar.muli v30 c256_i32
  ![v20.toNat, v31.toNat]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let c0_i32 : BitVec 32 := 0#32
  let v3 : BitVec 32 := Scalar.addi v2 c0_i32
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c256_i32 : BitVec 32 := 256#32
  let v31 : BitVec 32 := Scalar.muli v30 c256_i32
  let c0_i32_137 : BitVec 32 := 0#32
  let v458 : BitVec 1 := Scalar.cmpi .eq v31 c0_i32_137
  let v459 : BitVec 32 := Scalar.extui v458
  let c0_i32_138 : BitVec 32 := 0#32
  let v460 : BitVec 1 := Scalar.cmpi .ne v459 c0_i32_138
  v460

def k0_off142 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let c0_i32 : BitVec 32 := 0#32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c0_i32_504 : BitVec 32 := 0#32
  ![v20.toNat, 0]
def k0_off143 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_139 : BitVec 32 := 3#32
  let v461 : BitVec 32 := Scalar.muli v1 c3_i32_139
  let c1_i32_140 : BitVec 32 := 1#32
  let v462 : BitVec 32 := Scalar.addi v461 c1_i32_140
  let c0_i32_142 : BitVec 32 := 0#32
  let v464 : BitVec 1 := Scalar.cmpi .sgt v462 c0_i32_142
  let v465 : BitVec 32 := Scalar.extui v464
  let c0_i32_143 : BitVec 32 := 0#32
  let v466 : BitVec 1 := Scalar.cmpi .slt v462 c0_i32_143
  let v467 : BitVec 32 := Scalar.extui v466
  let v468 : BitVec 32 := Scalar.subi v465 v467
  let c8_i32_141 : BitVec 32 := 8#32
  let c0_i32_144 : BitVec 32 := 0#32
  let v469 : BitVec 1 := Scalar.cmpi .sgt c8_i32_141 c0_i32_144
  let v470 : BitVec 32 := Scalar.extui v469
  let c0_i32_145 : BitVec 32 := 0#32
  let v471 : BitVec 1 := Scalar.cmpi .slt c8_i32_141 c0_i32_145
  let v472 : BitVec 32 := Scalar.extui v471
  let v473 : BitVec 32 := Scalar.subi v470 v472
  let v474 : BitVec 1 := Scalar.cmpi .ne v468 v473
  let v475 : BitVec 32 := Scalar.remsi v462 c8_i32_141
  let c0_i32_146 : BitVec 32 := 0#32
  let v476 : BitVec 1 := Scalar.cmpi .ne v475 c0_i32_146
  let v477 : BitVec 1 := Scalar.andi v474 v476
  let v463 : BitVec 32 := Scalar.divsi v462 c8_i32_141
  let c1_i32_147 : BitVec 32 := 1#32
  let v478 : BitVec 32 := Scalar.subi v463 c1_i32_147
  let v479 : BitVec 32 := Scalar.select v477 v478 v463
  let c1024_i32_155 : BitVec 32 := 1024#32
  ![v479.toNat, 1024]
@[reducible] def k0_t11_loop : Scf.Loop 32 :=
  let c0_i32_163 : BitVec 32 := 0#32
  let c64_i32_164 : BitVec 32 := 64#32
  let v505 : BitVec 32 := Scalar.addi c0_i32_163 c64_i32_164
  let c1_i32_165 : BitVec 32 := 1#32
  ⟨c0_i32_163, v505, c1_i32_165⟩
def k0_off144 (k0_t11 : Fin k0_t11_loop.trips) : Fin 1 → Nat :=
  let c0_i32_163 : BitVec 32 := 0#32
  let c1_i32_165 : BitVec 32 := 1#32
  let arg18 : BitVec 32 := Scf.iv c0_i32_163 c1_i32_165 k0_t11
  let c16_i32 : BitVec 32 := 16#32
  let v1379 : BitVec 32 := Scalar.muli arg18 c16_i32
  let v1380 : Index := Scalar.indexCast v1379
  ![v1380.toNat]

def k0_chk10 (v632 : IVec S16 32) : Prop :=
  (∀ a x, ((![v632] : Fin 1 → IVec S16 32) a x).toNat < S256.size a)
theorem k0_idx10_inb : ∀ (v632 : IVec S16 32) (k0_hw10 : k0_chk10 v632), ∀ a x, ((![v632] : Fin 1 → IVec S16 32) a x).toNat < S256.size a := fun v632 k0_hw10 => k0_hw10
@[reducible] def k0_t12_loop : Scf.Loop 32 :=
  let c0_i32_221 : BitVec 32 := 0#32
  let c64_i32_222 : BitVec 32 := 64#32
  let v799 : BitVec 32 := Scalar.addi c0_i32_221 c64_i32_222
  let c1_i32_223 : BitVec 32 := 1#32
  ⟨c0_i32_221, v799, c1_i32_223⟩
def k0_off145 (k0_t12 : Fin k0_t12_loop.trips) : Fin 1 → Nat :=
  let c0_i32_221 : BitVec 32 := 0#32
  let c1_i32_223 : BitVec 32 := 1#32
  let arg18 : BitVec 32 := Scf.iv c0_i32_221 c1_i32_223 k0_t12
  let c16_i32 : BitVec 32 := 16#32
  let v1379 : BitVec 32 := Scalar.muli arg18 c16_i32
  let v1380 : Index := Scalar.indexCast v1379
  ![v1380.toNat]
def k0_off146 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_139 : BitVec 32 := 3#32
  let v461 : BitVec 32 := Scalar.muli v1 c3_i32_139
  let c1_i32_140 : BitVec 32 := 1#32
  let v462 : BitVec 32 := Scalar.addi v461 c1_i32_140
  let c0_i32_142 : BitVec 32 := 0#32
  let v464 : BitVec 1 := Scalar.cmpi .sgt v462 c0_i32_142
  let v465 : BitVec 32 := Scalar.extui v464
  let c0_i32_143 : BitVec 32 := 0#32
  let v466 : BitVec 1 := Scalar.cmpi .slt v462 c0_i32_143
  let v467 : BitVec 32 := Scalar.extui v466
  let v468 : BitVec 32 := Scalar.subi v465 v467
  let c8_i32_141 : BitVec 32 := 8#32
  let c0_i32_144 : BitVec 32 := 0#32
  let v469 : BitVec 1 := Scalar.cmpi .sgt c8_i32_141 c0_i32_144
  let v470 : BitVec 32 := Scalar.extui v469
  let c0_i32_145 : BitVec 32 := 0#32
  let v471 : BitVec 1 := Scalar.cmpi .slt c8_i32_141 c0_i32_145
  let v472 : BitVec 32 := Scalar.extui v471
  let v473 : BitVec 32 := Scalar.subi v470 v472
  let v474 : BitVec 1 := Scalar.cmpi .ne v468 v473
  let v475 : BitVec 32 := Scalar.remsi v462 c8_i32_141
  let c0_i32_146 : BitVec 32 := 0#32
  let v476 : BitVec 1 := Scalar.cmpi .ne v475 c0_i32_146
  let v477 : BitVec 1 := Scalar.andi v474 v476
  let v463 : BitVec 32 := Scalar.divsi v462 c8_i32_141
  let c1_i32_147 : BitVec 32 := 1#32
  let v478 : BitVec 32 := Scalar.subi v463 c1_i32_147
  let v479 : BitVec 32 := Scalar.select v477 v478 v463
  let c1152_i32_241 : BitVec 32 := 1152#32
  let c8_i32_148 : BitVec 32 := 8#32
  let c0_i32_149 : BitVec 32 := 0#32
  let v480 : BitVec 1 := Scalar.cmpi .eq c8_i32_148 c0_i32_149
  let c1_i32_150 : BitVec 32 := 1#32
  let v481 : BitVec 32 := Scalar.select v480 c1_i32_150 c8_i32_148
  let v482 : BitVec 32 := Scalar.remsi v462 v481
  let c0_i32_152 : BitVec 32 := 0#32
  let v484 : BitVec 1 := Scalar.cmpi .slt v482 c0_i32_152
  let c0_i32_153 : BitVec 32 := 0#32
  let v485 : BitVec 1 := Scalar.cmpi .slt v481 c0_i32_153
  let v486 : BitVec 1 := Scalar.xori v484 v485
  let c0_i32_151 : BitVec 32 := 0#32
  let v483 : BitVec 1 := Scalar.cmpi .ne v482 c0_i32_151
  let v487 : BitVec 1 := Scalar.andi v486 v483
  let v488 : BitVec 32 := Scalar.addi v482 v481
  let v489 : BitVec 32 := Scalar.select v487 v488 v482
  let c256_i32_154 : BitVec 32 := 256#32
  let v490 : BitVec 32 := Scalar.muli v489 c256_i32_154
  ![v479.toNat, 1152, v490.toNat]
def k0_off147 (i : grid0.Coords) (c1_i32_140 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_139 : BitVec 32 := 3#32
  let v461 : BitVec 32 := Scalar.muli v1 c3_i32_139
  let v462 : BitVec 32 := Scalar.addi v461 c1_i32_140
  let c0_i32_142 : BitVec 32 := 0#32
  let v464 : BitVec 1 := Scalar.cmpi .sgt v462 c0_i32_142
  let v465 : BitVec 32 := Scalar.extui v464
  let c0_i32_143 : BitVec 32 := 0#32
  let v466 : BitVec 1 := Scalar.cmpi .slt v462 c0_i32_143
  let v467 : BitVec 32 := Scalar.extui v466
  let v468 : BitVec 32 := Scalar.subi v465 v467
  let c8_i32_141 : BitVec 32 := 8#32
  let c0_i32_144 : BitVec 32 := 0#32
  let v469 : BitVec 1 := Scalar.cmpi .sgt c8_i32_141 c0_i32_144
  let v470 : BitVec 32 := Scalar.extui v469
  let c0_i32_145 : BitVec 32 := 0#32
  let v471 : BitVec 1 := Scalar.cmpi .slt c8_i32_141 c0_i32_145
  let v472 : BitVec 32 := Scalar.extui v471
  let v473 : BitVec 32 := Scalar.subi v470 v472
  let v474 : BitVec 1 := Scalar.cmpi .ne v468 v473
  let v475 : BitVec 32 := Scalar.remsi v462 c8_i32_141
  let c0_i32_146 : BitVec 32 := 0#32
  let v476 : BitVec 1 := Scalar.cmpi .ne v475 c0_i32_146
  let v477 : BitVec 1 := Scalar.andi v474 v476
  let v463 : BitVec 32 := Scalar.divsi v462 c8_i32_141
  let c1_i32_147 : BitVec 32 := 1#32
  let v478 : BitVec 32 := Scalar.subi v463 c1_i32_147
  let v479 : BitVec 32 := Scalar.select v477 v478 v463
  let c1024_i32_243 : BitVec 32 := 1024#32
  let c8_i32_148 : BitVec 32 := 8#32
  let c0_i32_149 : BitVec 32 := 0#32
  let v480 : BitVec 1 := Scalar.cmpi .eq c8_i32_148 c0_i32_149
  let c1_i32_150 : BitVec 32 := 1#32
  let v481 : BitVec 32 := Scalar.select v480 c1_i32_150 c8_i32_148
  let v482 : BitVec 32 := Scalar.remsi v462 v481
  let c0_i32_152 : BitVec 32 := 0#32
  let v484 : BitVec 1 := Scalar.cmpi .slt v482 c0_i32_152
  let c0_i32_153 : BitVec 32 := 0#32
  let v485 : BitVec 1 := Scalar.cmpi .slt v481 c0_i32_153
  let v486 : BitVec 1 := Scalar.xori v484 v485
  let c0_i32_151 : BitVec 32 := 0#32
  let v483 : BitVec 1 := Scalar.cmpi .ne v482 c0_i32_151
  let v487 : BitVec 1 := Scalar.andi v486 v483
  let v488 : BitVec 32 := Scalar.addi v482 v481
  let v489 : BitVec 32 := Scalar.select v487 v488 v482
  let c256_i32_154 : BitVec 32 := 256#32
  let v490 : BitVec 32 := Scalar.muli v489 c256_i32_154
  ![v479.toNat, 1024, v490.toNat]
@[reducible] def k0_t13_loop : Scf.Loop 32 :=
  let c0_i32_245 : BitVec 32 := 0#32
  let c128_i32_246 : BitVec 32 := 128#32
  let v825 : BitVec 32 := Scalar.addi c0_i32_245 c128_i32_246
  let c1_i32_247 : BitVec 32 := 1#32
  ⟨c0_i32_245, v825, c1_i32_247⟩

def k0_chk11 (v1382 : IVec S16 32) : Prop :=
  (∀ a x, ((![v1382] : Fin 1 → IVec S16 32) a x).toNat < S1024.size a)
theorem k0_idx11_inb : ∀ (v1382 : IVec S16 32) (k0_hw11 : k0_chk11 v1382), ∀ a x, ((![v1382] : Fin 1 → IVec S16 32) a x).toNat < S1024.size a := fun v1382 k0_hw11 => k0_hw11
def k0_off148 (k0_t13 : Fin k0_t13_loop.trips) : Fin 2 → Nat :=
  let c0_i32_245 : BitVec 32 := 0#32
  let c1_i32_247 : BitVec 32 := 1#32
  let arg18 : BitVec 32 := Scf.iv c0_i32_245 c1_i32_247 k0_t13
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_506 : Index := 0#32
  ![v1384.toNat, 0]
def k0_off149 (k0_t13 : Fin k0_t13_loop.trips) : Fin 2 → Nat :=
  let c0_i32_245 : BitVec 32 := 0#32
  let c1_i32_247 : BitVec 32 := 1#32
  let arg18 : BitVec 32 := Scf.iv c0_i32_245 c1_i32_247 k0_t13
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_507 : Index := 16#32
  ![v1388.toNat, 16]
def k0_off150 (k0_t13 : Fin k0_t13_loop.trips) : Fin 2 → Nat :=
  let c0_i32_245 : BitVec 32 := 0#32
  let c1_i32_247 : BitVec 32 := 1#32
  let arg18 : BitVec 32 := Scf.iv c0_i32_245 c1_i32_247 k0_t13
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_508 : Index := 32#32
  ![v1392.toNat, 32]
def k0_off151 (k0_t13 : Fin k0_t13_loop.trips) : Fin 2 → Nat :=
  let c0_i32_245 : BitVec 32 := 0#32
  let c1_i32_247 : BitVec 32 := 1#32
  let arg18 : BitVec 32 := Scf.iv c0_i32_245 c1_i32_247 k0_t13
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_509 : Index := 48#32
  ![v1396.toNat, 48]
def k0_off152 (k0_t13 : Fin k0_t13_loop.trips) : Fin 2 → Nat :=
  let c0_i32_245 : BitVec 32 := 0#32
  let c1_i32_247 : BitVec 32 := 1#32
  let arg18 : BitVec 32 := Scf.iv c0_i32_245 c1_i32_247 k0_t13
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_510 : Index := 64#32
  ![v1400.toNat, 64]
def k0_off153 (k0_t13 : Fin k0_t13_loop.trips) : Fin 2 → Nat :=
  let c0_i32_245 : BitVec 32 := 0#32
  let c1_i32_247 : BitVec 32 := 1#32
  let arg18 : BitVec 32 := Scf.iv c0_i32_245 c1_i32_247 k0_t13
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_511 : Index := 80#32
  ![v1404.toNat, 80]
def k0_off154 (k0_t13 : Fin k0_t13_loop.trips) : Fin 2 → Nat :=
  let c0_i32_245 : BitVec 32 := 0#32
  let c1_i32_247 : BitVec 32 := 1#32
  let arg18 : BitVec 32 := Scf.iv c0_i32_245 c1_i32_247 k0_t13
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_512 : Index := 96#32
  ![v1408.toNat, 96]
def k0_off155 (k0_t13 : Fin k0_t13_loop.trips) : Fin 2 → Nat :=
  let c0_i32_245 : BitVec 32 := 0#32
  let c1_i32_247 : BitVec 32 := 1#32
  let arg18 : BitVec 32 := Scf.iv c0_i32_245 c1_i32_247 k0_t13
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_513 : Index := 112#32
  ![v1412.toNat, 112]
def k0_off156 (k0_t13 : Fin k0_t13_loop.trips) : Fin 2 → Nat :=
  let c0_i32_245 : BitVec 32 := 0#32
  let c1_i32_247 : BitVec 32 := 1#32
  let arg18 : BitVec 32 := Scf.iv c0_i32_245 c1_i32_247 k0_t13
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_514 : Index := 128#32
  ![v1416.toNat, 128]
def k0_off157 (k0_t13 : Fin k0_t13_loop.trips) : Fin 2 → Nat :=
  let c0_i32_245 : BitVec 32 := 0#32
  let c1_i32_247 : BitVec 32 := 1#32
  let arg18 : BitVec 32 := Scf.iv c0_i32_245 c1_i32_247 k0_t13
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_515 : Index := 144#32
  ![v1420.toNat, 144]
def k0_off158 (k0_t13 : Fin k0_t13_loop.trips) : Fin 2 → Nat :=
  let c0_i32_245 : BitVec 32 := 0#32
  let c1_i32_247 : BitVec 32 := 1#32
  let arg18 : BitVec 32 := Scf.iv c0_i32_245 c1_i32_247 k0_t13
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_516 : Index := 160#32
  ![v1424.toNat, 160]
def k0_off159 (k0_t13 : Fin k0_t13_loop.trips) : Fin 2 → Nat :=
  let c0_i32_245 : BitVec 32 := 0#32
  let c1_i32_247 : BitVec 32 := 1#32
  let arg18 : BitVec 32 := Scf.iv c0_i32_245 c1_i32_247 k0_t13
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_517 : Index := 176#32
  ![v1428.toNat, 176]
def k0_off160 (k0_t13 : Fin k0_t13_loop.trips) : Fin 2 → Nat :=
  let c0_i32_245 : BitVec 32 := 0#32
  let c1_i32_247 : BitVec 32 := 1#32
  let arg18 : BitVec 32 := Scf.iv c0_i32_245 c1_i32_247 k0_t13
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_518 : Index := 192#32
  ![v1432.toNat, 192]
def k0_off161 (k0_t13 : Fin k0_t13_loop.trips) : Fin 2 → Nat :=
  let c0_i32_245 : BitVec 32 := 0#32
  let c1_i32_247 : BitVec 32 := 1#32
  let arg18 : BitVec 32 := Scf.iv c0_i32_245 c1_i32_247 k0_t13
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_519 : Index := 208#32
  ![v1436.toNat, 208]
def k0_off162 (k0_t13 : Fin k0_t13_loop.trips) : Fin 2 → Nat :=
  let c0_i32_245 : BitVec 32 := 0#32
  let c1_i32_247 : BitVec 32 := 1#32
  let arg18 : BitVec 32 := Scf.iv c0_i32_245 c1_i32_247 k0_t13
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_520 : Index := 224#32
  ![v1440.toNat, 224]
def k0_off163 (k0_t13 : Fin k0_t13_loop.trips) : Fin 2 → Nat :=
  let c0_i32_245 : BitVec 32 := 0#32
  let c1_i32_247 : BitVec 32 := 1#32
  let arg18 : BitVec 32 := Scf.iv c0_i32_245 c1_i32_247 k0_t13
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_521 : Index := 240#32
  ![v1444.toNat, 240]
def k0_off164 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_139 : BitVec 32 := 3#32
  let v461 : BitVec 32 := Scalar.muli v1 c3_i32_139
  let c1_i32_140 : BitVec 32 := 1#32
  let v462 : BitVec 32 := Scalar.addi v461 c1_i32_140
  let c0_i32_142 : BitVec 32 := 0#32
  let v464 : BitVec 1 := Scalar.cmpi .sgt v462 c0_i32_142
  let v465 : BitVec 32 := Scalar.extui v464
  let c0_i32_143 : BitVec 32 := 0#32
  let v466 : BitVec 1 := Scalar.cmpi .slt v462 c0_i32_143
  let v467 : BitVec 32 := Scalar.extui v466
  let v468 : BitVec 32 := Scalar.subi v465 v467
  let c8_i32_141 : BitVec 32 := 8#32
  let c0_i32_144 : BitVec 32 := 0#32
  let v469 : BitVec 1 := Scalar.cmpi .sgt c8_i32_141 c0_i32_144
  let v470 : BitVec 32 := Scalar.extui v469
  let c0_i32_145 : BitVec 32 := 0#32
  let v471 : BitVec 1 := Scalar.cmpi .slt c8_i32_141 c0_i32_145
  let v472 : BitVec 32 := Scalar.extui v471
  let v473 : BitVec 32 := Scalar.subi v470 v472
  let v474 : BitVec 1 := Scalar.cmpi .ne v468 v473
  let v475 : BitVec 32 := Scalar.remsi v462 c8_i32_141
  let c0_i32_146 : BitVec 32 := 0#32
  let v476 : BitVec 1 := Scalar.cmpi .ne v475 c0_i32_146
  let v477 : BitVec 1 := Scalar.andi v474 v476
  let v463 : BitVec 32 := Scalar.divsi v462 c8_i32_141
  let c1_i32_147 : BitVec 32 := 1#32
  let v478 : BitVec 32 := Scalar.subi v463 c1_i32_147
  let v479 : BitVec 32 := Scalar.select v477 v478 v463
  let c1280_i32_249 : BitVec 32 := 1280#32
  let c8_i32_148 : BitVec 32 := 8#32
  let c0_i32_149 : BitVec 32 := 0#32
  let v480 : BitVec 1 := Scalar.cmpi .eq c8_i32_148 c0_i32_149
  let c1_i32_150 : BitVec 32 := 1#32
  let v481 : BitVec 32 := Scalar.select v480 c1_i32_150 c8_i32_148
  let v482 : BitVec 32 := Scalar.remsi v462 v481
  let c0_i32_152 : BitVec 32 := 0#32
  let v484 : BitVec 1 := Scalar.cmpi .slt v482 c0_i32_152
  let c0_i32_153 : BitVec 32 := 0#32
  let v485 : BitVec 1 := Scalar.cmpi .slt v481 c0_i32_153
  let v486 : BitVec 1 := Scalar.xori v484 v485
  let c0_i32_151 : BitVec 32 := 0#32
  let v483 : BitVec 1 := Scalar.cmpi .ne v482 c0_i32_151
  let v487 : BitVec 1 := Scalar.andi v486 v483
  let v488 : BitVec 32 := Scalar.addi v482 v481
  let v489 : BitVec 32 := Scalar.select v487 v488 v482
  let c256_i32_154 : BitVec 32 := 256#32
  let v490 : BitVec 32 := Scalar.muli v489 c256_i32_154
  ![v479.toNat, 1280, v490.toNat]
@[reducible] def k0_t14_loop : Scf.Loop 32 :=
  let c0_i32_253 : BitVec 32 := 0#32
  let c128_i32_254 : BitVec 32 := 128#32
  let v835 : BitVec 32 := Scalar.addi c0_i32_253 c128_i32_254
  let c1_i32_255 : BitVec 32 := 1#32
  ⟨c0_i32_253, v835, c1_i32_255⟩

def k0_chk12 (v1382 : IVec S16 32) : Prop :=
  (∀ a x, ((![v1382] : Fin 1 → IVec S16 32) a x).toNat < S1024.size a)
theorem k0_idx12_inb : ∀ (v1382 : IVec S16 32) (k0_hw12 : k0_chk12 v1382), ∀ a x, ((![v1382] : Fin 1 → IVec S16 32) a x).toNat < S1024.size a := fun v1382 k0_hw12 => k0_hw12
def k0_off165 (k0_t14 : Fin k0_t14_loop.trips) : Fin 2 → Nat :=
  let c0_i32_253 : BitVec 32 := 0#32
  let c1_i32_255 : BitVec 32 := 1#32
  let arg18 : BitVec 32 := Scf.iv c0_i32_253 c1_i32_255 k0_t14
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_506 : Index := 0#32
  ![v1384.toNat, 0]
def k0_off166 (k0_t14 : Fin k0_t14_loop.trips) : Fin 2 → Nat :=
  let c0_i32_253 : BitVec 32 := 0#32
  let c1_i32_255 : BitVec 32 := 1#32
  let arg18 : BitVec 32 := Scf.iv c0_i32_253 c1_i32_255 k0_t14
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_507 : Index := 16#32
  ![v1388.toNat, 16]
def k0_off167 (k0_t14 : Fin k0_t14_loop.trips) : Fin 2 → Nat :=
  let c0_i32_253 : BitVec 32 := 0#32
  let c1_i32_255 : BitVec 32 := 1#32
  let arg18 : BitVec 32 := Scf.iv c0_i32_253 c1_i32_255 k0_t14
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_508 : Index := 32#32
  ![v1392.toNat, 32]
def k0_off168 (k0_t14 : Fin k0_t14_loop.trips) : Fin 2 → Nat :=
  let c0_i32_253 : BitVec 32 := 0#32
  let c1_i32_255 : BitVec 32 := 1#32
  let arg18 : BitVec 32 := Scf.iv c0_i32_253 c1_i32_255 k0_t14
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_509 : Index := 48#32
  ![v1396.toNat, 48]
def k0_off169 (k0_t14 : Fin k0_t14_loop.trips) : Fin 2 → Nat :=
  let c0_i32_253 : BitVec 32 := 0#32
  let c1_i32_255 : BitVec 32 := 1#32
  let arg18 : BitVec 32 := Scf.iv c0_i32_253 c1_i32_255 k0_t14
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_510 : Index := 64#32
  ![v1400.toNat, 64]
def k0_off170 (k0_t14 : Fin k0_t14_loop.trips) : Fin 2 → Nat :=
  let c0_i32_253 : BitVec 32 := 0#32
  let c1_i32_255 : BitVec 32 := 1#32
  let arg18 : BitVec 32 := Scf.iv c0_i32_253 c1_i32_255 k0_t14
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_511 : Index := 80#32
  ![v1404.toNat, 80]
def k0_off171 (k0_t14 : Fin k0_t14_loop.trips) : Fin 2 → Nat :=
  let c0_i32_253 : BitVec 32 := 0#32
  let c1_i32_255 : BitVec 32 := 1#32
  let arg18 : BitVec 32 := Scf.iv c0_i32_253 c1_i32_255 k0_t14
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_512 : Index := 96#32
  ![v1408.toNat, 96]
def k0_off172 (k0_t14 : Fin k0_t14_loop.trips) : Fin 2 → Nat :=
  let c0_i32_253 : BitVec 32 := 0#32
  let c1_i32_255 : BitVec 32 := 1#32
  let arg18 : BitVec 32 := Scf.iv c0_i32_253 c1_i32_255 k0_t14
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_513 : Index := 112#32
  ![v1412.toNat, 112]
def k0_off173 (k0_t14 : Fin k0_t14_loop.trips) : Fin 2 → Nat :=
  let c0_i32_253 : BitVec 32 := 0#32
  let c1_i32_255 : BitVec 32 := 1#32
  let arg18 : BitVec 32 := Scf.iv c0_i32_253 c1_i32_255 k0_t14
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_514 : Index := 128#32
  ![v1416.toNat, 128]
def k0_off174 (k0_t14 : Fin k0_t14_loop.trips) : Fin 2 → Nat :=
  let c0_i32_253 : BitVec 32 := 0#32
  let c1_i32_255 : BitVec 32 := 1#32
  let arg18 : BitVec 32 := Scf.iv c0_i32_253 c1_i32_255 k0_t14
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_515 : Index := 144#32
  ![v1420.toNat, 144]
def k0_off175 (k0_t14 : Fin k0_t14_loop.trips) : Fin 2 → Nat :=
  let c0_i32_253 : BitVec 32 := 0#32
  let c1_i32_255 : BitVec 32 := 1#32
  let arg18 : BitVec 32 := Scf.iv c0_i32_253 c1_i32_255 k0_t14
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_516 : Index := 160#32
  ![v1424.toNat, 160]
def k0_off176 (k0_t14 : Fin k0_t14_loop.trips) : Fin 2 → Nat :=
  let c0_i32_253 : BitVec 32 := 0#32
  let c1_i32_255 : BitVec 32 := 1#32
  let arg18 : BitVec 32 := Scf.iv c0_i32_253 c1_i32_255 k0_t14
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_517 : Index := 176#32
  ![v1428.toNat, 176]
def k0_off177 (k0_t14 : Fin k0_t14_loop.trips) : Fin 2 → Nat :=
  let c0_i32_253 : BitVec 32 := 0#32
  let c1_i32_255 : BitVec 32 := 1#32
  let arg18 : BitVec 32 := Scf.iv c0_i32_253 c1_i32_255 k0_t14
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_518 : Index := 192#32
  ![v1432.toNat, 192]
def k0_off178 (k0_t14 : Fin k0_t14_loop.trips) : Fin 2 → Nat :=
  let c0_i32_253 : BitVec 32 := 0#32
  let c1_i32_255 : BitVec 32 := 1#32
  let arg18 : BitVec 32 := Scf.iv c0_i32_253 c1_i32_255 k0_t14
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_519 : Index := 208#32
  ![v1436.toNat, 208]
def k0_off179 (k0_t14 : Fin k0_t14_loop.trips) : Fin 2 → Nat :=
  let c0_i32_253 : BitVec 32 := 0#32
  let c1_i32_255 : BitVec 32 := 1#32
  let arg18 : BitVec 32 := Scf.iv c0_i32_253 c1_i32_255 k0_t14
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_520 : Index := 224#32
  ![v1440.toNat, 224]
def k0_off180 (k0_t14 : Fin k0_t14_loop.trips) : Fin 2 → Nat :=
  let c0_i32_253 : BitVec 32 := 0#32
  let c1_i32_255 : BitVec 32 := 1#32
  let arg18 : BitVec 32 := Scf.iv c0_i32_253 c1_i32_255 k0_t14
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_521 : Index := 240#32
  ![v1444.toNat, 240]
def k0_off181 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_139 : BitVec 32 := 3#32
  let v461 : BitVec 32 := Scalar.muli v1 c3_i32_139
  let c1_i32_140 : BitVec 32 := 1#32
  let v462 : BitVec 32 := Scalar.addi v461 c1_i32_140
  let c0_i32_142 : BitVec 32 := 0#32
  let v464 : BitVec 1 := Scalar.cmpi .sgt v462 c0_i32_142
  let v465 : BitVec 32 := Scalar.extui v464
  let c0_i32_143 : BitVec 32 := 0#32
  let v466 : BitVec 1 := Scalar.cmpi .slt v462 c0_i32_143
  let v467 : BitVec 32 := Scalar.extui v466
  let v468 : BitVec 32 := Scalar.subi v465 v467
  let c8_i32_141 : BitVec 32 := 8#32
  let c0_i32_144 : BitVec 32 := 0#32
  let v469 : BitVec 1 := Scalar.cmpi .sgt c8_i32_141 c0_i32_144
  let v470 : BitVec 32 := Scalar.extui v469
  let c0_i32_145 : BitVec 32 := 0#32
  let v471 : BitVec 1 := Scalar.cmpi .slt c8_i32_141 c0_i32_145
  let v472 : BitVec 32 := Scalar.extui v471
  let v473 : BitVec 32 := Scalar.subi v470 v472
  let v474 : BitVec 1 := Scalar.cmpi .ne v468 v473
  let v475 : BitVec 32 := Scalar.remsi v462 c8_i32_141
  let c0_i32_146 : BitVec 32 := 0#32
  let v476 : BitVec 1 := Scalar.cmpi .ne v475 c0_i32_146
  let v477 : BitVec 1 := Scalar.andi v474 v476
  let v463 : BitVec 32 := Scalar.divsi v462 c8_i32_141
  let c1_i32_147 : BitVec 32 := 1#32
  let v478 : BitVec 32 := Scalar.subi v463 c1_i32_147
  let v479 : BitVec 32 := Scalar.select v477 v478 v463
  let c1408_i32_257 : BitVec 32 := 1408#32
  let c8_i32_148 : BitVec 32 := 8#32
  let c0_i32_149 : BitVec 32 := 0#32
  let v480 : BitVec 1 := Scalar.cmpi .eq c8_i32_148 c0_i32_149
  let c1_i32_150 : BitVec 32 := 1#32
  let v481 : BitVec 32 := Scalar.select v480 c1_i32_150 c8_i32_148
  let v482 : BitVec 32 := Scalar.remsi v462 v481
  let c0_i32_152 : BitVec 32 := 0#32
  let v484 : BitVec 1 := Scalar.cmpi .slt v482 c0_i32_152
  let c0_i32_153 : BitVec 32 := 0#32
  let v485 : BitVec 1 := Scalar.cmpi .slt v481 c0_i32_153
  let v486 : BitVec 1 := Scalar.xori v484 v485
  let c0_i32_151 : BitVec 32 := 0#32
  let v483 : BitVec 1 := Scalar.cmpi .ne v482 c0_i32_151
  let v487 : BitVec 1 := Scalar.andi v486 v483
  let v488 : BitVec 32 := Scalar.addi v482 v481
  let v489 : BitVec 32 := Scalar.select v487 v488 v482
  let c256_i32_154 : BitVec 32 := 256#32
  let v490 : BitVec 32 := Scalar.muli v489 c256_i32_154
  ![v479.toNat, 1408, v490.toNat]
@[reducible] def k0_t15_loop : Scf.Loop 32 :=
  let c0_i32_261 : BitVec 32 := 0#32
  let c128_i32_262 : BitVec 32 := 128#32
  let v845 : BitVec 32 := Scalar.addi c0_i32_261 c128_i32_262
  let c1_i32_263 : BitVec 32 := 1#32
  ⟨c0_i32_261, v845, c1_i32_263⟩

def k0_chk13 (v1382 : IVec S16 32) : Prop :=
  (∀ a x, ((![v1382] : Fin 1 → IVec S16 32) a x).toNat < S1024.size a)
theorem k0_idx13_inb : ∀ (v1382 : IVec S16 32) (k0_hw13 : k0_chk13 v1382), ∀ a x, ((![v1382] : Fin 1 → IVec S16 32) a x).toNat < S1024.size a := fun v1382 k0_hw13 => k0_hw13
def k0_off182 (k0_t15 : Fin k0_t15_loop.trips) : Fin 2 → Nat :=
  let c0_i32_261 : BitVec 32 := 0#32
  let c1_i32_263 : BitVec 32 := 1#32
  let arg18 : BitVec 32 := Scf.iv c0_i32_261 c1_i32_263 k0_t15
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_506 : Index := 0#32
  ![v1384.toNat, 0]
def k0_off183 (k0_t15 : Fin k0_t15_loop.trips) : Fin 2 → Nat :=
  let c0_i32_261 : BitVec 32 := 0#32
  let c1_i32_263 : BitVec 32 := 1#32
  let arg18 : BitVec 32 := Scf.iv c0_i32_261 c1_i32_263 k0_t15
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_507 : Index := 16#32
  ![v1388.toNat, 16]
def k0_off184 (k0_t15 : Fin k0_t15_loop.trips) : Fin 2 → Nat :=
  let c0_i32_261 : BitVec 32 := 0#32
  let c1_i32_263 : BitVec 32 := 1#32
  let arg18 : BitVec 32 := Scf.iv c0_i32_261 c1_i32_263 k0_t15
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_508 : Index := 32#32
  ![v1392.toNat, 32]
def k0_off185 (k0_t15 : Fin k0_t15_loop.trips) : Fin 2 → Nat :=
  let c0_i32_261 : BitVec 32 := 0#32
  let c1_i32_263 : BitVec 32 := 1#32
  let arg18 : BitVec 32 := Scf.iv c0_i32_261 c1_i32_263 k0_t15
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_509 : Index := 48#32
  ![v1396.toNat, 48]
def k0_off186 (k0_t15 : Fin k0_t15_loop.trips) : Fin 2 → Nat :=
  let c0_i32_261 : BitVec 32 := 0#32
  let c1_i32_263 : BitVec 32 := 1#32
  let arg18 : BitVec 32 := Scf.iv c0_i32_261 c1_i32_263 k0_t15
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_510 : Index := 64#32
  ![v1400.toNat, 64]
def k0_off187 (k0_t15 : Fin k0_t15_loop.trips) : Fin 2 → Nat :=
  let c0_i32_261 : BitVec 32 := 0#32
  let c1_i32_263 : BitVec 32 := 1#32
  let arg18 : BitVec 32 := Scf.iv c0_i32_261 c1_i32_263 k0_t15
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_511 : Index := 80#32
  ![v1404.toNat, 80]
def k0_off188 (k0_t15 : Fin k0_t15_loop.trips) : Fin 2 → Nat :=
  let c0_i32_261 : BitVec 32 := 0#32
  let c1_i32_263 : BitVec 32 := 1#32
  let arg18 : BitVec 32 := Scf.iv c0_i32_261 c1_i32_263 k0_t15
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_512 : Index := 96#32
  ![v1408.toNat, 96]
def k0_off189 (k0_t15 : Fin k0_t15_loop.trips) : Fin 2 → Nat :=
  let c0_i32_261 : BitVec 32 := 0#32
  let c1_i32_263 : BitVec 32 := 1#32
  let arg18 : BitVec 32 := Scf.iv c0_i32_261 c1_i32_263 k0_t15
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_513 : Index := 112#32
  ![v1412.toNat, 112]
def k0_off190 (k0_t15 : Fin k0_t15_loop.trips) : Fin 2 → Nat :=
  let c0_i32_261 : BitVec 32 := 0#32
  let c1_i32_263 : BitVec 32 := 1#32
  let arg18 : BitVec 32 := Scf.iv c0_i32_261 c1_i32_263 k0_t15
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_514 : Index := 128#32
  ![v1416.toNat, 128]
def k0_off191 (k0_t15 : Fin k0_t15_loop.trips) : Fin 2 → Nat :=
  let c0_i32_261 : BitVec 32 := 0#32
  let c1_i32_263 : BitVec 32 := 1#32
  let arg18 : BitVec 32 := Scf.iv c0_i32_261 c1_i32_263 k0_t15
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_515 : Index := 144#32
  ![v1420.toNat, 144]
def k0_off192 (k0_t15 : Fin k0_t15_loop.trips) : Fin 2 → Nat :=
  let c0_i32_261 : BitVec 32 := 0#32
  let c1_i32_263 : BitVec 32 := 1#32
  let arg18 : BitVec 32 := Scf.iv c0_i32_261 c1_i32_263 k0_t15
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_516 : Index := 160#32
  ![v1424.toNat, 160]
def k0_off193 (k0_t15 : Fin k0_t15_loop.trips) : Fin 2 → Nat :=
  let c0_i32_261 : BitVec 32 := 0#32
  let c1_i32_263 : BitVec 32 := 1#32
  let arg18 : BitVec 32 := Scf.iv c0_i32_261 c1_i32_263 k0_t15
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_517 : Index := 176#32
  ![v1428.toNat, 176]
def k0_off194 (k0_t15 : Fin k0_t15_loop.trips) : Fin 2 → Nat :=
  let c0_i32_261 : BitVec 32 := 0#32
  let c1_i32_263 : BitVec 32 := 1#32
  let arg18 : BitVec 32 := Scf.iv c0_i32_261 c1_i32_263 k0_t15
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_518 : Index := 192#32
  ![v1432.toNat, 192]
def k0_off195 (k0_t15 : Fin k0_t15_loop.trips) : Fin 2 → Nat :=
  let c0_i32_261 : BitVec 32 := 0#32
  let c1_i32_263 : BitVec 32 := 1#32
  let arg18 : BitVec 32 := Scf.iv c0_i32_261 c1_i32_263 k0_t15
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_519 : Index := 208#32
  ![v1436.toNat, 208]
def k0_off196 (k0_t15 : Fin k0_t15_loop.trips) : Fin 2 → Nat :=
  let c0_i32_261 : BitVec 32 := 0#32
  let c1_i32_263 : BitVec 32 := 1#32
  let arg18 : BitVec 32 := Scf.iv c0_i32_261 c1_i32_263 k0_t15
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_520 : Index := 224#32
  ![v1440.toNat, 224]
def k0_off197 (k0_t15 : Fin k0_t15_loop.trips) : Fin 2 → Nat :=
  let c0_i32_261 : BitVec 32 := 0#32
  let c1_i32_263 : BitVec 32 := 1#32
  let arg18 : BitVec 32 := Scf.iv c0_i32_261 c1_i32_263 k0_t15
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_521 : Index := 240#32
  ![v1444.toNat, 240]
def k0_off198 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_139 : BitVec 32 := 3#32
  let v461 : BitVec 32 := Scalar.muli v1 c3_i32_139
  let c1_i32_140 : BitVec 32 := 1#32
  let v462 : BitVec 32 := Scalar.addi v461 c1_i32_140
  let c0_i32_142 : BitVec 32 := 0#32
  let v464 : BitVec 1 := Scalar.cmpi .sgt v462 c0_i32_142
  let v465 : BitVec 32 := Scalar.extui v464
  let c0_i32_143 : BitVec 32 := 0#32
  let v466 : BitVec 1 := Scalar.cmpi .slt v462 c0_i32_143
  let v467 : BitVec 32 := Scalar.extui v466
  let v468 : BitVec 32 := Scalar.subi v465 v467
  let c8_i32_141 : BitVec 32 := 8#32
  let c0_i32_144 : BitVec 32 := 0#32
  let v469 : BitVec 1 := Scalar.cmpi .sgt c8_i32_141 c0_i32_144
  let v470 : BitVec 32 := Scalar.extui v469
  let c0_i32_145 : BitVec 32 := 0#32
  let v471 : BitVec 1 := Scalar.cmpi .slt c8_i32_141 c0_i32_145
  let v472 : BitVec 32 := Scalar.extui v471
  let v473 : BitVec 32 := Scalar.subi v470 v472
  let v474 : BitVec 1 := Scalar.cmpi .ne v468 v473
  let v475 : BitVec 32 := Scalar.remsi v462 c8_i32_141
  let c0_i32_146 : BitVec 32 := 0#32
  let v476 : BitVec 1 := Scalar.cmpi .ne v475 c0_i32_146
  let v477 : BitVec 1 := Scalar.andi v474 v476
  let v463 : BitVec 32 := Scalar.divsi v462 c8_i32_141
  let c1_i32_147 : BitVec 32 := 1#32
  let v478 : BitVec 32 := Scalar.subi v463 c1_i32_147
  let v479 : BitVec 32 := Scalar.select v477 v478 v463
  let c1536_i32_265 : BitVec 32 := 1536#32
  let c8_i32_148 : BitVec 32 := 8#32
  let c0_i32_149 : BitVec 32 := 0#32
  let v480 : BitVec 1 := Scalar.cmpi .eq c8_i32_148 c0_i32_149
  let c1_i32_150 : BitVec 32 := 1#32
  let v481 : BitVec 32 := Scalar.select v480 c1_i32_150 c8_i32_148
  let v482 : BitVec 32 := Scalar.remsi v462 v481
  let c0_i32_152 : BitVec 32 := 0#32
  let v484 : BitVec 1 := Scalar.cmpi .slt v482 c0_i32_152
  let c0_i32_153 : BitVec 32 := 0#32
  let v485 : BitVec 1 := Scalar.cmpi .slt v481 c0_i32_153
  let v486 : BitVec 1 := Scalar.xori v484 v485
  let c0_i32_151 : BitVec 32 := 0#32
  let v483 : BitVec 1 := Scalar.cmpi .ne v482 c0_i32_151
  let v487 : BitVec 1 := Scalar.andi v486 v483
  let v488 : BitVec 32 := Scalar.addi v482 v481
  let v489 : BitVec 32 := Scalar.select v487 v488 v482
  let c256_i32_154 : BitVec 32 := 256#32
  let v490 : BitVec 32 := Scalar.muli v489 c256_i32_154
  ![v479.toNat, 1536, v490.toNat]
@[reducible] def k0_t16_loop : Scf.Loop 32 :=
  let c0_i32_269 : BitVec 32 := 0#32
  let c128_i32_270 : BitVec 32 := 128#32
  let v855 : BitVec 32 := Scalar.addi c0_i32_269 c128_i32_270
  let c1_i32_271 : BitVec 32 := 1#32
  ⟨c0_i32_269, v855, c1_i32_271⟩

def k0_chk14 (v1382 : IVec S16 32) : Prop :=
  (∀ a x, ((![v1382] : Fin 1 → IVec S16 32) a x).toNat < S1024.size a)
theorem k0_idx14_inb : ∀ (v1382 : IVec S16 32) (k0_hw14 : k0_chk14 v1382), ∀ a x, ((![v1382] : Fin 1 → IVec S16 32) a x).toNat < S1024.size a := fun v1382 k0_hw14 => k0_hw14
def k0_off199 (k0_t16 : Fin k0_t16_loop.trips) : Fin 2 → Nat :=
  let c0_i32_269 : BitVec 32 := 0#32
  let c1_i32_271 : BitVec 32 := 1#32
  let arg18 : BitVec 32 := Scf.iv c0_i32_269 c1_i32_271 k0_t16
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_505 : Index := 0#32
  ![v1384.toNat, 0]
def k0_off200 (k0_t16 : Fin k0_t16_loop.trips) : Fin 2 → Nat :=
  let c0_i32_269 : BitVec 32 := 0#32
  let c1_i32_271 : BitVec 32 := 1#32
  let arg18 : BitVec 32 := Scf.iv c0_i32_269 c1_i32_271 k0_t16
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_506 : Index := 16#32
  ![v1388.toNat, 16]
def k0_off201 (k0_t16 : Fin k0_t16_loop.trips) : Fin 2 → Nat :=
  let c0_i32_269 : BitVec 32 := 0#32
  let c1_i32_271 : BitVec 32 := 1#32
  let arg18 : BitVec 32 := Scf.iv c0_i32_269 c1_i32_271 k0_t16
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_507 : Index := 32#32
  ![v1392.toNat, 32]
def k0_off202 (k0_t16 : Fin k0_t16_loop.trips) : Fin 2 → Nat :=
  let c0_i32_269 : BitVec 32 := 0#32
  let c1_i32_271 : BitVec 32 := 1#32
  let arg18 : BitVec 32 := Scf.iv c0_i32_269 c1_i32_271 k0_t16
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_508 : Index := 48#32
  ![v1396.toNat, 48]
def k0_off203 (k0_t16 : Fin k0_t16_loop.trips) : Fin 2 → Nat :=
  let c0_i32_269 : BitVec 32 := 0#32
  let c1_i32_271 : BitVec 32 := 1#32
  let arg18 : BitVec 32 := Scf.iv c0_i32_269 c1_i32_271 k0_t16
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_509 : Index := 64#32
  ![v1400.toNat, 64]
def k0_off204 (k0_t16 : Fin k0_t16_loop.trips) : Fin 2 → Nat :=
  let c0_i32_269 : BitVec 32 := 0#32
  let c1_i32_271 : BitVec 32 := 1#32
  let arg18 : BitVec 32 := Scf.iv c0_i32_269 c1_i32_271 k0_t16
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_510 : Index := 80#32
  ![v1404.toNat, 80]
def k0_off205 (k0_t16 : Fin k0_t16_loop.trips) : Fin 2 → Nat :=
  let c0_i32_269 : BitVec 32 := 0#32
  let c1_i32_271 : BitVec 32 := 1#32
  let arg18 : BitVec 32 := Scf.iv c0_i32_269 c1_i32_271 k0_t16
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_511 : Index := 96#32
  ![v1408.toNat, 96]
def k0_off206 (k0_t16 : Fin k0_t16_loop.trips) : Fin 2 → Nat :=
  let c0_i32_269 : BitVec 32 := 0#32
  let c1_i32_271 : BitVec 32 := 1#32
  let arg18 : BitVec 32 := Scf.iv c0_i32_269 c1_i32_271 k0_t16
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_512 : Index := 112#32
  ![v1412.toNat, 112]
def k0_off207 (k0_t16 : Fin k0_t16_loop.trips) : Fin 2 → Nat :=
  let c0_i32_269 : BitVec 32 := 0#32
  let c1_i32_271 : BitVec 32 := 1#32
  let arg18 : BitVec 32 := Scf.iv c0_i32_269 c1_i32_271 k0_t16
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_513 : Index := 128#32
  ![v1416.toNat, 128]
def k0_off208 (k0_t16 : Fin k0_t16_loop.trips) : Fin 2 → Nat :=
  let c0_i32_269 : BitVec 32 := 0#32
  let c1_i32_271 : BitVec 32 := 1#32
  let arg18 : BitVec 32 := Scf.iv c0_i32_269 c1_i32_271 k0_t16
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_514 : Index := 144#32
  ![v1420.toNat, 144]
def k0_off209 (k0_t16 : Fin k0_t16_loop.trips) : Fin 2 → Nat :=
  let c0_i32_269 : BitVec 32 := 0#32
  let c1_i32_271 : BitVec 32 := 1#32
  let arg18 : BitVec 32 := Scf.iv c0_i32_269 c1_i32_271 k0_t16
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_515 : Index := 160#32
  ![v1424.toNat, 160]
def k0_off210 (k0_t16 : Fin k0_t16_loop.trips) : Fin 2 → Nat :=
  let c0_i32_269 : BitVec 32 := 0#32
  let c1_i32_271 : BitVec 32 := 1#32
  let arg18 : BitVec 32 := Scf.iv c0_i32_269 c1_i32_271 k0_t16
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_516 : Index := 176#32
  ![v1428.toNat, 176]
def k0_off211 (k0_t16 : Fin k0_t16_loop.trips) : Fin 2 → Nat :=
  let c0_i32_269 : BitVec 32 := 0#32
  let c1_i32_271 : BitVec 32 := 1#32
  let arg18 : BitVec 32 := Scf.iv c0_i32_269 c1_i32_271 k0_t16
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_517 : Index := 192#32
  ![v1432.toNat, 192]
def k0_off212 (k0_t16 : Fin k0_t16_loop.trips) : Fin 2 → Nat :=
  let c0_i32_269 : BitVec 32 := 0#32
  let c1_i32_271 : BitVec 32 := 1#32
  let arg18 : BitVec 32 := Scf.iv c0_i32_269 c1_i32_271 k0_t16
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_518 : Index := 208#32
  ![v1436.toNat, 208]
def k0_off213 (k0_t16 : Fin k0_t16_loop.trips) : Fin 2 → Nat :=
  let c0_i32_269 : BitVec 32 := 0#32
  let c1_i32_271 : BitVec 32 := 1#32
  let arg18 : BitVec 32 := Scf.iv c0_i32_269 c1_i32_271 k0_t16
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_519 : Index := 224#32
  ![v1440.toNat, 224]
def k0_off214 (k0_t16 : Fin k0_t16_loop.trips) : Fin 2 → Nat :=
  let c0_i32_269 : BitVec 32 := 0#32
  let c1_i32_271 : BitVec 32 := 1#32
  let arg18 : BitVec 32 := Scf.iv c0_i32_269 c1_i32_271 k0_t16
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_520 : Index := 240#32
  ![v1444.toNat, 240]
def k0_off215 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_139 : BitVec 32 := 3#32
  let v461 : BitVec 32 := Scalar.muli v1 c3_i32_139
  let c1_i32_140 : BitVec 32 := 1#32
  let v462 : BitVec 32 := Scalar.addi v461 c1_i32_140
  let c0_i32_142 : BitVec 32 := 0#32
  let v464 : BitVec 1 := Scalar.cmpi .sgt v462 c0_i32_142
  let v465 : BitVec 32 := Scalar.extui v464
  let c0_i32_143 : BitVec 32 := 0#32
  let v466 : BitVec 1 := Scalar.cmpi .slt v462 c0_i32_143
  let v467 : BitVec 32 := Scalar.extui v466
  let v468 : BitVec 32 := Scalar.subi v465 v467
  let c8_i32_141 : BitVec 32 := 8#32
  let c0_i32_144 : BitVec 32 := 0#32
  let v469 : BitVec 1 := Scalar.cmpi .sgt c8_i32_141 c0_i32_144
  let v470 : BitVec 32 := Scalar.extui v469
  let c0_i32_145 : BitVec 32 := 0#32
  let v471 : BitVec 1 := Scalar.cmpi .slt c8_i32_141 c0_i32_145
  let v472 : BitVec 32 := Scalar.extui v471
  let v473 : BitVec 32 := Scalar.subi v470 v472
  let v474 : BitVec 1 := Scalar.cmpi .ne v468 v473
  let v475 : BitVec 32 := Scalar.remsi v462 c8_i32_141
  let c0_i32_146 : BitVec 32 := 0#32
  let v476 : BitVec 1 := Scalar.cmpi .ne v475 c0_i32_146
  let v477 : BitVec 1 := Scalar.andi v474 v476
  let v463 : BitVec 32 := Scalar.divsi v462 c8_i32_141
  let c1_i32_147 : BitVec 32 := 1#32
  let v478 : BitVec 32 := Scalar.subi v463 c1_i32_147
  let v479 : BitVec 32 := Scalar.select v477 v478 v463
  let c1664_i32_273 : BitVec 32 := 1664#32
  let c8_i32_148 : BitVec 32 := 8#32
  let c0_i32_149 : BitVec 32 := 0#32
  let v480 : BitVec 1 := Scalar.cmpi .eq c8_i32_148 c0_i32_149
  let c1_i32_150 : BitVec 32 := 1#32
  let v481 : BitVec 32 := Scalar.select v480 c1_i32_150 c8_i32_148
  let v482 : BitVec 32 := Scalar.remsi v462 v481
  let c0_i32_152 : BitVec 32 := 0#32
  let v484 : BitVec 1 := Scalar.cmpi .slt v482 c0_i32_152
  let c0_i32_153 : BitVec 32 := 0#32
  let v485 : BitVec 1 := Scalar.cmpi .slt v481 c0_i32_153
  let v486 : BitVec 1 := Scalar.xori v484 v485
  let c0_i32_151 : BitVec 32 := 0#32
  let v483 : BitVec 1 := Scalar.cmpi .ne v482 c0_i32_151
  let v487 : BitVec 1 := Scalar.andi v486 v483
  let v488 : BitVec 32 := Scalar.addi v482 v481
  let v489 : BitVec 32 := Scalar.select v487 v488 v482
  let c256_i32_154 : BitVec 32 := 256#32
  let v490 : BitVec 32 := Scalar.muli v489 c256_i32_154
  ![v479.toNat, 1664, v490.toNat]
@[reducible] def k0_t17_loop : Scf.Loop 32 :=
  let c0_i32_277 : BitVec 32 := 0#32
  let c128_i32_278 : BitVec 32 := 128#32
  let v865 : BitVec 32 := Scalar.addi c0_i32_277 c128_i32_278
  let c1_i32_279 : BitVec 32 := 1#32
  ⟨c0_i32_277, v865, c1_i32_279⟩

def k0_chk15 (v1382 : IVec S16 32) : Prop :=
  (∀ a x, ((![v1382] : Fin 1 → IVec S16 32) a x).toNat < S1024.size a)
theorem k0_idx15_inb : ∀ (v1382 : IVec S16 32) (k0_hw15 : k0_chk15 v1382), ∀ a x, ((![v1382] : Fin 1 → IVec S16 32) a x).toNat < S1024.size a := fun v1382 k0_hw15 => k0_hw15
def k0_off216 (k0_t17 : Fin k0_t17_loop.trips) : Fin 2 → Nat :=
  let c0_i32_277 : BitVec 32 := 0#32
  let c1_i32_279 : BitVec 32 := 1#32
  let arg18 : BitVec 32 := Scf.iv c0_i32_277 c1_i32_279 k0_t17
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_505 : Index := 0#32
  ![v1384.toNat, 0]
def k0_off217 (k0_t17 : Fin k0_t17_loop.trips) : Fin 2 → Nat :=
  let c0_i32_277 : BitVec 32 := 0#32
  let c1_i32_279 : BitVec 32 := 1#32
  let arg18 : BitVec 32 := Scf.iv c0_i32_277 c1_i32_279 k0_t17
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_506 : Index := 16#32
  ![v1388.toNat, 16]
def k0_off218 (k0_t17 : Fin k0_t17_loop.trips) : Fin 2 → Nat :=
  let c0_i32_277 : BitVec 32 := 0#32
  let c1_i32_279 : BitVec 32 := 1#32
  let arg18 : BitVec 32 := Scf.iv c0_i32_277 c1_i32_279 k0_t17
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_507 : Index := 32#32
  ![v1392.toNat, 32]
def k0_off219 (k0_t17 : Fin k0_t17_loop.trips) : Fin 2 → Nat :=
  let c0_i32_277 : BitVec 32 := 0#32
  let c1_i32_279 : BitVec 32 := 1#32
  let arg18 : BitVec 32 := Scf.iv c0_i32_277 c1_i32_279 k0_t17
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_508 : Index := 48#32
  ![v1396.toNat, 48]
def k0_off220 (k0_t17 : Fin k0_t17_loop.trips) : Fin 2 → Nat :=
  let c0_i32_277 : BitVec 32 := 0#32
  let c1_i32_279 : BitVec 32 := 1#32
  let arg18 : BitVec 32 := Scf.iv c0_i32_277 c1_i32_279 k0_t17
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_509 : Index := 64#32
  ![v1400.toNat, 64]
def k0_off221 (k0_t17 : Fin k0_t17_loop.trips) : Fin 2 → Nat :=
  let c0_i32_277 : BitVec 32 := 0#32
  let c1_i32_279 : BitVec 32 := 1#32
  let arg18 : BitVec 32 := Scf.iv c0_i32_277 c1_i32_279 k0_t17
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_510 : Index := 80#32
  ![v1404.toNat, 80]
def k0_off222 (k0_t17 : Fin k0_t17_loop.trips) : Fin 2 → Nat :=
  let c0_i32_277 : BitVec 32 := 0#32
  let c1_i32_279 : BitVec 32 := 1#32
  let arg18 : BitVec 32 := Scf.iv c0_i32_277 c1_i32_279 k0_t17
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_511 : Index := 96#32
  ![v1408.toNat, 96]
def k0_off223 (k0_t17 : Fin k0_t17_loop.trips) : Fin 2 → Nat :=
  let c0_i32_277 : BitVec 32 := 0#32
  let c1_i32_279 : BitVec 32 := 1#32
  let arg18 : BitVec 32 := Scf.iv c0_i32_277 c1_i32_279 k0_t17
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_512 : Index := 112#32
  ![v1412.toNat, 112]
def k0_off224 (k0_t17 : Fin k0_t17_loop.trips) : Fin 2 → Nat :=
  let c0_i32_277 : BitVec 32 := 0#32
  let c1_i32_279 : BitVec 32 := 1#32
  let arg18 : BitVec 32 := Scf.iv c0_i32_277 c1_i32_279 k0_t17
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_513 : Index := 128#32
  ![v1416.toNat, 128]
def k0_off225 (k0_t17 : Fin k0_t17_loop.trips) : Fin 2 → Nat :=
  let c0_i32_277 : BitVec 32 := 0#32
  let c1_i32_279 : BitVec 32 := 1#32
  let arg18 : BitVec 32 := Scf.iv c0_i32_277 c1_i32_279 k0_t17
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_514 : Index := 144#32
  ![v1420.toNat, 144]
def k0_off226 (k0_t17 : Fin k0_t17_loop.trips) : Fin 2 → Nat :=
  let c0_i32_277 : BitVec 32 := 0#32
  let c1_i32_279 : BitVec 32 := 1#32
  let arg18 : BitVec 32 := Scf.iv c0_i32_277 c1_i32_279 k0_t17
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_515 : Index := 160#32
  ![v1424.toNat, 160]
def k0_off227 (k0_t17 : Fin k0_t17_loop.trips) : Fin 2 → Nat :=
  let c0_i32_277 : BitVec 32 := 0#32
  let c1_i32_279 : BitVec 32 := 1#32
  let arg18 : BitVec 32 := Scf.iv c0_i32_277 c1_i32_279 k0_t17
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_516 : Index := 176#32
  ![v1428.toNat, 176]
def k0_off228 (k0_t17 : Fin k0_t17_loop.trips) : Fin 2 → Nat :=
  let c0_i32_277 : BitVec 32 := 0#32
  let c1_i32_279 : BitVec 32 := 1#32
  let arg18 : BitVec 32 := Scf.iv c0_i32_277 c1_i32_279 k0_t17
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_517 : Index := 192#32
  ![v1432.toNat, 192]
def k0_off229 (k0_t17 : Fin k0_t17_loop.trips) : Fin 2 → Nat :=
  let c0_i32_277 : BitVec 32 := 0#32
  let c1_i32_279 : BitVec 32 := 1#32
  let arg18 : BitVec 32 := Scf.iv c0_i32_277 c1_i32_279 k0_t17
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_518 : Index := 208#32
  ![v1436.toNat, 208]
def k0_off230 (k0_t17 : Fin k0_t17_loop.trips) : Fin 2 → Nat :=
  let c0_i32_277 : BitVec 32 := 0#32
  let c1_i32_279 : BitVec 32 := 1#32
  let arg18 : BitVec 32 := Scf.iv c0_i32_277 c1_i32_279 k0_t17
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_519 : Index := 224#32
  ![v1440.toNat, 224]
def k0_off231 (k0_t17 : Fin k0_t17_loop.trips) : Fin 2 → Nat :=
  let c0_i32_277 : BitVec 32 := 0#32
  let c1_i32_279 : BitVec 32 := 1#32
  let arg18 : BitVec 32 := Scf.iv c0_i32_277 c1_i32_279 k0_t17
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_520 : Index := 240#32
  ![v1444.toNat, 240]
def k0_off232 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_139 : BitVec 32 := 3#32
  let v461 : BitVec 32 := Scalar.muli v1 c3_i32_139
  let c1_i32_140 : BitVec 32 := 1#32
  let v462 : BitVec 32 := Scalar.addi v461 c1_i32_140
  let c0_i32_142 : BitVec 32 := 0#32
  let v464 : BitVec 1 := Scalar.cmpi .sgt v462 c0_i32_142
  let v465 : BitVec 32 := Scalar.extui v464
  let c0_i32_143 : BitVec 32 := 0#32
  let v466 : BitVec 1 := Scalar.cmpi .slt v462 c0_i32_143
  let v467 : BitVec 32 := Scalar.extui v466
  let v468 : BitVec 32 := Scalar.subi v465 v467
  let c8_i32_141 : BitVec 32 := 8#32
  let c0_i32_144 : BitVec 32 := 0#32
  let v469 : BitVec 1 := Scalar.cmpi .sgt c8_i32_141 c0_i32_144
  let v470 : BitVec 32 := Scalar.extui v469
  let c0_i32_145 : BitVec 32 := 0#32
  let v471 : BitVec 1 := Scalar.cmpi .slt c8_i32_141 c0_i32_145
  let v472 : BitVec 32 := Scalar.extui v471
  let v473 : BitVec 32 := Scalar.subi v470 v472
  let v474 : BitVec 1 := Scalar.cmpi .ne v468 v473
  let v475 : BitVec 32 := Scalar.remsi v462 c8_i32_141
  let c0_i32_146 : BitVec 32 := 0#32
  let v476 : BitVec 1 := Scalar.cmpi .ne v475 c0_i32_146
  let v477 : BitVec 1 := Scalar.andi v474 v476
  let v463 : BitVec 32 := Scalar.divsi v462 c8_i32_141
  let c1_i32_147 : BitVec 32 := 1#32
  let v478 : BitVec 32 := Scalar.subi v463 c1_i32_147
  let v479 : BitVec 32 := Scalar.select v477 v478 v463
  let c1792_i32_281 : BitVec 32 := 1792#32
  let c8_i32_148 : BitVec 32 := 8#32
  let c0_i32_149 : BitVec 32 := 0#32
  let v480 : BitVec 1 := Scalar.cmpi .eq c8_i32_148 c0_i32_149
  let c1_i32_150 : BitVec 32 := 1#32
  let v481 : BitVec 32 := Scalar.select v480 c1_i32_150 c8_i32_148
  let v482 : BitVec 32 := Scalar.remsi v462 v481
  let c0_i32_152 : BitVec 32 := 0#32
  let v484 : BitVec 1 := Scalar.cmpi .slt v482 c0_i32_152
  let c0_i32_153 : BitVec 32 := 0#32
  let v485 : BitVec 1 := Scalar.cmpi .slt v481 c0_i32_153
  let v486 : BitVec 1 := Scalar.xori v484 v485
  let c0_i32_151 : BitVec 32 := 0#32
  let v483 : BitVec 1 := Scalar.cmpi .ne v482 c0_i32_151
  let v487 : BitVec 1 := Scalar.andi v486 v483
  let v488 : BitVec 32 := Scalar.addi v482 v481
  let v489 : BitVec 32 := Scalar.select v487 v488 v482
  let c256_i32_154 : BitVec 32 := 256#32
  let v490 : BitVec 32 := Scalar.muli v489 c256_i32_154
  ![v479.toNat, 1792, v490.toNat]
@[reducible] def k0_t18_loop : Scf.Loop 32 :=
  let c0_i32_285 : BitVec 32 := 0#32
  let c128_i32_286 : BitVec 32 := 128#32
  let v875 : BitVec 32 := Scalar.addi c0_i32_285 c128_i32_286
  let c1_i32_287 : BitVec 32 := 1#32
  ⟨c0_i32_285, v875, c1_i32_287⟩

def k0_chk16 (v1382 : IVec S16 32) : Prop :=
  (∀ a x, ((![v1382] : Fin 1 → IVec S16 32) a x).toNat < S1024.size a)
theorem k0_idx16_inb : ∀ (v1382 : IVec S16 32) (k0_hw16 : k0_chk16 v1382), ∀ a x, ((![v1382] : Fin 1 → IVec S16 32) a x).toNat < S1024.size a := fun v1382 k0_hw16 => k0_hw16
def k0_off233 (k0_t18 : Fin k0_t18_loop.trips) : Fin 2 → Nat :=
  let c0_i32_285 : BitVec 32 := 0#32
  let c1_i32_287 : BitVec 32 := 1#32
  let arg18 : BitVec 32 := Scf.iv c0_i32_285 c1_i32_287 k0_t18
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_505 : Index := 0#32
  ![v1384.toNat, 0]
def k0_off234 (k0_t18 : Fin k0_t18_loop.trips) : Fin 2 → Nat :=
  let c0_i32_285 : BitVec 32 := 0#32
  let c1_i32_287 : BitVec 32 := 1#32
  let arg18 : BitVec 32 := Scf.iv c0_i32_285 c1_i32_287 k0_t18
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_506 : Index := 16#32
  ![v1388.toNat, 16]
def k0_off235 (k0_t18 : Fin k0_t18_loop.trips) : Fin 2 → Nat :=
  let c0_i32_285 : BitVec 32 := 0#32
  let c1_i32_287 : BitVec 32 := 1#32
  let arg18 : BitVec 32 := Scf.iv c0_i32_285 c1_i32_287 k0_t18
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_507 : Index := 32#32
  ![v1392.toNat, 32]
def k0_off236 (k0_t18 : Fin k0_t18_loop.trips) : Fin 2 → Nat :=
  let c0_i32_285 : BitVec 32 := 0#32
  let c1_i32_287 : BitVec 32 := 1#32
  let arg18 : BitVec 32 := Scf.iv c0_i32_285 c1_i32_287 k0_t18
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_508 : Index := 48#32
  ![v1396.toNat, 48]
def k0_off237 (k0_t18 : Fin k0_t18_loop.trips) : Fin 2 → Nat :=
  let c0_i32_285 : BitVec 32 := 0#32
  let c1_i32_287 : BitVec 32 := 1#32
  let arg18 : BitVec 32 := Scf.iv c0_i32_285 c1_i32_287 k0_t18
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_509 : Index := 64#32
  ![v1400.toNat, 64]
def k0_off238 (k0_t18 : Fin k0_t18_loop.trips) : Fin 2 → Nat :=
  let c0_i32_285 : BitVec 32 := 0#32
  let c1_i32_287 : BitVec 32 := 1#32
  let arg18 : BitVec 32 := Scf.iv c0_i32_285 c1_i32_287 k0_t18
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_510 : Index := 80#32
  ![v1404.toNat, 80]
def k0_off239 (k0_t18 : Fin k0_t18_loop.trips) : Fin 2 → Nat :=
  let c0_i32_285 : BitVec 32 := 0#32
  let c1_i32_287 : BitVec 32 := 1#32
  let arg18 : BitVec 32 := Scf.iv c0_i32_285 c1_i32_287 k0_t18
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_511 : Index := 96#32
  ![v1408.toNat, 96]
def k0_off240 (k0_t18 : Fin k0_t18_loop.trips) : Fin 2 → Nat :=
  let c0_i32_285 : BitVec 32 := 0#32
  let c1_i32_287 : BitVec 32 := 1#32
  let arg18 : BitVec 32 := Scf.iv c0_i32_285 c1_i32_287 k0_t18
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_512 : Index := 112#32
  ![v1412.toNat, 112]
def k0_off241 (k0_t18 : Fin k0_t18_loop.trips) : Fin 2 → Nat :=
  let c0_i32_285 : BitVec 32 := 0#32
  let c1_i32_287 : BitVec 32 := 1#32
  let arg18 : BitVec 32 := Scf.iv c0_i32_285 c1_i32_287 k0_t18
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_513 : Index := 128#32
  ![v1416.toNat, 128]
def k0_off242 (k0_t18 : Fin k0_t18_loop.trips) : Fin 2 → Nat :=
  let c0_i32_285 : BitVec 32 := 0#32
  let c1_i32_287 : BitVec 32 := 1#32
  let arg18 : BitVec 32 := Scf.iv c0_i32_285 c1_i32_287 k0_t18
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_514 : Index := 144#32
  ![v1420.toNat, 144]
def k0_off243 (k0_t18 : Fin k0_t18_loop.trips) : Fin 2 → Nat :=
  let c0_i32_285 : BitVec 32 := 0#32
  let c1_i32_287 : BitVec 32 := 1#32
  let arg18 : BitVec 32 := Scf.iv c0_i32_285 c1_i32_287 k0_t18
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_515 : Index := 160#32
  ![v1424.toNat, 160]
def k0_off244 (k0_t18 : Fin k0_t18_loop.trips) : Fin 2 → Nat :=
  let c0_i32_285 : BitVec 32 := 0#32
  let c1_i32_287 : BitVec 32 := 1#32
  let arg18 : BitVec 32 := Scf.iv c0_i32_285 c1_i32_287 k0_t18
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_516 : Index := 176#32
  ![v1428.toNat, 176]
def k0_off245 (k0_t18 : Fin k0_t18_loop.trips) : Fin 2 → Nat :=
  let c0_i32_285 : BitVec 32 := 0#32
  let c1_i32_287 : BitVec 32 := 1#32
  let arg18 : BitVec 32 := Scf.iv c0_i32_285 c1_i32_287 k0_t18
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_517 : Index := 192#32
  ![v1432.toNat, 192]
def k0_off246 (k0_t18 : Fin k0_t18_loop.trips) : Fin 2 → Nat :=
  let c0_i32_285 : BitVec 32 := 0#32
  let c1_i32_287 : BitVec 32 := 1#32
  let arg18 : BitVec 32 := Scf.iv c0_i32_285 c1_i32_287 k0_t18
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_518 : Index := 208#32
  ![v1436.toNat, 208]
def k0_off247 (k0_t18 : Fin k0_t18_loop.trips) : Fin 2 → Nat :=
  let c0_i32_285 : BitVec 32 := 0#32
  let c1_i32_287 : BitVec 32 := 1#32
  let arg18 : BitVec 32 := Scf.iv c0_i32_285 c1_i32_287 k0_t18
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_519 : Index := 224#32
  ![v1440.toNat, 224]
def k0_off248 (k0_t18 : Fin k0_t18_loop.trips) : Fin 2 → Nat :=
  let c0_i32_285 : BitVec 32 := 0#32
  let c1_i32_287 : BitVec 32 := 1#32
  let arg18 : BitVec 32 := Scf.iv c0_i32_285 c1_i32_287 k0_t18
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_520 : Index := 240#32
  ![v1444.toNat, 240]
def k0_off249 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_139 : BitVec 32 := 3#32
  let v461 : BitVec 32 := Scalar.muli v1 c3_i32_139
  let c1_i32_140 : BitVec 32 := 1#32
  let v462 : BitVec 32 := Scalar.addi v461 c1_i32_140
  let c0_i32_142 : BitVec 32 := 0#32
  let v464 : BitVec 1 := Scalar.cmpi .sgt v462 c0_i32_142
  let v465 : BitVec 32 := Scalar.extui v464
  let c0_i32_143 : BitVec 32 := 0#32
  let v466 : BitVec 1 := Scalar.cmpi .slt v462 c0_i32_143
  let v467 : BitVec 32 := Scalar.extui v466
  let v468 : BitVec 32 := Scalar.subi v465 v467
  let c8_i32_141 : BitVec 32 := 8#32
  let c0_i32_144 : BitVec 32 := 0#32
  let v469 : BitVec 1 := Scalar.cmpi .sgt c8_i32_141 c0_i32_144
  let v470 : BitVec 32 := Scalar.extui v469
  let c0_i32_145 : BitVec 32 := 0#32
  let v471 : BitVec 1 := Scalar.cmpi .slt c8_i32_141 c0_i32_145
  let v472 : BitVec 32 := Scalar.extui v471
  let v473 : BitVec 32 := Scalar.subi v470 v472
  let v474 : BitVec 1 := Scalar.cmpi .ne v468 v473
  let v475 : BitVec 32 := Scalar.remsi v462 c8_i32_141
  let c0_i32_146 : BitVec 32 := 0#32
  let v476 : BitVec 1 := Scalar.cmpi .ne v475 c0_i32_146
  let v477 : BitVec 1 := Scalar.andi v474 v476
  let v463 : BitVec 32 := Scalar.divsi v462 c8_i32_141
  let c1_i32_147 : BitVec 32 := 1#32
  let v478 : BitVec 32 := Scalar.subi v463 c1_i32_147
  let v479 : BitVec 32 := Scalar.select v477 v478 v463
  let c1920_i32_289 : BitVec 32 := 1920#32
  let c8_i32_148 : BitVec 32 := 8#32
  let c0_i32_149 : BitVec 32 := 0#32
  let v480 : BitVec 1 := Scalar.cmpi .eq c8_i32_148 c0_i32_149
  let c1_i32_150 : BitVec 32 := 1#32
  let v481 : BitVec 32 := Scalar.select v480 c1_i32_150 c8_i32_148
  let v482 : BitVec 32 := Scalar.remsi v462 v481
  let c0_i32_152 : BitVec 32 := 0#32
  let v484 : BitVec 1 := Scalar.cmpi .slt v482 c0_i32_152
  let c0_i32_153 : BitVec 32 := 0#32
  let v485 : BitVec 1 := Scalar.cmpi .slt v481 c0_i32_153
  let v486 : BitVec 1 := Scalar.xori v484 v485
  let c0_i32_151 : BitVec 32 := 0#32
  let v483 : BitVec 1 := Scalar.cmpi .ne v482 c0_i32_151
  let v487 : BitVec 1 := Scalar.andi v486 v483
  let v488 : BitVec 32 := Scalar.addi v482 v481
  let v489 : BitVec 32 := Scalar.select v487 v488 v482
  let c256_i32_154 : BitVec 32 := 256#32
  let v490 : BitVec 32 := Scalar.muli v489 c256_i32_154
  ![v479.toNat, 1920, v490.toNat]
@[reducible] def k0_t19_loop : Scf.Loop 32 :=
  let c0_i32_293 : BitVec 32 := 0#32
  let c128_i32_294 : BitVec 32 := 128#32
  let v885 : BitVec 32 := Scalar.addi c0_i32_293 c128_i32_294
  let c1_i32_295 : BitVec 32 := 1#32
  ⟨c0_i32_293, v885, c1_i32_295⟩

def k0_chk17 (v1382 : IVec S16 32) : Prop :=
  (∀ a x, ((![v1382] : Fin 1 → IVec S16 32) a x).toNat < S1024.size a)
theorem k0_idx17_inb : ∀ (v1382 : IVec S16 32) (k0_hw17 : k0_chk17 v1382), ∀ a x, ((![v1382] : Fin 1 → IVec S16 32) a x).toNat < S1024.size a := fun v1382 k0_hw17 => k0_hw17
def k0_off250 (k0_t19 : Fin k0_t19_loop.trips) : Fin 2 → Nat :=
  let c0_i32_293 : BitVec 32 := 0#32
  let c1_i32_295 : BitVec 32 := 1#32
  let arg18 : BitVec 32 := Scf.iv c0_i32_293 c1_i32_295 k0_t19
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_505 : Index := 0#32
  ![v1384.toNat, 0]
def k0_off251 (k0_t19 : Fin k0_t19_loop.trips) : Fin 2 → Nat :=
  let c0_i32_293 : BitVec 32 := 0#32
  let c1_i32_295 : BitVec 32 := 1#32
  let arg18 : BitVec 32 := Scf.iv c0_i32_293 c1_i32_295 k0_t19
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_506 : Index := 16#32
  ![v1388.toNat, 16]
def k0_off252 (k0_t19 : Fin k0_t19_loop.trips) : Fin 2 → Nat :=
  let c0_i32_293 : BitVec 32 := 0#32
  let c1_i32_295 : BitVec 32 := 1#32
  let arg18 : BitVec 32 := Scf.iv c0_i32_293 c1_i32_295 k0_t19
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_507 : Index := 32#32
  ![v1392.toNat, 32]
def k0_off253 (k0_t19 : Fin k0_t19_loop.trips) : Fin 2 → Nat :=
  let c0_i32_293 : BitVec 32 := 0#32
  let c1_i32_295 : BitVec 32 := 1#32
  let arg18 : BitVec 32 := Scf.iv c0_i32_293 c1_i32_295 k0_t19
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_508 : Index := 48#32
  ![v1396.toNat, 48]
def k0_off254 (k0_t19 : Fin k0_t19_loop.trips) : Fin 2 → Nat :=
  let c0_i32_293 : BitVec 32 := 0#32
  let c1_i32_295 : BitVec 32 := 1#32
  let arg18 : BitVec 32 := Scf.iv c0_i32_293 c1_i32_295 k0_t19
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_509 : Index := 64#32
  ![v1400.toNat, 64]
def k0_off255 (k0_t19 : Fin k0_t19_loop.trips) : Fin 2 → Nat :=
  let c0_i32_293 : BitVec 32 := 0#32
  let c1_i32_295 : BitVec 32 := 1#32
  let arg18 : BitVec 32 := Scf.iv c0_i32_293 c1_i32_295 k0_t19
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_510 : Index := 80#32
  ![v1404.toNat, 80]
def k0_off256 (k0_t19 : Fin k0_t19_loop.trips) : Fin 2 → Nat :=
  let c0_i32_293 : BitVec 32 := 0#32
  let c1_i32_295 : BitVec 32 := 1#32
  let arg18 : BitVec 32 := Scf.iv c0_i32_293 c1_i32_295 k0_t19
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_511 : Index := 96#32
  ![v1408.toNat, 96]
def k0_off257 (k0_t19 : Fin k0_t19_loop.trips) : Fin 2 → Nat :=
  let c0_i32_293 : BitVec 32 := 0#32
  let c1_i32_295 : BitVec 32 := 1#32
  let arg18 : BitVec 32 := Scf.iv c0_i32_293 c1_i32_295 k0_t19
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_512 : Index := 112#32
  ![v1412.toNat, 112]
def k0_off258 (k0_t19 : Fin k0_t19_loop.trips) : Fin 2 → Nat :=
  let c0_i32_293 : BitVec 32 := 0#32
  let c1_i32_295 : BitVec 32 := 1#32
  let arg18 : BitVec 32 := Scf.iv c0_i32_293 c1_i32_295 k0_t19
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_513 : Index := 128#32
  ![v1416.toNat, 128]
def k0_off259 (k0_t19 : Fin k0_t19_loop.trips) : Fin 2 → Nat :=
  let c0_i32_293 : BitVec 32 := 0#32
  let c1_i32_295 : BitVec 32 := 1#32
  let arg18 : BitVec 32 := Scf.iv c0_i32_293 c1_i32_295 k0_t19
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_514 : Index := 144#32
  ![v1420.toNat, 144]
def k0_off260 (k0_t19 : Fin k0_t19_loop.trips) : Fin 2 → Nat :=
  let c0_i32_293 : BitVec 32 := 0#32
  let c1_i32_295 : BitVec 32 := 1#32
  let arg18 : BitVec 32 := Scf.iv c0_i32_293 c1_i32_295 k0_t19
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_515 : Index := 160#32
  ![v1424.toNat, 160]
def k0_off261 (k0_t19 : Fin k0_t19_loop.trips) : Fin 2 → Nat :=
  let c0_i32_293 : BitVec 32 := 0#32
  let c1_i32_295 : BitVec 32 := 1#32
  let arg18 : BitVec 32 := Scf.iv c0_i32_293 c1_i32_295 k0_t19
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_516 : Index := 176#32
  ![v1428.toNat, 176]
def k0_off262 (k0_t19 : Fin k0_t19_loop.trips) : Fin 2 → Nat :=
  let c0_i32_293 : BitVec 32 := 0#32
  let c1_i32_295 : BitVec 32 := 1#32
  let arg18 : BitVec 32 := Scf.iv c0_i32_293 c1_i32_295 k0_t19
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_517 : Index := 192#32
  ![v1432.toNat, 192]
def k0_off263 (k0_t19 : Fin k0_t19_loop.trips) : Fin 2 → Nat :=
  let c0_i32_293 : BitVec 32 := 0#32
  let c1_i32_295 : BitVec 32 := 1#32
  let arg18 : BitVec 32 := Scf.iv c0_i32_293 c1_i32_295 k0_t19
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_518 : Index := 208#32
  ![v1436.toNat, 208]
def k0_off264 (k0_t19 : Fin k0_t19_loop.trips) : Fin 2 → Nat :=
  let c0_i32_293 : BitVec 32 := 0#32
  let c1_i32_295 : BitVec 32 := 1#32
  let arg18 : BitVec 32 := Scf.iv c0_i32_293 c1_i32_295 k0_t19
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_519 : Index := 224#32
  ![v1440.toNat, 224]
def k0_off265 (k0_t19 : Fin k0_t19_loop.trips) : Fin 2 → Nat :=
  let c0_i32_293 : BitVec 32 := 0#32
  let c1_i32_295 : BitVec 32 := 1#32
  let arg18 : BitVec 32 := Scf.iv c0_i32_293 c1_i32_295 k0_t19
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_520 : Index := 240#32
  ![v1444.toNat, 240]
@[reducible] def k0_t20_loop : Scf.Loop 32 :=
  let c0_i32_299 : BitVec 32 := 0#32
  let c128_i32_300 : BitVec 32 := 128#32
  let v891 : BitVec 32 := Scalar.addi c0_i32_299 c128_i32_300
  let c1_i32_301 : BitVec 32 := 1#32
  ⟨c0_i32_299, v891, c1_i32_301⟩

def k0_chk18 (v1382 : IVec S16 32) : Prop :=
  (∀ a x, ((![v1382] : Fin 1 → IVec S16 32) a x).toNat < S1024.size a)
theorem k0_idx18_inb : ∀ (v1382 : IVec S16 32) (k0_hw18 : k0_chk18 v1382), ∀ a x, ((![v1382] : Fin 1 → IVec S16 32) a x).toNat < S1024.size a := fun v1382 k0_hw18 => k0_hw18
def k0_off266 (k0_t20 : Fin k0_t20_loop.trips) : Fin 2 → Nat :=
  let c0_i32_299 : BitVec 32 := 0#32
  let c1_i32_301 : BitVec 32 := 1#32
  let arg18 : BitVec 32 := Scf.iv c0_i32_299 c1_i32_301 k0_t20
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_505 : Index := 0#32
  ![v1384.toNat, 0]
def k0_off267 (k0_t20 : Fin k0_t20_loop.trips) : Fin 2 → Nat :=
  let c0_i32_299 : BitVec 32 := 0#32
  let c1_i32_301 : BitVec 32 := 1#32
  let arg18 : BitVec 32 := Scf.iv c0_i32_299 c1_i32_301 k0_t20
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_506 : Index := 16#32
  ![v1388.toNat, 16]
def k0_off268 (k0_t20 : Fin k0_t20_loop.trips) : Fin 2 → Nat :=
  let c0_i32_299 : BitVec 32 := 0#32
  let c1_i32_301 : BitVec 32 := 1#32
  let arg18 : BitVec 32 := Scf.iv c0_i32_299 c1_i32_301 k0_t20
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_507 : Index := 32#32
  ![v1392.toNat, 32]
def k0_off269 (k0_t20 : Fin k0_t20_loop.trips) : Fin 2 → Nat :=
  let c0_i32_299 : BitVec 32 := 0#32
  let c1_i32_301 : BitVec 32 := 1#32
  let arg18 : BitVec 32 := Scf.iv c0_i32_299 c1_i32_301 k0_t20
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_508 : Index := 48#32
  ![v1396.toNat, 48]
def k0_off270 (k0_t20 : Fin k0_t20_loop.trips) : Fin 2 → Nat :=
  let c0_i32_299 : BitVec 32 := 0#32
  let c1_i32_301 : BitVec 32 := 1#32
  let arg18 : BitVec 32 := Scf.iv c0_i32_299 c1_i32_301 k0_t20
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_509 : Index := 64#32
  ![v1400.toNat, 64]
def k0_off271 (k0_t20 : Fin k0_t20_loop.trips) : Fin 2 → Nat :=
  let c0_i32_299 : BitVec 32 := 0#32
  let c1_i32_301 : BitVec 32 := 1#32
  let arg18 : BitVec 32 := Scf.iv c0_i32_299 c1_i32_301 k0_t20
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_510 : Index := 80#32
  ![v1404.toNat, 80]
def k0_off272 (k0_t20 : Fin k0_t20_loop.trips) : Fin 2 → Nat :=
  let c0_i32_299 : BitVec 32 := 0#32
  let c1_i32_301 : BitVec 32 := 1#32
  let arg18 : BitVec 32 := Scf.iv c0_i32_299 c1_i32_301 k0_t20
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_511 : Index := 96#32
  ![v1408.toNat, 96]
def k0_off273 (k0_t20 : Fin k0_t20_loop.trips) : Fin 2 → Nat :=
  let c0_i32_299 : BitVec 32 := 0#32
  let c1_i32_301 : BitVec 32 := 1#32
  let arg18 : BitVec 32 := Scf.iv c0_i32_299 c1_i32_301 k0_t20
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_512 : Index := 112#32
  ![v1412.toNat, 112]
def k0_off274 (k0_t20 : Fin k0_t20_loop.trips) : Fin 2 → Nat :=
  let c0_i32_299 : BitVec 32 := 0#32
  let c1_i32_301 : BitVec 32 := 1#32
  let arg18 : BitVec 32 := Scf.iv c0_i32_299 c1_i32_301 k0_t20
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_513 : Index := 128#32
  ![v1416.toNat, 128]
def k0_off275 (k0_t20 : Fin k0_t20_loop.trips) : Fin 2 → Nat :=
  let c0_i32_299 : BitVec 32 := 0#32
  let c1_i32_301 : BitVec 32 := 1#32
  let arg18 : BitVec 32 := Scf.iv c0_i32_299 c1_i32_301 k0_t20
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_514 : Index := 144#32
  ![v1420.toNat, 144]
def k0_off276 (k0_t20 : Fin k0_t20_loop.trips) : Fin 2 → Nat :=
  let c0_i32_299 : BitVec 32 := 0#32
  let c1_i32_301 : BitVec 32 := 1#32
  let arg18 : BitVec 32 := Scf.iv c0_i32_299 c1_i32_301 k0_t20
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_515 : Index := 160#32
  ![v1424.toNat, 160]
def k0_off277 (k0_t20 : Fin k0_t20_loop.trips) : Fin 2 → Nat :=
  let c0_i32_299 : BitVec 32 := 0#32
  let c1_i32_301 : BitVec 32 := 1#32
  let arg18 : BitVec 32 := Scf.iv c0_i32_299 c1_i32_301 k0_t20
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_516 : Index := 176#32
  ![v1428.toNat, 176]
def k0_off278 (k0_t20 : Fin k0_t20_loop.trips) : Fin 2 → Nat :=
  let c0_i32_299 : BitVec 32 := 0#32
  let c1_i32_301 : BitVec 32 := 1#32
  let arg18 : BitVec 32 := Scf.iv c0_i32_299 c1_i32_301 k0_t20
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_517 : Index := 192#32
  ![v1432.toNat, 192]
def k0_off279 (k0_t20 : Fin k0_t20_loop.trips) : Fin 2 → Nat :=
  let c0_i32_299 : BitVec 32 := 0#32
  let c1_i32_301 : BitVec 32 := 1#32
  let arg18 : BitVec 32 := Scf.iv c0_i32_299 c1_i32_301 k0_t20
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_518 : Index := 208#32
  ![v1436.toNat, 208]
def k0_off280 (k0_t20 : Fin k0_t20_loop.trips) : Fin 2 → Nat :=
  let c0_i32_299 : BitVec 32 := 0#32
  let c1_i32_301 : BitVec 32 := 1#32
  let arg18 : BitVec 32 := Scf.iv c0_i32_299 c1_i32_301 k0_t20
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_519 : Index := 224#32
  ![v1440.toNat, 224]
def k0_off281 (k0_t20 : Fin k0_t20_loop.trips) : Fin 2 → Nat :=
  let c0_i32_299 : BitVec 32 := 0#32
  let c1_i32_301 : BitVec 32 := 1#32
  let arg18 : BitVec 32 := Scf.iv c0_i32_299 c1_i32_301 k0_t20
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_520 : Index := 240#32
  ![v1444.toNat, 240]
def k0_off282 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_139 : BitVec 32 := 3#32
  let v461 : BitVec 32 := Scalar.muli v1 c3_i32_139
  let c1_i32_140 : BitVec 32 := 1#32
  let v462 : BitVec 32 := Scalar.addi v461 c1_i32_140
  let c0_i32_142 : BitVec 32 := 0#32
  let v464 : BitVec 1 := Scalar.cmpi .sgt v462 c0_i32_142
  let v465 : BitVec 32 := Scalar.extui v464
  let c0_i32_143 : BitVec 32 := 0#32
  let v466 : BitVec 1 := Scalar.cmpi .slt v462 c0_i32_143
  let v467 : BitVec 32 := Scalar.extui v466
  let v468 : BitVec 32 := Scalar.subi v465 v467
  let c8_i32_141 : BitVec 32 := 8#32
  let c0_i32_144 : BitVec 32 := 0#32
  let v469 : BitVec 1 := Scalar.cmpi .sgt c8_i32_141 c0_i32_144
  let v470 : BitVec 32 := Scalar.extui v469
  let c0_i32_145 : BitVec 32 := 0#32
  let v471 : BitVec 1 := Scalar.cmpi .slt c8_i32_141 c0_i32_145
  let v472 : BitVec 32 := Scalar.extui v471
  let v473 : BitVec 32 := Scalar.subi v470 v472
  let v474 : BitVec 1 := Scalar.cmpi .ne v468 v473
  let v475 : BitVec 32 := Scalar.remsi v462 c8_i32_141
  let c0_i32_146 : BitVec 32 := 0#32
  let v476 : BitVec 1 := Scalar.cmpi .ne v475 c0_i32_146
  let v477 : BitVec 1 := Scalar.andi v474 v476
  let v463 : BitVec 32 := Scalar.divsi v462 c8_i32_141
  let c1_i32_147 : BitVec 32 := 1#32
  let v478 : BitVec 32 := Scalar.subi v463 c1_i32_147
  let v479 : BitVec 32 := Scalar.select v477 v478 v463
  let c8_i32_148 : BitVec 32 := 8#32
  let c0_i32_149 : BitVec 32 := 0#32
  let v480 : BitVec 1 := Scalar.cmpi .eq c8_i32_148 c0_i32_149
  let c1_i32_150 : BitVec 32 := 1#32
  let v481 : BitVec 32 := Scalar.select v480 c1_i32_150 c8_i32_148
  let v482 : BitVec 32 := Scalar.remsi v462 v481
  let c0_i32_152 : BitVec 32 := 0#32
  let v484 : BitVec 1 := Scalar.cmpi .slt v482 c0_i32_152
  let c0_i32_153 : BitVec 32 := 0#32
  let v485 : BitVec 1 := Scalar.cmpi .slt v481 c0_i32_153
  let v486 : BitVec 1 := Scalar.xori v484 v485
  let c0_i32_151 : BitVec 32 := 0#32
  let v483 : BitVec 1 := Scalar.cmpi .ne v482 c0_i32_151
  let v487 : BitVec 1 := Scalar.andi v486 v483
  let v488 : BitVec 32 := Scalar.addi v482 v481
  let v489 : BitVec 32 := Scalar.select v487 v488 v482
  let c256_i32_154 : BitVec 32 := 256#32
  let v490 : BitVec 32 := Scalar.muli v489 c256_i32_154
  ![v479.toNat, v490.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_139 : BitVec 32 := 3#32
  let v461 : BitVec 32 := Scalar.muli v1 c3_i32_139
  let c1_i32_140 : BitVec 32 := 1#32
  let v462 : BitVec 32 := Scalar.addi v461 c1_i32_140
  let c8_i32_148 : BitVec 32 := 8#32
  let c0_i32_149 : BitVec 32 := 0#32
  let v480 : BitVec 1 := Scalar.cmpi .eq c8_i32_148 c0_i32_149
  let c1_i32_150 : BitVec 32 := 1#32
  let v481 : BitVec 32 := Scalar.select v480 c1_i32_150 c8_i32_148
  let v482 : BitVec 32 := Scalar.remsi v462 v481
  let c0_i32_152 : BitVec 32 := 0#32
  let v484 : BitVec 1 := Scalar.cmpi .slt v482 c0_i32_152
  let c0_i32_153 : BitVec 32 := 0#32
  let v485 : BitVec 1 := Scalar.cmpi .slt v481 c0_i32_153
  let v486 : BitVec 1 := Scalar.xori v484 v485
  let c0_i32_151 : BitVec 32 := 0#32
  let v483 : BitVec 1 := Scalar.cmpi .ne v482 c0_i32_151
  let v487 : BitVec 1 := Scalar.andi v486 v483
  let v488 : BitVec 32 := Scalar.addi v482 v481
  let v489 : BitVec 32 := Scalar.select v487 v488 v482
  let c256_i32_154 : BitVec 32 := 256#32
  let v490 : BitVec 32 := Scalar.muli v489 c256_i32_154
  let c0_i32_319 : BitVec 32 := 0#32
  let v917 : BitVec 1 := Scalar.cmpi .eq v490 c0_i32_319
  let v918 : BitVec 32 := Scalar.extui v917
  let c0_i32_320 : BitVec 32 := 0#32
  let v919 : BitVec 1 := Scalar.cmpi .ne v918 c0_i32_320
  v919

def k0_off283 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_139 : BitVec 32 := 3#32
  let v461 : BitVec 32 := Scalar.muli v1 c3_i32_139
  let c1_i32_140 : BitVec 32 := 1#32
  let v462 : BitVec 32 := Scalar.addi v461 c1_i32_140
  let c0_i32_142 : BitVec 32 := 0#32
  let v464 : BitVec 1 := Scalar.cmpi .sgt v462 c0_i32_142
  let v465 : BitVec 32 := Scalar.extui v464
  let c0_i32_143 : BitVec 32 := 0#32
  let v466 : BitVec 1 := Scalar.cmpi .slt v462 c0_i32_143
  let v467 : BitVec 32 := Scalar.extui v466
  let v468 : BitVec 32 := Scalar.subi v465 v467
  let c8_i32_141 : BitVec 32 := 8#32
  let c0_i32_144 : BitVec 32 := 0#32
  let v469 : BitVec 1 := Scalar.cmpi .sgt c8_i32_141 c0_i32_144
  let v470 : BitVec 32 := Scalar.extui v469
  let c0_i32_145 : BitVec 32 := 0#32
  let v471 : BitVec 1 := Scalar.cmpi .slt c8_i32_141 c0_i32_145
  let v472 : BitVec 32 := Scalar.extui v471
  let v473 : BitVec 32 := Scalar.subi v470 v472
  let v474 : BitVec 1 := Scalar.cmpi .ne v468 v473
  let v475 : BitVec 32 := Scalar.remsi v462 c8_i32_141
  let c0_i32_146 : BitVec 32 := 0#32
  let v476 : BitVec 1 := Scalar.cmpi .ne v475 c0_i32_146
  let v477 : BitVec 1 := Scalar.andi v474 v476
  let v463 : BitVec 32 := Scalar.divsi v462 c8_i32_141
  let c1_i32_147 : BitVec 32 := 1#32
  let v478 : BitVec 32 := Scalar.subi v463 c1_i32_147
  let v479 : BitVec 32 := Scalar.select v477 v478 v463
  let c0_i32_504 : BitVec 32 := 0#32
  ![v479.toNat, 0]
def k0_off284 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_321 : BitVec 32 := 3#32
  let v920 : BitVec 32 := Scalar.muli v1 c3_i32_321
  let c2_i32_322 : BitVec 32 := 2#32
  let v921 : BitVec 32 := Scalar.addi v920 c2_i32_322
  let c0_i32_324 : BitVec 32 := 0#32
  let v923 : BitVec 1 := Scalar.cmpi .sgt v921 c0_i32_324
  let v924 : BitVec 32 := Scalar.extui v923
  let c0_i32_325 : BitVec 32 := 0#32
  let v925 : BitVec 1 := Scalar.cmpi .slt v921 c0_i32_325
  let v926 : BitVec 32 := Scalar.extui v925
  let v927 : BitVec 32 := Scalar.subi v924 v926
  let c8_i32_323 : BitVec 32 := 8#32
  let c0_i32_326 : BitVec 32 := 0#32
  let v928 : BitVec 1 := Scalar.cmpi .sgt c8_i32_323 c0_i32_326
  let v929 : BitVec 32 := Scalar.extui v928
  let c0_i32_327 : BitVec 32 := 0#32
  let v930 : BitVec 1 := Scalar.cmpi .slt c8_i32_323 c0_i32_327
  let v931 : BitVec 32 := Scalar.extui v930
  let v932 : BitVec 32 := Scalar.subi v929 v931
  let v933 : BitVec 1 := Scalar.cmpi .ne v927 v932
  let v934 : BitVec 32 := Scalar.remsi v921 c8_i32_323
  let c0_i32_328 : BitVec 32 := 0#32
  let v935 : BitVec 1 := Scalar.cmpi .ne v934 c0_i32_328
  let v936 : BitVec 1 := Scalar.andi v933 v935
  let v922 : BitVec 32 := Scalar.divsi v921 c8_i32_323
  let c1_i32_329 : BitVec 32 := 1#32
  let v937 : BitVec 32 := Scalar.subi v922 c1_i32_329
  let v938 : BitVec 32 := Scalar.select v936 v937 v922
  let c1024_i32_337 : BitVec 32 := 1024#32
  ![v938.toNat, 1024]
@[reducible] def k0_t21_loop : Scf.Loop 32 :=
  let c0_i32_345 : BitVec 32 := 0#32
  let c64_i32_346 : BitVec 32 := 64#32
  let v964 : BitVec 32 := Scalar.addi c0_i32_345 c64_i32_346
  let c1_i32_347 : BitVec 32 := 1#32
  ⟨c0_i32_345, v964, c1_i32_347⟩
def k0_off285 (k0_t21 : Fin k0_t21_loop.trips) : Fin 1 → Nat :=
  let c0_i32_345 : BitVec 32 := 0#32
  let c1_i32_347 : BitVec 32 := 1#32
  let arg18 : BitVec 32 := Scf.iv c0_i32_345 c1_i32_347 k0_t21
  let c16_i32 : BitVec 32 := 16#32
  let v1379 : BitVec 32 := Scalar.muli arg18 c16_i32
  let v1380 : Index := Scalar.indexCast v1379
  ![v1380.toNat]

def k0_chk19 (v1091 : IVec S16 32) : Prop :=
  (∀ a x, ((![v1091] : Fin 1 → IVec S16 32) a x).toNat < S256.size a)
theorem k0_idx19_inb : ∀ (v1091 : IVec S16 32) (k0_hw19 : k0_chk19 v1091), ∀ a x, ((![v1091] : Fin 1 → IVec S16 32) a x).toNat < S256.size a := fun v1091 k0_hw19 => k0_hw19
@[reducible] def k0_t22_loop : Scf.Loop 32 :=
  let c0_i32_403 : BitVec 32 := 0#32
  let c64_i32_404 : BitVec 32 := 64#32
  let v1258 : BitVec 32 := Scalar.addi c0_i32_403 c64_i32_404
  let c1_i32_405 : BitVec 32 := 1#32
  ⟨c0_i32_403, v1258, c1_i32_405⟩
def k0_off286 (k0_t22 : Fin k0_t22_loop.trips) : Fin 1 → Nat :=
  let c0_i32_403 : BitVec 32 := 0#32
  let c1_i32_405 : BitVec 32 := 1#32
  let arg18 : BitVec 32 := Scf.iv c0_i32_403 c1_i32_405 k0_t22
  let c16_i32 : BitVec 32 := 16#32
  let v1379 : BitVec 32 := Scalar.muli arg18 c16_i32
  let v1380 : Index := Scalar.indexCast v1379
  ![v1380.toNat]
def k0_off287 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_321 : BitVec 32 := 3#32
  let v920 : BitVec 32 := Scalar.muli v1 c3_i32_321
  let c2_i32_322 : BitVec 32 := 2#32
  let v921 : BitVec 32 := Scalar.addi v920 c2_i32_322
  let c0_i32_324 : BitVec 32 := 0#32
  let v923 : BitVec 1 := Scalar.cmpi .sgt v921 c0_i32_324
  let v924 : BitVec 32 := Scalar.extui v923
  let c0_i32_325 : BitVec 32 := 0#32
  let v925 : BitVec 1 := Scalar.cmpi .slt v921 c0_i32_325
  let v926 : BitVec 32 := Scalar.extui v925
  let v927 : BitVec 32 := Scalar.subi v924 v926
  let c8_i32_323 : BitVec 32 := 8#32
  let c0_i32_326 : BitVec 32 := 0#32
  let v928 : BitVec 1 := Scalar.cmpi .sgt c8_i32_323 c0_i32_326
  let v929 : BitVec 32 := Scalar.extui v928
  let c0_i32_327 : BitVec 32 := 0#32
  let v930 : BitVec 1 := Scalar.cmpi .slt c8_i32_323 c0_i32_327
  let v931 : BitVec 32 := Scalar.extui v930
  let v932 : BitVec 32 := Scalar.subi v929 v931
  let v933 : BitVec 1 := Scalar.cmpi .ne v927 v932
  let v934 : BitVec 32 := Scalar.remsi v921 c8_i32_323
  let c0_i32_328 : BitVec 32 := 0#32
  let v935 : BitVec 1 := Scalar.cmpi .ne v934 c0_i32_328
  let v936 : BitVec 1 := Scalar.andi v933 v935
  let v922 : BitVec 32 := Scalar.divsi v921 c8_i32_323
  let c1_i32_329 : BitVec 32 := 1#32
  let v937 : BitVec 32 := Scalar.subi v922 c1_i32_329
  let v938 : BitVec 32 := Scalar.select v936 v937 v922
  let c1152_i32_423 : BitVec 32 := 1152#32
  let c8_i32_330 : BitVec 32 := 8#32
  let c0_i32_331 : BitVec 32 := 0#32
  let v939 : BitVec 1 := Scalar.cmpi .eq c8_i32_330 c0_i32_331
  let c1_i32_332 : BitVec 32 := 1#32
  let v940 : BitVec 32 := Scalar.select v939 c1_i32_332 c8_i32_330
  let v941 : BitVec 32 := Scalar.remsi v921 v940
  let c0_i32_334 : BitVec 32 := 0#32
  let v943 : BitVec 1 := Scalar.cmpi .slt v941 c0_i32_334
  let c0_i32_335 : BitVec 32 := 0#32
  let v944 : BitVec 1 := Scalar.cmpi .slt v940 c0_i32_335
  let v945 : BitVec 1 := Scalar.xori v943 v944
  let c0_i32_333 : BitVec 32 := 0#32
  let v942 : BitVec 1 := Scalar.cmpi .ne v941 c0_i32_333
  let v946 : BitVec 1 := Scalar.andi v945 v942
  let v947 : BitVec 32 := Scalar.addi v941 v940
  let v948 : BitVec 32 := Scalar.select v946 v947 v941
  let c256_i32_336 : BitVec 32 := 256#32
  let v949 : BitVec 32 := Scalar.muli v948 c256_i32_336
  ![v938.toNat, 1152, v949.toNat]
def k0_off288 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_321 : BitVec 32 := 3#32
  let v920 : BitVec 32 := Scalar.muli v1 c3_i32_321
  let c2_i32_322 : BitVec 32 := 2#32
  let v921 : BitVec 32 := Scalar.addi v920 c2_i32_322
  let c0_i32_324 : BitVec 32 := 0#32
  let v923 : BitVec 1 := Scalar.cmpi .sgt v921 c0_i32_324
  let v924 : BitVec 32 := Scalar.extui v923
  let c0_i32_325 : BitVec 32 := 0#32
  let v925 : BitVec 1 := Scalar.cmpi .slt v921 c0_i32_325
  let v926 : BitVec 32 := Scalar.extui v925
  let v927 : BitVec 32 := Scalar.subi v924 v926
  let c8_i32_323 : BitVec 32 := 8#32
  let c0_i32_326 : BitVec 32 := 0#32
  let v928 : BitVec 1 := Scalar.cmpi .sgt c8_i32_323 c0_i32_326
  let v929 : BitVec 32 := Scalar.extui v928
  let c0_i32_327 : BitVec 32 := 0#32
  let v930 : BitVec 1 := Scalar.cmpi .slt c8_i32_323 c0_i32_327
  let v931 : BitVec 32 := Scalar.extui v930
  let v932 : BitVec 32 := Scalar.subi v929 v931
  let v933 : BitVec 1 := Scalar.cmpi .ne v927 v932
  let v934 : BitVec 32 := Scalar.remsi v921 c8_i32_323
  let c0_i32_328 : BitVec 32 := 0#32
  let v935 : BitVec 1 := Scalar.cmpi .ne v934 c0_i32_328
  let v936 : BitVec 1 := Scalar.andi v933 v935
  let v922 : BitVec 32 := Scalar.divsi v921 c8_i32_323
  let c1_i32_329 : BitVec 32 := 1#32
  let v937 : BitVec 32 := Scalar.subi v922 c1_i32_329
  let v938 : BitVec 32 := Scalar.select v936 v937 v922
  let c1024_i32_425 : BitVec 32 := 1024#32
  let c8_i32_330 : BitVec 32 := 8#32
  let c0_i32_331 : BitVec 32 := 0#32
  let v939 : BitVec 1 := Scalar.cmpi .eq c8_i32_330 c0_i32_331
  let c1_i32_332 : BitVec 32 := 1#32
  let v940 : BitVec 32 := Scalar.select v939 c1_i32_332 c8_i32_330
  let v941 : BitVec 32 := Scalar.remsi v921 v940
  let c0_i32_334 : BitVec 32 := 0#32
  let v943 : BitVec 1 := Scalar.cmpi .slt v941 c0_i32_334
  let c0_i32_335 : BitVec 32 := 0#32
  let v944 : BitVec 1 := Scalar.cmpi .slt v940 c0_i32_335
  let v945 : BitVec 1 := Scalar.xori v943 v944
  let c0_i32_333 : BitVec 32 := 0#32
  let v942 : BitVec 1 := Scalar.cmpi .ne v941 c0_i32_333
  let v946 : BitVec 1 := Scalar.andi v945 v942
  let v947 : BitVec 32 := Scalar.addi v941 v940
  let v948 : BitVec 32 := Scalar.select v946 v947 v941
  let c256_i32_336 : BitVec 32 := 256#32
  let v949 : BitVec 32 := Scalar.muli v948 c256_i32_336
  ![v938.toNat, 1024, v949.toNat]
@[reducible] def k0_t23_loop : Scf.Loop 32 :=
  let c0_i32_427 : BitVec 32 := 0#32
  let c128_i32_428 : BitVec 32 := 128#32
  let v1284 : BitVec 32 := Scalar.addi c0_i32_427 c128_i32_428
  let c1_i32_429 : BitVec 32 := 1#32
  ⟨c0_i32_427, v1284, c1_i32_429⟩

def k0_chk20 (v1382 : IVec S16 32) : Prop :=
  (∀ a x, ((![v1382] : Fin 1 → IVec S16 32) a x).toNat < S1024.size a)
theorem k0_idx20_inb : ∀ (v1382 : IVec S16 32) (k0_hw20 : k0_chk20 v1382), ∀ a x, ((![v1382] : Fin 1 → IVec S16 32) a x).toNat < S1024.size a := fun v1382 k0_hw20 => k0_hw20
def k0_off289 (k0_t23 : Fin k0_t23_loop.trips) : Fin 2 → Nat :=
  let c0_i32_427 : BitVec 32 := 0#32
  let c1_i32_429 : BitVec 32 := 1#32
  let arg18 : BitVec 32 := Scf.iv c0_i32_427 c1_i32_429 k0_t23
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_506 : Index := 0#32
  ![v1384.toNat, 0]
def k0_off290 (k0_t23 : Fin k0_t23_loop.trips) : Fin 2 → Nat :=
  let c0_i32_427 : BitVec 32 := 0#32
  let c1_i32_429 : BitVec 32 := 1#32
  let arg18 : BitVec 32 := Scf.iv c0_i32_427 c1_i32_429 k0_t23
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_507 : Index := 16#32
  ![v1388.toNat, 16]
def k0_off291 (k0_t23 : Fin k0_t23_loop.trips) : Fin 2 → Nat :=
  let c0_i32_427 : BitVec 32 := 0#32
  let c1_i32_429 : BitVec 32 := 1#32
  let arg18 : BitVec 32 := Scf.iv c0_i32_427 c1_i32_429 k0_t23
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_508 : Index := 32#32
  ![v1392.toNat, 32]
def k0_off292 (k0_t23 : Fin k0_t23_loop.trips) : Fin 2 → Nat :=
  let c0_i32_427 : BitVec 32 := 0#32
  let c1_i32_429 : BitVec 32 := 1#32
  let arg18 : BitVec 32 := Scf.iv c0_i32_427 c1_i32_429 k0_t23
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_509 : Index := 48#32
  ![v1396.toNat, 48]
def k0_off293 (k0_t23 : Fin k0_t23_loop.trips) : Fin 2 → Nat :=
  let c0_i32_427 : BitVec 32 := 0#32
  let c1_i32_429 : BitVec 32 := 1#32
  let arg18 : BitVec 32 := Scf.iv c0_i32_427 c1_i32_429 k0_t23
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_510 : Index := 64#32
  ![v1400.toNat, 64]
def k0_off294 (k0_t23 : Fin k0_t23_loop.trips) : Fin 2 → Nat :=
  let c0_i32_427 : BitVec 32 := 0#32
  let c1_i32_429 : BitVec 32 := 1#32
  let arg18 : BitVec 32 := Scf.iv c0_i32_427 c1_i32_429 k0_t23
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_511 : Index := 80#32
  ![v1404.toNat, 80]
def k0_off295 (k0_t23 : Fin k0_t23_loop.trips) : Fin 2 → Nat :=
  let c0_i32_427 : BitVec 32 := 0#32
  let c1_i32_429 : BitVec 32 := 1#32
  let arg18 : BitVec 32 := Scf.iv c0_i32_427 c1_i32_429 k0_t23
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_512 : Index := 96#32
  ![v1408.toNat, 96]
def k0_off296 (k0_t23 : Fin k0_t23_loop.trips) : Fin 2 → Nat :=
  let c0_i32_427 : BitVec 32 := 0#32
  let c1_i32_429 : BitVec 32 := 1#32
  let arg18 : BitVec 32 := Scf.iv c0_i32_427 c1_i32_429 k0_t23
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_513 : Index := 112#32
  ![v1412.toNat, 112]
def k0_off297 (k0_t23 : Fin k0_t23_loop.trips) : Fin 2 → Nat :=
  let c0_i32_427 : BitVec 32 := 0#32
  let c1_i32_429 : BitVec 32 := 1#32
  let arg18 : BitVec 32 := Scf.iv c0_i32_427 c1_i32_429 k0_t23
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_514 : Index := 128#32
  ![v1416.toNat, 128]
def k0_off298 (k0_t23 : Fin k0_t23_loop.trips) : Fin 2 → Nat :=
  let c0_i32_427 : BitVec 32 := 0#32
  let c1_i32_429 : BitVec 32 := 1#32
  let arg18 : BitVec 32 := Scf.iv c0_i32_427 c1_i32_429 k0_t23
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_515 : Index := 144#32
  ![v1420.toNat, 144]
def k0_off299 (k0_t23 : Fin k0_t23_loop.trips) : Fin 2 → Nat :=
  let c0_i32_427 : BitVec 32 := 0#32
  let c1_i32_429 : BitVec 32 := 1#32
  let arg18 : BitVec 32 := Scf.iv c0_i32_427 c1_i32_429 k0_t23
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_516 : Index := 160#32
  ![v1424.toNat, 160]
def k0_off300 (k0_t23 : Fin k0_t23_loop.trips) : Fin 2 → Nat :=
  let c0_i32_427 : BitVec 32 := 0#32
  let c1_i32_429 : BitVec 32 := 1#32
  let arg18 : BitVec 32 := Scf.iv c0_i32_427 c1_i32_429 k0_t23
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_517 : Index := 176#32
  ![v1428.toNat, 176]
def k0_off301 (k0_t23 : Fin k0_t23_loop.trips) : Fin 2 → Nat :=
  let c0_i32_427 : BitVec 32 := 0#32
  let c1_i32_429 : BitVec 32 := 1#32
  let arg18 : BitVec 32 := Scf.iv c0_i32_427 c1_i32_429 k0_t23
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_518 : Index := 192#32
  ![v1432.toNat, 192]
def k0_off302 (k0_t23 : Fin k0_t23_loop.trips) : Fin 2 → Nat :=
  let c0_i32_427 : BitVec 32 := 0#32
  let c1_i32_429 : BitVec 32 := 1#32
  let arg18 : BitVec 32 := Scf.iv c0_i32_427 c1_i32_429 k0_t23
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_519 : Index := 208#32
  ![v1436.toNat, 208]
def k0_off303 (k0_t23 : Fin k0_t23_loop.trips) : Fin 2 → Nat :=
  let c0_i32_427 : BitVec 32 := 0#32
  let c1_i32_429 : BitVec 32 := 1#32
  let arg18 : BitVec 32 := Scf.iv c0_i32_427 c1_i32_429 k0_t23
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_520 : Index := 224#32
  ![v1440.toNat, 224]
def k0_off304 (k0_t23 : Fin k0_t23_loop.trips) : Fin 2 → Nat :=
  let c0_i32_427 : BitVec 32 := 0#32
  let c1_i32_429 : BitVec 32 := 1#32
  let arg18 : BitVec 32 := Scf.iv c0_i32_427 c1_i32_429 k0_t23
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_521 : Index := 240#32
  ![v1444.toNat, 240]
def k0_off305 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_321 : BitVec 32 := 3#32
  let v920 : BitVec 32 := Scalar.muli v1 c3_i32_321
  let c2_i32_322 : BitVec 32 := 2#32
  let v921 : BitVec 32 := Scalar.addi v920 c2_i32_322
  let c0_i32_324 : BitVec 32 := 0#32
  let v923 : BitVec 1 := Scalar.cmpi .sgt v921 c0_i32_324
  let v924 : BitVec 32 := Scalar.extui v923
  let c0_i32_325 : BitVec 32 := 0#32
  let v925 : BitVec 1 := Scalar.cmpi .slt v921 c0_i32_325
  let v926 : BitVec 32 := Scalar.extui v925
  let v927 : BitVec 32 := Scalar.subi v924 v926
  let c8_i32_323 : BitVec 32 := 8#32
  let c0_i32_326 : BitVec 32 := 0#32
  let v928 : BitVec 1 := Scalar.cmpi .sgt c8_i32_323 c0_i32_326
  let v929 : BitVec 32 := Scalar.extui v928
  let c0_i32_327 : BitVec 32 := 0#32
  let v930 : BitVec 1 := Scalar.cmpi .slt c8_i32_323 c0_i32_327
  let v931 : BitVec 32 := Scalar.extui v930
  let v932 : BitVec 32 := Scalar.subi v929 v931
  let v933 : BitVec 1 := Scalar.cmpi .ne v927 v932
  let v934 : BitVec 32 := Scalar.remsi v921 c8_i32_323
  let c0_i32_328 : BitVec 32 := 0#32
  let v935 : BitVec 1 := Scalar.cmpi .ne v934 c0_i32_328
  let v936 : BitVec 1 := Scalar.andi v933 v935
  let v922 : BitVec 32 := Scalar.divsi v921 c8_i32_323
  let c1_i32_329 : BitVec 32 := 1#32
  let v937 : BitVec 32 := Scalar.subi v922 c1_i32_329
  let v938 : BitVec 32 := Scalar.select v936 v937 v922
  let c1280_i32_431 : BitVec 32 := 1280#32
  let c8_i32_330 : BitVec 32 := 8#32
  let c0_i32_331 : BitVec 32 := 0#32
  let v939 : BitVec 1 := Scalar.cmpi .eq c8_i32_330 c0_i32_331
  let c1_i32_332 : BitVec 32 := 1#32
  let v940 : BitVec 32 := Scalar.select v939 c1_i32_332 c8_i32_330
  let v941 : BitVec 32 := Scalar.remsi v921 v940
  let c0_i32_334 : BitVec 32 := 0#32
  let v943 : BitVec 1 := Scalar.cmpi .slt v941 c0_i32_334
  let c0_i32_335 : BitVec 32 := 0#32
  let v944 : BitVec 1 := Scalar.cmpi .slt v940 c0_i32_335
  let v945 : BitVec 1 := Scalar.xori v943 v944
  let c0_i32_333 : BitVec 32 := 0#32
  let v942 : BitVec 1 := Scalar.cmpi .ne v941 c0_i32_333
  let v946 : BitVec 1 := Scalar.andi v945 v942
  let v947 : BitVec 32 := Scalar.addi v941 v940
  let v948 : BitVec 32 := Scalar.select v946 v947 v941
  let c256_i32_336 : BitVec 32 := 256#32
  let v949 : BitVec 32 := Scalar.muli v948 c256_i32_336
  ![v938.toNat, 1280, v949.toNat]
@[reducible] def k0_t24_loop : Scf.Loop 32 :=
  let c0_i32_435 : BitVec 32 := 0#32
  let c128_i32_436 : BitVec 32 := 128#32
  let v1294 : BitVec 32 := Scalar.addi c0_i32_435 c128_i32_436
  let c1_i32_437 : BitVec 32 := 1#32
  ⟨c0_i32_435, v1294, c1_i32_437⟩

def k0_chk21 (v1382 : IVec S16 32) : Prop :=
  (∀ a x, ((![v1382] : Fin 1 → IVec S16 32) a x).toNat < S1024.size a)
theorem k0_idx21_inb : ∀ (v1382 : IVec S16 32) (k0_hw21 : k0_chk21 v1382), ∀ a x, ((![v1382] : Fin 1 → IVec S16 32) a x).toNat < S1024.size a := fun v1382 k0_hw21 => k0_hw21
def k0_off306 (k0_t24 : Fin k0_t24_loop.trips) : Fin 2 → Nat :=
  let c0_i32_435 : BitVec 32 := 0#32
  let c1_i32_437 : BitVec 32 := 1#32
  let arg18 : BitVec 32 := Scf.iv c0_i32_435 c1_i32_437 k0_t24
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_506 : Index := 0#32
  ![v1384.toNat, 0]
def k0_off307 (k0_t24 : Fin k0_t24_loop.trips) : Fin 2 → Nat :=
  let c0_i32_435 : BitVec 32 := 0#32
  let c1_i32_437 : BitVec 32 := 1#32
  let arg18 : BitVec 32 := Scf.iv c0_i32_435 c1_i32_437 k0_t24
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_507 : Index := 16#32
  ![v1388.toNat, 16]
def k0_off308 (k0_t24 : Fin k0_t24_loop.trips) : Fin 2 → Nat :=
  let c0_i32_435 : BitVec 32 := 0#32
  let c1_i32_437 : BitVec 32 := 1#32
  let arg18 : BitVec 32 := Scf.iv c0_i32_435 c1_i32_437 k0_t24
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_508 : Index := 32#32
  ![v1392.toNat, 32]
def k0_off309 (k0_t24 : Fin k0_t24_loop.trips) : Fin 2 → Nat :=
  let c0_i32_435 : BitVec 32 := 0#32
  let c1_i32_437 : BitVec 32 := 1#32
  let arg18 : BitVec 32 := Scf.iv c0_i32_435 c1_i32_437 k0_t24
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_509 : Index := 48#32
  ![v1396.toNat, 48]
def k0_off310 (k0_t24 : Fin k0_t24_loop.trips) : Fin 2 → Nat :=
  let c0_i32_435 : BitVec 32 := 0#32
  let c1_i32_437 : BitVec 32 := 1#32
  let arg18 : BitVec 32 := Scf.iv c0_i32_435 c1_i32_437 k0_t24
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_510 : Index := 64#32
  ![v1400.toNat, 64]
def k0_off311 (k0_t24 : Fin k0_t24_loop.trips) : Fin 2 → Nat :=
  let c0_i32_435 : BitVec 32 := 0#32
  let c1_i32_437 : BitVec 32 := 1#32
  let arg18 : BitVec 32 := Scf.iv c0_i32_435 c1_i32_437 k0_t24
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_511 : Index := 80#32
  ![v1404.toNat, 80]
def k0_off312 (k0_t24 : Fin k0_t24_loop.trips) : Fin 2 → Nat :=
  let c0_i32_435 : BitVec 32 := 0#32
  let c1_i32_437 : BitVec 32 := 1#32
  let arg18 : BitVec 32 := Scf.iv c0_i32_435 c1_i32_437 k0_t24
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_512 : Index := 96#32
  ![v1408.toNat, 96]
def k0_off313 (k0_t24 : Fin k0_t24_loop.trips) : Fin 2 → Nat :=
  let c0_i32_435 : BitVec 32 := 0#32
  let c1_i32_437 : BitVec 32 := 1#32
  let arg18 : BitVec 32 := Scf.iv c0_i32_435 c1_i32_437 k0_t24
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_513 : Index := 112#32
  ![v1412.toNat, 112]
def k0_off314 (k0_t24 : Fin k0_t24_loop.trips) : Fin 2 → Nat :=
  let c0_i32_435 : BitVec 32 := 0#32
  let c1_i32_437 : BitVec 32 := 1#32
  let arg18 : BitVec 32 := Scf.iv c0_i32_435 c1_i32_437 k0_t24
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_514 : Index := 128#32
  ![v1416.toNat, 128]
def k0_off315 (k0_t24 : Fin k0_t24_loop.trips) : Fin 2 → Nat :=
  let c0_i32_435 : BitVec 32 := 0#32
  let c1_i32_437 : BitVec 32 := 1#32
  let arg18 : BitVec 32 := Scf.iv c0_i32_435 c1_i32_437 k0_t24
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_515 : Index := 144#32
  ![v1420.toNat, 144]
def k0_off316 (k0_t24 : Fin k0_t24_loop.trips) : Fin 2 → Nat :=
  let c0_i32_435 : BitVec 32 := 0#32
  let c1_i32_437 : BitVec 32 := 1#32
  let arg18 : BitVec 32 := Scf.iv c0_i32_435 c1_i32_437 k0_t24
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_516 : Index := 160#32
  ![v1424.toNat, 160]
def k0_off317 (k0_t24 : Fin k0_t24_loop.trips) : Fin 2 → Nat :=
  let c0_i32_435 : BitVec 32 := 0#32
  let c1_i32_437 : BitVec 32 := 1#32
  let arg18 : BitVec 32 := Scf.iv c0_i32_435 c1_i32_437 k0_t24
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_517 : Index := 176#32
  ![v1428.toNat, 176]
def k0_off318 (k0_t24 : Fin k0_t24_loop.trips) : Fin 2 → Nat :=
  let c0_i32_435 : BitVec 32 := 0#32
  let c1_i32_437 : BitVec 32 := 1#32
  let arg18 : BitVec 32 := Scf.iv c0_i32_435 c1_i32_437 k0_t24
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_518 : Index := 192#32
  ![v1432.toNat, 192]
def k0_off319 (k0_t24 : Fin k0_t24_loop.trips) : Fin 2 → Nat :=
  let c0_i32_435 : BitVec 32 := 0#32
  let c1_i32_437 : BitVec 32 := 1#32
  let arg18 : BitVec 32 := Scf.iv c0_i32_435 c1_i32_437 k0_t24
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_519 : Index := 208#32
  ![v1436.toNat, 208]
def k0_off320 (k0_t24 : Fin k0_t24_loop.trips) : Fin 2 → Nat :=
  let c0_i32_435 : BitVec 32 := 0#32
  let c1_i32_437 : BitVec 32 := 1#32
  let arg18 : BitVec 32 := Scf.iv c0_i32_435 c1_i32_437 k0_t24
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_520 : Index := 224#32
  ![v1440.toNat, 224]
def k0_off321 (k0_t24 : Fin k0_t24_loop.trips) : Fin 2 → Nat :=
  let c0_i32_435 : BitVec 32 := 0#32
  let c1_i32_437 : BitVec 32 := 1#32
  let arg18 : BitVec 32 := Scf.iv c0_i32_435 c1_i32_437 k0_t24
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_521 : Index := 240#32
  ![v1444.toNat, 240]
def k0_off322 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_321 : BitVec 32 := 3#32
  let v920 : BitVec 32 := Scalar.muli v1 c3_i32_321
  let c2_i32_322 : BitVec 32 := 2#32
  let v921 : BitVec 32 := Scalar.addi v920 c2_i32_322
  let c0_i32_324 : BitVec 32 := 0#32
  let v923 : BitVec 1 := Scalar.cmpi .sgt v921 c0_i32_324
  let v924 : BitVec 32 := Scalar.extui v923
  let c0_i32_325 : BitVec 32 := 0#32
  let v925 : BitVec 1 := Scalar.cmpi .slt v921 c0_i32_325
  let v926 : BitVec 32 := Scalar.extui v925
  let v927 : BitVec 32 := Scalar.subi v924 v926
  let c8_i32_323 : BitVec 32 := 8#32
  let c0_i32_326 : BitVec 32 := 0#32
  let v928 : BitVec 1 := Scalar.cmpi .sgt c8_i32_323 c0_i32_326
  let v929 : BitVec 32 := Scalar.extui v928
  let c0_i32_327 : BitVec 32 := 0#32
  let v930 : BitVec 1 := Scalar.cmpi .slt c8_i32_323 c0_i32_327
  let v931 : BitVec 32 := Scalar.extui v930
  let v932 : BitVec 32 := Scalar.subi v929 v931
  let v933 : BitVec 1 := Scalar.cmpi .ne v927 v932
  let v934 : BitVec 32 := Scalar.remsi v921 c8_i32_323
  let c0_i32_328 : BitVec 32 := 0#32
  let v935 : BitVec 1 := Scalar.cmpi .ne v934 c0_i32_328
  let v936 : BitVec 1 := Scalar.andi v933 v935
  let v922 : BitVec 32 := Scalar.divsi v921 c8_i32_323
  let c1_i32_329 : BitVec 32 := 1#32
  let v937 : BitVec 32 := Scalar.subi v922 c1_i32_329
  let v938 : BitVec 32 := Scalar.select v936 v937 v922
  let c1408_i32_439 : BitVec 32 := 1408#32
  let c8_i32_330 : BitVec 32 := 8#32
  let c0_i32_331 : BitVec 32 := 0#32
  let v939 : BitVec 1 := Scalar.cmpi .eq c8_i32_330 c0_i32_331
  let c1_i32_332 : BitVec 32 := 1#32
  let v940 : BitVec 32 := Scalar.select v939 c1_i32_332 c8_i32_330
  let v941 : BitVec 32 := Scalar.remsi v921 v940
  let c0_i32_334 : BitVec 32 := 0#32
  let v943 : BitVec 1 := Scalar.cmpi .slt v941 c0_i32_334
  let c0_i32_335 : BitVec 32 := 0#32
  let v944 : BitVec 1 := Scalar.cmpi .slt v940 c0_i32_335
  let v945 : BitVec 1 := Scalar.xori v943 v944
  let c0_i32_333 : BitVec 32 := 0#32
  let v942 : BitVec 1 := Scalar.cmpi .ne v941 c0_i32_333
  let v946 : BitVec 1 := Scalar.andi v945 v942
  let v947 : BitVec 32 := Scalar.addi v941 v940
  let v948 : BitVec 32 := Scalar.select v946 v947 v941
  let c256_i32_336 : BitVec 32 := 256#32
  let v949 : BitVec 32 := Scalar.muli v948 c256_i32_336
  ![v938.toNat, 1408, v949.toNat]
@[reducible] def k0_t25_loop : Scf.Loop 32 :=
  let c0_i32_443 : BitVec 32 := 0#32
  let c128_i32_444 : BitVec 32 := 128#32
  let v1304 : BitVec 32 := Scalar.addi c0_i32_443 c128_i32_444
  let c1_i32_445 : BitVec 32 := 1#32
  ⟨c0_i32_443, v1304, c1_i32_445⟩

def k0_chk22 (v1382 : IVec S16 32) : Prop :=
  (∀ a x, ((![v1382] : Fin 1 → IVec S16 32) a x).toNat < S1024.size a)
theorem k0_idx22_inb : ∀ (v1382 : IVec S16 32) (k0_hw22 : k0_chk22 v1382), ∀ a x, ((![v1382] : Fin 1 → IVec S16 32) a x).toNat < S1024.size a := fun v1382 k0_hw22 => k0_hw22
def k0_off323 (k0_t25 : Fin k0_t25_loop.trips) : Fin 2 → Nat :=
  let c0_i32_443 : BitVec 32 := 0#32
  let c1_i32_445 : BitVec 32 := 1#32
  let arg18 : BitVec 32 := Scf.iv c0_i32_443 c1_i32_445 k0_t25
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_506 : Index := 0#32
  ![v1384.toNat, 0]
def k0_off324 (k0_t25 : Fin k0_t25_loop.trips) : Fin 2 → Nat :=
  let c0_i32_443 : BitVec 32 := 0#32
  let c1_i32_445 : BitVec 32 := 1#32
  let arg18 : BitVec 32 := Scf.iv c0_i32_443 c1_i32_445 k0_t25
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_507 : Index := 16#32
  ![v1388.toNat, 16]
def k0_off325 (k0_t25 : Fin k0_t25_loop.trips) : Fin 2 → Nat :=
  let c0_i32_443 : BitVec 32 := 0#32
  let c1_i32_445 : BitVec 32 := 1#32
  let arg18 : BitVec 32 := Scf.iv c0_i32_443 c1_i32_445 k0_t25
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_508 : Index := 32#32
  ![v1392.toNat, 32]
def k0_off326 (k0_t25 : Fin k0_t25_loop.trips) : Fin 2 → Nat :=
  let c0_i32_443 : BitVec 32 := 0#32
  let c1_i32_445 : BitVec 32 := 1#32
  let arg18 : BitVec 32 := Scf.iv c0_i32_443 c1_i32_445 k0_t25
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_509 : Index := 48#32
  ![v1396.toNat, 48]
def k0_off327 (k0_t25 : Fin k0_t25_loop.trips) : Fin 2 → Nat :=
  let c0_i32_443 : BitVec 32 := 0#32
  let c1_i32_445 : BitVec 32 := 1#32
  let arg18 : BitVec 32 := Scf.iv c0_i32_443 c1_i32_445 k0_t25
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_510 : Index := 64#32
  ![v1400.toNat, 64]
def k0_off328 (k0_t25 : Fin k0_t25_loop.trips) : Fin 2 → Nat :=
  let c0_i32_443 : BitVec 32 := 0#32
  let c1_i32_445 : BitVec 32 := 1#32
  let arg18 : BitVec 32 := Scf.iv c0_i32_443 c1_i32_445 k0_t25
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_511 : Index := 80#32
  ![v1404.toNat, 80]
def k0_off329 (k0_t25 : Fin k0_t25_loop.trips) : Fin 2 → Nat :=
  let c0_i32_443 : BitVec 32 := 0#32
  let c1_i32_445 : BitVec 32 := 1#32
  let arg18 : BitVec 32 := Scf.iv c0_i32_443 c1_i32_445 k0_t25
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_512 : Index := 96#32
  ![v1408.toNat, 96]
def k0_off330 (k0_t25 : Fin k0_t25_loop.trips) : Fin 2 → Nat :=
  let c0_i32_443 : BitVec 32 := 0#32
  let c1_i32_445 : BitVec 32 := 1#32
  let arg18 : BitVec 32 := Scf.iv c0_i32_443 c1_i32_445 k0_t25
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_513 : Index := 112#32
  ![v1412.toNat, 112]
def k0_off331 (k0_t25 : Fin k0_t25_loop.trips) : Fin 2 → Nat :=
  let c0_i32_443 : BitVec 32 := 0#32
  let c1_i32_445 : BitVec 32 := 1#32
  let arg18 : BitVec 32 := Scf.iv c0_i32_443 c1_i32_445 k0_t25
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_514 : Index := 128#32
  ![v1416.toNat, 128]
def k0_off332 (k0_t25 : Fin k0_t25_loop.trips) : Fin 2 → Nat :=
  let c0_i32_443 : BitVec 32 := 0#32
  let c1_i32_445 : BitVec 32 := 1#32
  let arg18 : BitVec 32 := Scf.iv c0_i32_443 c1_i32_445 k0_t25
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_515 : Index := 144#32
  ![v1420.toNat, 144]
def k0_off333 (k0_t25 : Fin k0_t25_loop.trips) : Fin 2 → Nat :=
  let c0_i32_443 : BitVec 32 := 0#32
  let c1_i32_445 : BitVec 32 := 1#32
  let arg18 : BitVec 32 := Scf.iv c0_i32_443 c1_i32_445 k0_t25
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_516 : Index := 160#32
  ![v1424.toNat, 160]
def k0_off334 (k0_t25 : Fin k0_t25_loop.trips) : Fin 2 → Nat :=
  let c0_i32_443 : BitVec 32 := 0#32
  let c1_i32_445 : BitVec 32 := 1#32
  let arg18 : BitVec 32 := Scf.iv c0_i32_443 c1_i32_445 k0_t25
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_517 : Index := 176#32
  ![v1428.toNat, 176]
def k0_off335 (k0_t25 : Fin k0_t25_loop.trips) : Fin 2 → Nat :=
  let c0_i32_443 : BitVec 32 := 0#32
  let c1_i32_445 : BitVec 32 := 1#32
  let arg18 : BitVec 32 := Scf.iv c0_i32_443 c1_i32_445 k0_t25
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_518 : Index := 192#32
  ![v1432.toNat, 192]
def k0_off336 (k0_t25 : Fin k0_t25_loop.trips) : Fin 2 → Nat :=
  let c0_i32_443 : BitVec 32 := 0#32
  let c1_i32_445 : BitVec 32 := 1#32
  let arg18 : BitVec 32 := Scf.iv c0_i32_443 c1_i32_445 k0_t25
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_519 : Index := 208#32
  ![v1436.toNat, 208]
def k0_off337 (k0_t25 : Fin k0_t25_loop.trips) : Fin 2 → Nat :=
  let c0_i32_443 : BitVec 32 := 0#32
  let c1_i32_445 : BitVec 32 := 1#32
  let arg18 : BitVec 32 := Scf.iv c0_i32_443 c1_i32_445 k0_t25
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_520 : Index := 224#32
  ![v1440.toNat, 224]
def k0_off338 (k0_t25 : Fin k0_t25_loop.trips) : Fin 2 → Nat :=
  let c0_i32_443 : BitVec 32 := 0#32
  let c1_i32_445 : BitVec 32 := 1#32
  let arg18 : BitVec 32 := Scf.iv c0_i32_443 c1_i32_445 k0_t25
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_521 : Index := 240#32
  ![v1444.toNat, 240]
def k0_off339 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_321 : BitVec 32 := 3#32
  let v920 : BitVec 32 := Scalar.muli v1 c3_i32_321
  let c2_i32_322 : BitVec 32 := 2#32
  let v921 : BitVec 32 := Scalar.addi v920 c2_i32_322
  let c0_i32_324 : BitVec 32 := 0#32
  let v923 : BitVec 1 := Scalar.cmpi .sgt v921 c0_i32_324
  let v924 : BitVec 32 := Scalar.extui v923
  let c0_i32_325 : BitVec 32 := 0#32
  let v925 : BitVec 1 := Scalar.cmpi .slt v921 c0_i32_325
  let v926 : BitVec 32 := Scalar.extui v925
  let v927 : BitVec 32 := Scalar.subi v924 v926
  let c8_i32_323 : BitVec 32 := 8#32
  let c0_i32_326 : BitVec 32 := 0#32
  let v928 : BitVec 1 := Scalar.cmpi .sgt c8_i32_323 c0_i32_326
  let v929 : BitVec 32 := Scalar.extui v928
  let c0_i32_327 : BitVec 32 := 0#32
  let v930 : BitVec 1 := Scalar.cmpi .slt c8_i32_323 c0_i32_327
  let v931 : BitVec 32 := Scalar.extui v930
  let v932 : BitVec 32 := Scalar.subi v929 v931
  let v933 : BitVec 1 := Scalar.cmpi .ne v927 v932
  let v934 : BitVec 32 := Scalar.remsi v921 c8_i32_323
  let c0_i32_328 : BitVec 32 := 0#32
  let v935 : BitVec 1 := Scalar.cmpi .ne v934 c0_i32_328
  let v936 : BitVec 1 := Scalar.andi v933 v935
  let v922 : BitVec 32 := Scalar.divsi v921 c8_i32_323
  let c1_i32_329 : BitVec 32 := 1#32
  let v937 : BitVec 32 := Scalar.subi v922 c1_i32_329
  let v938 : BitVec 32 := Scalar.select v936 v937 v922
  let c1536_i32_447 : BitVec 32 := 1536#32
  let c8_i32_330 : BitVec 32 := 8#32
  let c0_i32_331 : BitVec 32 := 0#32
  let v939 : BitVec 1 := Scalar.cmpi .eq c8_i32_330 c0_i32_331
  let c1_i32_332 : BitVec 32 := 1#32
  let v940 : BitVec 32 := Scalar.select v939 c1_i32_332 c8_i32_330
  let v941 : BitVec 32 := Scalar.remsi v921 v940
  let c0_i32_334 : BitVec 32 := 0#32
  let v943 : BitVec 1 := Scalar.cmpi .slt v941 c0_i32_334
  let c0_i32_335 : BitVec 32 := 0#32
  let v944 : BitVec 1 := Scalar.cmpi .slt v940 c0_i32_335
  let v945 : BitVec 1 := Scalar.xori v943 v944
  let c0_i32_333 : BitVec 32 := 0#32
  let v942 : BitVec 1 := Scalar.cmpi .ne v941 c0_i32_333
  let v946 : BitVec 1 := Scalar.andi v945 v942
  let v947 : BitVec 32 := Scalar.addi v941 v940
  let v948 : BitVec 32 := Scalar.select v946 v947 v941
  let c256_i32_336 : BitVec 32 := 256#32
  let v949 : BitVec 32 := Scalar.muli v948 c256_i32_336
  ![v938.toNat, 1536, v949.toNat]
@[reducible] def k0_t26_loop : Scf.Loop 32 :=
  let c0_i32_451 : BitVec 32 := 0#32
  let c128_i32_452 : BitVec 32 := 128#32
  let v1314 : BitVec 32 := Scalar.addi c0_i32_451 c128_i32_452
  let c1_i32_453 : BitVec 32 := 1#32
  ⟨c0_i32_451, v1314, c1_i32_453⟩

def k0_chk23 (v1382 : IVec S16 32) : Prop :=
  (∀ a x, ((![v1382] : Fin 1 → IVec S16 32) a x).toNat < S1024.size a)
theorem k0_idx23_inb : ∀ (v1382 : IVec S16 32) (k0_hw23 : k0_chk23 v1382), ∀ a x, ((![v1382] : Fin 1 → IVec S16 32) a x).toNat < S1024.size a := fun v1382 k0_hw23 => k0_hw23
def k0_off340 (k0_t26 : Fin k0_t26_loop.trips) : Fin 2 → Nat :=
  let c0_i32_451 : BitVec 32 := 0#32
  let c1_i32_453 : BitVec 32 := 1#32
  let arg18 : BitVec 32 := Scf.iv c0_i32_451 c1_i32_453 k0_t26
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_505 : Index := 0#32
  ![v1384.toNat, 0]
def k0_off341 (k0_t26 : Fin k0_t26_loop.trips) : Fin 2 → Nat :=
  let c0_i32_451 : BitVec 32 := 0#32
  let c1_i32_453 : BitVec 32 := 1#32
  let arg18 : BitVec 32 := Scf.iv c0_i32_451 c1_i32_453 k0_t26
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_506 : Index := 16#32
  ![v1388.toNat, 16]
def k0_off342 (k0_t26 : Fin k0_t26_loop.trips) : Fin 2 → Nat :=
  let c0_i32_451 : BitVec 32 := 0#32
  let c1_i32_453 : BitVec 32 := 1#32
  let arg18 : BitVec 32 := Scf.iv c0_i32_451 c1_i32_453 k0_t26
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_507 : Index := 32#32
  ![v1392.toNat, 32]
def k0_off343 (k0_t26 : Fin k0_t26_loop.trips) : Fin 2 → Nat :=
  let c0_i32_451 : BitVec 32 := 0#32
  let c1_i32_453 : BitVec 32 := 1#32
  let arg18 : BitVec 32 := Scf.iv c0_i32_451 c1_i32_453 k0_t26
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_508 : Index := 48#32
  ![v1396.toNat, 48]
def k0_off344 (k0_t26 : Fin k0_t26_loop.trips) : Fin 2 → Nat :=
  let c0_i32_451 : BitVec 32 := 0#32
  let c1_i32_453 : BitVec 32 := 1#32
  let arg18 : BitVec 32 := Scf.iv c0_i32_451 c1_i32_453 k0_t26
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_509 : Index := 64#32
  ![v1400.toNat, 64]
def k0_off345 (k0_t26 : Fin k0_t26_loop.trips) : Fin 2 → Nat :=
  let c0_i32_451 : BitVec 32 := 0#32
  let c1_i32_453 : BitVec 32 := 1#32
  let arg18 : BitVec 32 := Scf.iv c0_i32_451 c1_i32_453 k0_t26
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_510 : Index := 80#32
  ![v1404.toNat, 80]
def k0_off346 (k0_t26 : Fin k0_t26_loop.trips) : Fin 2 → Nat :=
  let c0_i32_451 : BitVec 32 := 0#32
  let c1_i32_453 : BitVec 32 := 1#32
  let arg18 : BitVec 32 := Scf.iv c0_i32_451 c1_i32_453 k0_t26
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_511 : Index := 96#32
  ![v1408.toNat, 96]
def k0_off347 (k0_t26 : Fin k0_t26_loop.trips) : Fin 2 → Nat :=
  let c0_i32_451 : BitVec 32 := 0#32
  let c1_i32_453 : BitVec 32 := 1#32
  let arg18 : BitVec 32 := Scf.iv c0_i32_451 c1_i32_453 k0_t26
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_512 : Index := 112#32
  ![v1412.toNat, 112]
def k0_off348 (k0_t26 : Fin k0_t26_loop.trips) : Fin 2 → Nat :=
  let c0_i32_451 : BitVec 32 := 0#32
  let c1_i32_453 : BitVec 32 := 1#32
  let arg18 : BitVec 32 := Scf.iv c0_i32_451 c1_i32_453 k0_t26
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_513 : Index := 128#32
  ![v1416.toNat, 128]
def k0_off349 (k0_t26 : Fin k0_t26_loop.trips) : Fin 2 → Nat :=
  let c0_i32_451 : BitVec 32 := 0#32
  let c1_i32_453 : BitVec 32 := 1#32
  let arg18 : BitVec 32 := Scf.iv c0_i32_451 c1_i32_453 k0_t26
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_514 : Index := 144#32
  ![v1420.toNat, 144]
def k0_off350 (k0_t26 : Fin k0_t26_loop.trips) : Fin 2 → Nat :=
  let c0_i32_451 : BitVec 32 := 0#32
  let c1_i32_453 : BitVec 32 := 1#32
  let arg18 : BitVec 32 := Scf.iv c0_i32_451 c1_i32_453 k0_t26
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_515 : Index := 160#32
  ![v1424.toNat, 160]
def k0_off351 (k0_t26 : Fin k0_t26_loop.trips) : Fin 2 → Nat :=
  let c0_i32_451 : BitVec 32 := 0#32
  let c1_i32_453 : BitVec 32 := 1#32
  let arg18 : BitVec 32 := Scf.iv c0_i32_451 c1_i32_453 k0_t26
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_516 : Index := 176#32
  ![v1428.toNat, 176]
def k0_off352 (k0_t26 : Fin k0_t26_loop.trips) : Fin 2 → Nat :=
  let c0_i32_451 : BitVec 32 := 0#32
  let c1_i32_453 : BitVec 32 := 1#32
  let arg18 : BitVec 32 := Scf.iv c0_i32_451 c1_i32_453 k0_t26
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_517 : Index := 192#32
  ![v1432.toNat, 192]
def k0_off353 (k0_t26 : Fin k0_t26_loop.trips) : Fin 2 → Nat :=
  let c0_i32_451 : BitVec 32 := 0#32
  let c1_i32_453 : BitVec 32 := 1#32
  let arg18 : BitVec 32 := Scf.iv c0_i32_451 c1_i32_453 k0_t26
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_518 : Index := 208#32
  ![v1436.toNat, 208]
def k0_off354 (k0_t26 : Fin k0_t26_loop.trips) : Fin 2 → Nat :=
  let c0_i32_451 : BitVec 32 := 0#32
  let c1_i32_453 : BitVec 32 := 1#32
  let arg18 : BitVec 32 := Scf.iv c0_i32_451 c1_i32_453 k0_t26
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_519 : Index := 224#32
  ![v1440.toNat, 224]
def k0_off355 (k0_t26 : Fin k0_t26_loop.trips) : Fin 2 → Nat :=
  let c0_i32_451 : BitVec 32 := 0#32
  let c1_i32_453 : BitVec 32 := 1#32
  let arg18 : BitVec 32 := Scf.iv c0_i32_451 c1_i32_453 k0_t26
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_520 : Index := 240#32
  ![v1444.toNat, 240]
def k0_off356 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_321 : BitVec 32 := 3#32
  let v920 : BitVec 32 := Scalar.muli v1 c3_i32_321
  let c2_i32_322 : BitVec 32 := 2#32
  let v921 : BitVec 32 := Scalar.addi v920 c2_i32_322
  let c0_i32_324 : BitVec 32 := 0#32
  let v923 : BitVec 1 := Scalar.cmpi .sgt v921 c0_i32_324
  let v924 : BitVec 32 := Scalar.extui v923
  let c0_i32_325 : BitVec 32 := 0#32
  let v925 : BitVec 1 := Scalar.cmpi .slt v921 c0_i32_325
  let v926 : BitVec 32 := Scalar.extui v925
  let v927 : BitVec 32 := Scalar.subi v924 v926
  let c8_i32_323 : BitVec 32 := 8#32
  let c0_i32_326 : BitVec 32 := 0#32
  let v928 : BitVec 1 := Scalar.cmpi .sgt c8_i32_323 c0_i32_326
  let v929 : BitVec 32 := Scalar.extui v928
  let c0_i32_327 : BitVec 32 := 0#32
  let v930 : BitVec 1 := Scalar.cmpi .slt c8_i32_323 c0_i32_327
  let v931 : BitVec 32 := Scalar.extui v930
  let v932 : BitVec 32 := Scalar.subi v929 v931
  let v933 : BitVec 1 := Scalar.cmpi .ne v927 v932
  let v934 : BitVec 32 := Scalar.remsi v921 c8_i32_323
  let c0_i32_328 : BitVec 32 := 0#32
  let v935 : BitVec 1 := Scalar.cmpi .ne v934 c0_i32_328
  let v936 : BitVec 1 := Scalar.andi v933 v935
  let v922 : BitVec 32 := Scalar.divsi v921 c8_i32_323
  let c1_i32_329 : BitVec 32 := 1#32
  let v937 : BitVec 32 := Scalar.subi v922 c1_i32_329
  let v938 : BitVec 32 := Scalar.select v936 v937 v922
  let c1664_i32_455 : BitVec 32 := 1664#32
  let c8_i32_330 : BitVec 32 := 8#32
  let c0_i32_331 : BitVec 32 := 0#32
  let v939 : BitVec 1 := Scalar.cmpi .eq c8_i32_330 c0_i32_331
  let c1_i32_332 : BitVec 32 := 1#32
  let v940 : BitVec 32 := Scalar.select v939 c1_i32_332 c8_i32_330
  let v941 : BitVec 32 := Scalar.remsi v921 v940
  let c0_i32_334 : BitVec 32 := 0#32
  let v943 : BitVec 1 := Scalar.cmpi .slt v941 c0_i32_334
  let c0_i32_335 : BitVec 32 := 0#32
  let v944 : BitVec 1 := Scalar.cmpi .slt v940 c0_i32_335
  let v945 : BitVec 1 := Scalar.xori v943 v944
  let c0_i32_333 : BitVec 32 := 0#32
  let v942 : BitVec 1 := Scalar.cmpi .ne v941 c0_i32_333
  let v946 : BitVec 1 := Scalar.andi v945 v942
  let v947 : BitVec 32 := Scalar.addi v941 v940
  let v948 : BitVec 32 := Scalar.select v946 v947 v941
  let c256_i32_336 : BitVec 32 := 256#32
  let v949 : BitVec 32 := Scalar.muli v948 c256_i32_336
  ![v938.toNat, 1664, v949.toNat]
@[reducible] def k0_t27_loop : Scf.Loop 32 :=
  let c0_i32_459 : BitVec 32 := 0#32
  let c128_i32_460 : BitVec 32 := 128#32
  let v1324 : BitVec 32 := Scalar.addi c0_i32_459 c128_i32_460
  let c1_i32_461 : BitVec 32 := 1#32
  ⟨c0_i32_459, v1324, c1_i32_461⟩

def k0_chk24 (v1382 : IVec S16 32) : Prop :=
  (∀ a x, ((![v1382] : Fin 1 → IVec S16 32) a x).toNat < S1024.size a)
theorem k0_idx24_inb : ∀ (v1382 : IVec S16 32) (k0_hw24 : k0_chk24 v1382), ∀ a x, ((![v1382] : Fin 1 → IVec S16 32) a x).toNat < S1024.size a := fun v1382 k0_hw24 => k0_hw24
def k0_off357 (k0_t27 : Fin k0_t27_loop.trips) : Fin 2 → Nat :=
  let c0_i32_459 : BitVec 32 := 0#32
  let c1_i32_461 : BitVec 32 := 1#32
  let arg18 : BitVec 32 := Scf.iv c0_i32_459 c1_i32_461 k0_t27
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_505 : Index := 0#32
  ![v1384.toNat, 0]
def k0_off358 (k0_t27 : Fin k0_t27_loop.trips) : Fin 2 → Nat :=
  let c0_i32_459 : BitVec 32 := 0#32
  let c1_i32_461 : BitVec 32 := 1#32
  let arg18 : BitVec 32 := Scf.iv c0_i32_459 c1_i32_461 k0_t27
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_506 : Index := 16#32
  ![v1388.toNat, 16]
def k0_off359 (k0_t27 : Fin k0_t27_loop.trips) : Fin 2 → Nat :=
  let c0_i32_459 : BitVec 32 := 0#32
  let c1_i32_461 : BitVec 32 := 1#32
  let arg18 : BitVec 32 := Scf.iv c0_i32_459 c1_i32_461 k0_t27
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_507 : Index := 32#32
  ![v1392.toNat, 32]
def k0_off360 (k0_t27 : Fin k0_t27_loop.trips) : Fin 2 → Nat :=
  let c0_i32_459 : BitVec 32 := 0#32
  let c1_i32_461 : BitVec 32 := 1#32
  let arg18 : BitVec 32 := Scf.iv c0_i32_459 c1_i32_461 k0_t27
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_508 : Index := 48#32
  ![v1396.toNat, 48]
def k0_off361 (k0_t27 : Fin k0_t27_loop.trips) : Fin 2 → Nat :=
  let c0_i32_459 : BitVec 32 := 0#32
  let c1_i32_461 : BitVec 32 := 1#32
  let arg18 : BitVec 32 := Scf.iv c0_i32_459 c1_i32_461 k0_t27
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_509 : Index := 64#32
  ![v1400.toNat, 64]
def k0_off362 (k0_t27 : Fin k0_t27_loop.trips) : Fin 2 → Nat :=
  let c0_i32_459 : BitVec 32 := 0#32
  let c1_i32_461 : BitVec 32 := 1#32
  let arg18 : BitVec 32 := Scf.iv c0_i32_459 c1_i32_461 k0_t27
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_510 : Index := 80#32
  ![v1404.toNat, 80]
def k0_off363 (k0_t27 : Fin k0_t27_loop.trips) : Fin 2 → Nat :=
  let c0_i32_459 : BitVec 32 := 0#32
  let c1_i32_461 : BitVec 32 := 1#32
  let arg18 : BitVec 32 := Scf.iv c0_i32_459 c1_i32_461 k0_t27
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_511 : Index := 96#32
  ![v1408.toNat, 96]
def k0_off364 (k0_t27 : Fin k0_t27_loop.trips) : Fin 2 → Nat :=
  let c0_i32_459 : BitVec 32 := 0#32
  let c1_i32_461 : BitVec 32 := 1#32
  let arg18 : BitVec 32 := Scf.iv c0_i32_459 c1_i32_461 k0_t27
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_512 : Index := 112#32
  ![v1412.toNat, 112]
def k0_off365 (k0_t27 : Fin k0_t27_loop.trips) : Fin 2 → Nat :=
  let c0_i32_459 : BitVec 32 := 0#32
  let c1_i32_461 : BitVec 32 := 1#32
  let arg18 : BitVec 32 := Scf.iv c0_i32_459 c1_i32_461 k0_t27
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_513 : Index := 128#32
  ![v1416.toNat, 128]
def k0_off366 (k0_t27 : Fin k0_t27_loop.trips) : Fin 2 → Nat :=
  let c0_i32_459 : BitVec 32 := 0#32
  let c1_i32_461 : BitVec 32 := 1#32
  let arg18 : BitVec 32 := Scf.iv c0_i32_459 c1_i32_461 k0_t27
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_514 : Index := 144#32
  ![v1420.toNat, 144]
def k0_off367 (k0_t27 : Fin k0_t27_loop.trips) : Fin 2 → Nat :=
  let c0_i32_459 : BitVec 32 := 0#32
  let c1_i32_461 : BitVec 32 := 1#32
  let arg18 : BitVec 32 := Scf.iv c0_i32_459 c1_i32_461 k0_t27
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_515 : Index := 160#32
  ![v1424.toNat, 160]
def k0_off368 (k0_t27 : Fin k0_t27_loop.trips) : Fin 2 → Nat :=
  let c0_i32_459 : BitVec 32 := 0#32
  let c1_i32_461 : BitVec 32 := 1#32
  let arg18 : BitVec 32 := Scf.iv c0_i32_459 c1_i32_461 k0_t27
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_516 : Index := 176#32
  ![v1428.toNat, 176]
def k0_off369 (k0_t27 : Fin k0_t27_loop.trips) : Fin 2 → Nat :=
  let c0_i32_459 : BitVec 32 := 0#32
  let c1_i32_461 : BitVec 32 := 1#32
  let arg18 : BitVec 32 := Scf.iv c0_i32_459 c1_i32_461 k0_t27
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_517 : Index := 192#32
  ![v1432.toNat, 192]
def k0_off370 (k0_t27 : Fin k0_t27_loop.trips) : Fin 2 → Nat :=
  let c0_i32_459 : BitVec 32 := 0#32
  let c1_i32_461 : BitVec 32 := 1#32
  let arg18 : BitVec 32 := Scf.iv c0_i32_459 c1_i32_461 k0_t27
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_518 : Index := 208#32
  ![v1436.toNat, 208]
def k0_off371 (k0_t27 : Fin k0_t27_loop.trips) : Fin 2 → Nat :=
  let c0_i32_459 : BitVec 32 := 0#32
  let c1_i32_461 : BitVec 32 := 1#32
  let arg18 : BitVec 32 := Scf.iv c0_i32_459 c1_i32_461 k0_t27
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_519 : Index := 224#32
  ![v1440.toNat, 224]
def k0_off372 (k0_t27 : Fin k0_t27_loop.trips) : Fin 2 → Nat :=
  let c0_i32_459 : BitVec 32 := 0#32
  let c1_i32_461 : BitVec 32 := 1#32
  let arg18 : BitVec 32 := Scf.iv c0_i32_459 c1_i32_461 k0_t27
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_520 : Index := 240#32
  ![v1444.toNat, 240]
def k0_off373 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_321 : BitVec 32 := 3#32
  let v920 : BitVec 32 := Scalar.muli v1 c3_i32_321
  let c2_i32_322 : BitVec 32 := 2#32
  let v921 : BitVec 32 := Scalar.addi v920 c2_i32_322
  let c0_i32_324 : BitVec 32 := 0#32
  let v923 : BitVec 1 := Scalar.cmpi .sgt v921 c0_i32_324
  let v924 : BitVec 32 := Scalar.extui v923
  let c0_i32_325 : BitVec 32 := 0#32
  let v925 : BitVec 1 := Scalar.cmpi .slt v921 c0_i32_325
  let v926 : BitVec 32 := Scalar.extui v925
  let v927 : BitVec 32 := Scalar.subi v924 v926
  let c8_i32_323 : BitVec 32 := 8#32
  let c0_i32_326 : BitVec 32 := 0#32
  let v928 : BitVec 1 := Scalar.cmpi .sgt c8_i32_323 c0_i32_326
  let v929 : BitVec 32 := Scalar.extui v928
  let c0_i32_327 : BitVec 32 := 0#32
  let v930 : BitVec 1 := Scalar.cmpi .slt c8_i32_323 c0_i32_327
  let v931 : BitVec 32 := Scalar.extui v930
  let v932 : BitVec 32 := Scalar.subi v929 v931
  let v933 : BitVec 1 := Scalar.cmpi .ne v927 v932
  let v934 : BitVec 32 := Scalar.remsi v921 c8_i32_323
  let c0_i32_328 : BitVec 32 := 0#32
  let v935 : BitVec 1 := Scalar.cmpi .ne v934 c0_i32_328
  let v936 : BitVec 1 := Scalar.andi v933 v935
  let v922 : BitVec 32 := Scalar.divsi v921 c8_i32_323
  let c1_i32_329 : BitVec 32 := 1#32
  let v937 : BitVec 32 := Scalar.subi v922 c1_i32_329
  let v938 : BitVec 32 := Scalar.select v936 v937 v922
  let c1792_i32_463 : BitVec 32 := 1792#32
  let c8_i32_330 : BitVec 32 := 8#32
  let c0_i32_331 : BitVec 32 := 0#32
  let v939 : BitVec 1 := Scalar.cmpi .eq c8_i32_330 c0_i32_331
  let c1_i32_332 : BitVec 32 := 1#32
  let v940 : BitVec 32 := Scalar.select v939 c1_i32_332 c8_i32_330
  let v941 : BitVec 32 := Scalar.remsi v921 v940
  let c0_i32_334 : BitVec 32 := 0#32
  let v943 : BitVec 1 := Scalar.cmpi .slt v941 c0_i32_334
  let c0_i32_335 : BitVec 32 := 0#32
  let v944 : BitVec 1 := Scalar.cmpi .slt v940 c0_i32_335
  let v945 : BitVec 1 := Scalar.xori v943 v944
  let c0_i32_333 : BitVec 32 := 0#32
  let v942 : BitVec 1 := Scalar.cmpi .ne v941 c0_i32_333
  let v946 : BitVec 1 := Scalar.andi v945 v942
  let v947 : BitVec 32 := Scalar.addi v941 v940
  let v948 : BitVec 32 := Scalar.select v946 v947 v941
  let c256_i32_336 : BitVec 32 := 256#32
  let v949 : BitVec 32 := Scalar.muli v948 c256_i32_336
  ![v938.toNat, 1792, v949.toNat]
@[reducible] def k0_t28_loop : Scf.Loop 32 :=
  let c0_i32_467 : BitVec 32 := 0#32
  let c128_i32_468 : BitVec 32 := 128#32
  let v1334 : BitVec 32 := Scalar.addi c0_i32_467 c128_i32_468
  let c1_i32_469 : BitVec 32 := 1#32
  ⟨c0_i32_467, v1334, c1_i32_469⟩

def k0_chk25 (v1382 : IVec S16 32) : Prop :=
  (∀ a x, ((![v1382] : Fin 1 → IVec S16 32) a x).toNat < S1024.size a)
theorem k0_idx25_inb : ∀ (v1382 : IVec S16 32) (k0_hw25 : k0_chk25 v1382), ∀ a x, ((![v1382] : Fin 1 → IVec S16 32) a x).toNat < S1024.size a := fun v1382 k0_hw25 => k0_hw25
def k0_off374 (k0_t28 : Fin k0_t28_loop.trips) : Fin 2 → Nat :=
  let c0_i32_467 : BitVec 32 := 0#32
  let c1_i32_469 : BitVec 32 := 1#32
  let arg18 : BitVec 32 := Scf.iv c0_i32_467 c1_i32_469 k0_t28
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_505 : Index := 0#32
  ![v1384.toNat, 0]
def k0_off375 (k0_t28 : Fin k0_t28_loop.trips) : Fin 2 → Nat :=
  let c0_i32_467 : BitVec 32 := 0#32
  let c1_i32_469 : BitVec 32 := 1#32
  let arg18 : BitVec 32 := Scf.iv c0_i32_467 c1_i32_469 k0_t28
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_506 : Index := 16#32
  ![v1388.toNat, 16]
def k0_off376 (k0_t28 : Fin k0_t28_loop.trips) : Fin 2 → Nat :=
  let c0_i32_467 : BitVec 32 := 0#32
  let c1_i32_469 : BitVec 32 := 1#32
  let arg18 : BitVec 32 := Scf.iv c0_i32_467 c1_i32_469 k0_t28
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_507 : Index := 32#32
  ![v1392.toNat, 32]
def k0_off377 (k0_t28 : Fin k0_t28_loop.trips) : Fin 2 → Nat :=
  let c0_i32_467 : BitVec 32 := 0#32
  let c1_i32_469 : BitVec 32 := 1#32
  let arg18 : BitVec 32 := Scf.iv c0_i32_467 c1_i32_469 k0_t28
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_508 : Index := 48#32
  ![v1396.toNat, 48]
def k0_off378 (k0_t28 : Fin k0_t28_loop.trips) : Fin 2 → Nat :=
  let c0_i32_467 : BitVec 32 := 0#32
  let c1_i32_469 : BitVec 32 := 1#32
  let arg18 : BitVec 32 := Scf.iv c0_i32_467 c1_i32_469 k0_t28
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_509 : Index := 64#32
  ![v1400.toNat, 64]
def k0_off379 (k0_t28 : Fin k0_t28_loop.trips) : Fin 2 → Nat :=
  let c0_i32_467 : BitVec 32 := 0#32
  let c1_i32_469 : BitVec 32 := 1#32
  let arg18 : BitVec 32 := Scf.iv c0_i32_467 c1_i32_469 k0_t28
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_510 : Index := 80#32
  ![v1404.toNat, 80]
def k0_off380 (k0_t28 : Fin k0_t28_loop.trips) : Fin 2 → Nat :=
  let c0_i32_467 : BitVec 32 := 0#32
  let c1_i32_469 : BitVec 32 := 1#32
  let arg18 : BitVec 32 := Scf.iv c0_i32_467 c1_i32_469 k0_t28
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_511 : Index := 96#32
  ![v1408.toNat, 96]
def k0_off381 (k0_t28 : Fin k0_t28_loop.trips) : Fin 2 → Nat :=
  let c0_i32_467 : BitVec 32 := 0#32
  let c1_i32_469 : BitVec 32 := 1#32
  let arg18 : BitVec 32 := Scf.iv c0_i32_467 c1_i32_469 k0_t28
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_512 : Index := 112#32
  ![v1412.toNat, 112]
def k0_off382 (k0_t28 : Fin k0_t28_loop.trips) : Fin 2 → Nat :=
  let c0_i32_467 : BitVec 32 := 0#32
  let c1_i32_469 : BitVec 32 := 1#32
  let arg18 : BitVec 32 := Scf.iv c0_i32_467 c1_i32_469 k0_t28
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_513 : Index := 128#32
  ![v1416.toNat, 128]
def k0_off383 (k0_t28 : Fin k0_t28_loop.trips) : Fin 2 → Nat :=
  let c0_i32_467 : BitVec 32 := 0#32
  let c1_i32_469 : BitVec 32 := 1#32
  let arg18 : BitVec 32 := Scf.iv c0_i32_467 c1_i32_469 k0_t28
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_514 : Index := 144#32
  ![v1420.toNat, 144]
def k0_off384 (k0_t28 : Fin k0_t28_loop.trips) : Fin 2 → Nat :=
  let c0_i32_467 : BitVec 32 := 0#32
  let c1_i32_469 : BitVec 32 := 1#32
  let arg18 : BitVec 32 := Scf.iv c0_i32_467 c1_i32_469 k0_t28
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_515 : Index := 160#32
  ![v1424.toNat, 160]
def k0_off385 (k0_t28 : Fin k0_t28_loop.trips) : Fin 2 → Nat :=
  let c0_i32_467 : BitVec 32 := 0#32
  let c1_i32_469 : BitVec 32 := 1#32
  let arg18 : BitVec 32 := Scf.iv c0_i32_467 c1_i32_469 k0_t28
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_516 : Index := 176#32
  ![v1428.toNat, 176]
def k0_off386 (k0_t28 : Fin k0_t28_loop.trips) : Fin 2 → Nat :=
  let c0_i32_467 : BitVec 32 := 0#32
  let c1_i32_469 : BitVec 32 := 1#32
  let arg18 : BitVec 32 := Scf.iv c0_i32_467 c1_i32_469 k0_t28
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_517 : Index := 192#32
  ![v1432.toNat, 192]
def k0_off387 (k0_t28 : Fin k0_t28_loop.trips) : Fin 2 → Nat :=
  let c0_i32_467 : BitVec 32 := 0#32
  let c1_i32_469 : BitVec 32 := 1#32
  let arg18 : BitVec 32 := Scf.iv c0_i32_467 c1_i32_469 k0_t28
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_518 : Index := 208#32
  ![v1436.toNat, 208]
def k0_off388 (k0_t28 : Fin k0_t28_loop.trips) : Fin 2 → Nat :=
  let c0_i32_467 : BitVec 32 := 0#32
  let c1_i32_469 : BitVec 32 := 1#32
  let arg18 : BitVec 32 := Scf.iv c0_i32_467 c1_i32_469 k0_t28
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_519 : Index := 224#32
  ![v1440.toNat, 224]
def k0_off389 (k0_t28 : Fin k0_t28_loop.trips) : Fin 2 → Nat :=
  let c0_i32_467 : BitVec 32 := 0#32
  let c1_i32_469 : BitVec 32 := 1#32
  let arg18 : BitVec 32 := Scf.iv c0_i32_467 c1_i32_469 k0_t28
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_520 : Index := 240#32
  ![v1444.toNat, 240]
def k0_off390 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_321 : BitVec 32 := 3#32
  let v920 : BitVec 32 := Scalar.muli v1 c3_i32_321
  let c2_i32_322 : BitVec 32 := 2#32
  let v921 : BitVec 32 := Scalar.addi v920 c2_i32_322
  let c0_i32_324 : BitVec 32 := 0#32
  let v923 : BitVec 1 := Scalar.cmpi .sgt v921 c0_i32_324
  let v924 : BitVec 32 := Scalar.extui v923
  let c0_i32_325 : BitVec 32 := 0#32
  let v925 : BitVec 1 := Scalar.cmpi .slt v921 c0_i32_325
  let v926 : BitVec 32 := Scalar.extui v925
  let v927 : BitVec 32 := Scalar.subi v924 v926
  let c8_i32_323 : BitVec 32 := 8#32
  let c0_i32_326 : BitVec 32 := 0#32
  let v928 : BitVec 1 := Scalar.cmpi .sgt c8_i32_323 c0_i32_326
  let v929 : BitVec 32 := Scalar.extui v928
  let c0_i32_327 : BitVec 32 := 0#32
  let v930 : BitVec 1 := Scalar.cmpi .slt c8_i32_323 c0_i32_327
  let v931 : BitVec 32 := Scalar.extui v930
  let v932 : BitVec 32 := Scalar.subi v929 v931
  let v933 : BitVec 1 := Scalar.cmpi .ne v927 v932
  let v934 : BitVec 32 := Scalar.remsi v921 c8_i32_323
  let c0_i32_328 : BitVec 32 := 0#32
  let v935 : BitVec 1 := Scalar.cmpi .ne v934 c0_i32_328
  let v936 : BitVec 1 := Scalar.andi v933 v935
  let v922 : BitVec 32 := Scalar.divsi v921 c8_i32_323
  let c1_i32_329 : BitVec 32 := 1#32
  let v937 : BitVec 32 := Scalar.subi v922 c1_i32_329
  let v938 : BitVec 32 := Scalar.select v936 v937 v922
  let c1920_i32_471 : BitVec 32 := 1920#32
  let c8_i32_330 : BitVec 32 := 8#32
  let c0_i32_331 : BitVec 32 := 0#32
  let v939 : BitVec 1 := Scalar.cmpi .eq c8_i32_330 c0_i32_331
  let c1_i32_332 : BitVec 32 := 1#32
  let v940 : BitVec 32 := Scalar.select v939 c1_i32_332 c8_i32_330
  let v941 : BitVec 32 := Scalar.remsi v921 v940
  let c0_i32_334 : BitVec 32 := 0#32
  let v943 : BitVec 1 := Scalar.cmpi .slt v941 c0_i32_334
  let c0_i32_335 : BitVec 32 := 0#32
  let v944 : BitVec 1 := Scalar.cmpi .slt v940 c0_i32_335
  let v945 : BitVec 1 := Scalar.xori v943 v944
  let c0_i32_333 : BitVec 32 := 0#32
  let v942 : BitVec 1 := Scalar.cmpi .ne v941 c0_i32_333
  let v946 : BitVec 1 := Scalar.andi v945 v942
  let v947 : BitVec 32 := Scalar.addi v941 v940
  let v948 : BitVec 32 := Scalar.select v946 v947 v941
  let c256_i32_336 : BitVec 32 := 256#32
  let v949 : BitVec 32 := Scalar.muli v948 c256_i32_336
  ![v938.toNat, 1920, v949.toNat]
@[reducible] def k0_t29_loop : Scf.Loop 32 :=
  let c0_i32_475 : BitVec 32 := 0#32
  let c128_i32_476 : BitVec 32 := 128#32
  let v1344 : BitVec 32 := Scalar.addi c0_i32_475 c128_i32_476
  let c1_i32_477 : BitVec 32 := 1#32
  ⟨c0_i32_475, v1344, c1_i32_477⟩

def k0_chk26 (v1382 : IVec S16 32) : Prop :=
  (∀ a x, ((![v1382] : Fin 1 → IVec S16 32) a x).toNat < S1024.size a)
theorem k0_idx26_inb : ∀ (v1382 : IVec S16 32) (k0_hw26 : k0_chk26 v1382), ∀ a x, ((![v1382] : Fin 1 → IVec S16 32) a x).toNat < S1024.size a := fun v1382 k0_hw26 => k0_hw26
def k0_off391 (k0_t29 : Fin k0_t29_loop.trips) : Fin 2 → Nat :=
  let c0_i32_475 : BitVec 32 := 0#32
  let c1_i32_477 : BitVec 32 := 1#32
  let arg18 : BitVec 32 := Scf.iv c0_i32_475 c1_i32_477 k0_t29
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_505 : Index := 0#32
  ![v1384.toNat, 0]
def k0_off392 (k0_t29 : Fin k0_t29_loop.trips) : Fin 2 → Nat :=
  let c0_i32_475 : BitVec 32 := 0#32
  let c1_i32_477 : BitVec 32 := 1#32
  let arg18 : BitVec 32 := Scf.iv c0_i32_475 c1_i32_477 k0_t29
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_506 : Index := 16#32
  ![v1388.toNat, 16]
def k0_off393 (k0_t29 : Fin k0_t29_loop.trips) : Fin 2 → Nat :=
  let c0_i32_475 : BitVec 32 := 0#32
  let c1_i32_477 : BitVec 32 := 1#32
  let arg18 : BitVec 32 := Scf.iv c0_i32_475 c1_i32_477 k0_t29
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_507 : Index := 32#32
  ![v1392.toNat, 32]
def k0_off394 (k0_t29 : Fin k0_t29_loop.trips) : Fin 2 → Nat :=
  let c0_i32_475 : BitVec 32 := 0#32
  let c1_i32_477 : BitVec 32 := 1#32
  let arg18 : BitVec 32 := Scf.iv c0_i32_475 c1_i32_477 k0_t29
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_508 : Index := 48#32
  ![v1396.toNat, 48]
def k0_off395 (k0_t29 : Fin k0_t29_loop.trips) : Fin 2 → Nat :=
  let c0_i32_475 : BitVec 32 := 0#32
  let c1_i32_477 : BitVec 32 := 1#32
  let arg18 : BitVec 32 := Scf.iv c0_i32_475 c1_i32_477 k0_t29
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_509 : Index := 64#32
  ![v1400.toNat, 64]
def k0_off396 (k0_t29 : Fin k0_t29_loop.trips) : Fin 2 → Nat :=
  let c0_i32_475 : BitVec 32 := 0#32
  let c1_i32_477 : BitVec 32 := 1#32
  let arg18 : BitVec 32 := Scf.iv c0_i32_475 c1_i32_477 k0_t29
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_510 : Index := 80#32
  ![v1404.toNat, 80]
def k0_off397 (k0_t29 : Fin k0_t29_loop.trips) : Fin 2 → Nat :=
  let c0_i32_475 : BitVec 32 := 0#32
  let c1_i32_477 : BitVec 32 := 1#32
  let arg18 : BitVec 32 := Scf.iv c0_i32_475 c1_i32_477 k0_t29
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_511 : Index := 96#32
  ![v1408.toNat, 96]
def k0_off398 (k0_t29 : Fin k0_t29_loop.trips) : Fin 2 → Nat :=
  let c0_i32_475 : BitVec 32 := 0#32
  let c1_i32_477 : BitVec 32 := 1#32
  let arg18 : BitVec 32 := Scf.iv c0_i32_475 c1_i32_477 k0_t29
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_512 : Index := 112#32
  ![v1412.toNat, 112]
def k0_off399 (k0_t29 : Fin k0_t29_loop.trips) : Fin 2 → Nat :=
  let c0_i32_475 : BitVec 32 := 0#32
  let c1_i32_477 : BitVec 32 := 1#32
  let arg18 : BitVec 32 := Scf.iv c0_i32_475 c1_i32_477 k0_t29
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_513 : Index := 128#32
  ![v1416.toNat, 128]
def k0_off400 (k0_t29 : Fin k0_t29_loop.trips) : Fin 2 → Nat :=
  let c0_i32_475 : BitVec 32 := 0#32
  let c1_i32_477 : BitVec 32 := 1#32
  let arg18 : BitVec 32 := Scf.iv c0_i32_475 c1_i32_477 k0_t29
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_514 : Index := 144#32
  ![v1420.toNat, 144]
def k0_off401 (k0_t29 : Fin k0_t29_loop.trips) : Fin 2 → Nat :=
  let c0_i32_475 : BitVec 32 := 0#32
  let c1_i32_477 : BitVec 32 := 1#32
  let arg18 : BitVec 32 := Scf.iv c0_i32_475 c1_i32_477 k0_t29
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_515 : Index := 160#32
  ![v1424.toNat, 160]
def k0_off402 (k0_t29 : Fin k0_t29_loop.trips) : Fin 2 → Nat :=
  let c0_i32_475 : BitVec 32 := 0#32
  let c1_i32_477 : BitVec 32 := 1#32
  let arg18 : BitVec 32 := Scf.iv c0_i32_475 c1_i32_477 k0_t29
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_516 : Index := 176#32
  ![v1428.toNat, 176]
def k0_off403 (k0_t29 : Fin k0_t29_loop.trips) : Fin 2 → Nat :=
  let c0_i32_475 : BitVec 32 := 0#32
  let c1_i32_477 : BitVec 32 := 1#32
  let arg18 : BitVec 32 := Scf.iv c0_i32_475 c1_i32_477 k0_t29
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_517 : Index := 192#32
  ![v1432.toNat, 192]
def k0_off404 (k0_t29 : Fin k0_t29_loop.trips) : Fin 2 → Nat :=
  let c0_i32_475 : BitVec 32 := 0#32
  let c1_i32_477 : BitVec 32 := 1#32
  let arg18 : BitVec 32 := Scf.iv c0_i32_475 c1_i32_477 k0_t29
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_518 : Index := 208#32
  ![v1436.toNat, 208]
def k0_off405 (k0_t29 : Fin k0_t29_loop.trips) : Fin 2 → Nat :=
  let c0_i32_475 : BitVec 32 := 0#32
  let c1_i32_477 : BitVec 32 := 1#32
  let arg18 : BitVec 32 := Scf.iv c0_i32_475 c1_i32_477 k0_t29
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_519 : Index := 224#32
  ![v1440.toNat, 224]
def k0_off406 (k0_t29 : Fin k0_t29_loop.trips) : Fin 2 → Nat :=
  let c0_i32_475 : BitVec 32 := 0#32
  let c1_i32_477 : BitVec 32 := 1#32
  let arg18 : BitVec 32 := Scf.iv c0_i32_475 c1_i32_477 k0_t29
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_520 : Index := 240#32
  ![v1444.toNat, 240]
@[reducible] def k0_t30_loop : Scf.Loop 32 :=
  let c0_i32_481 : BitVec 32 := 0#32
  let c128_i32_482 : BitVec 32 := 128#32
  let v1350 : BitVec 32 := Scalar.addi c0_i32_481 c128_i32_482
  let c1_i32_483 : BitVec 32 := 1#32
  ⟨c0_i32_481, v1350, c1_i32_483⟩

def k0_chk27 (v1382 : IVec S16 32) : Prop :=
  (∀ a x, ((![v1382] : Fin 1 → IVec S16 32) a x).toNat < S1024.size a)
theorem k0_idx27_inb : ∀ (v1382 : IVec S16 32) (k0_hw27 : k0_chk27 v1382), ∀ a x, ((![v1382] : Fin 1 → IVec S16 32) a x).toNat < S1024.size a := fun v1382 k0_hw27 => k0_hw27
def k0_off407 (k0_t30 : Fin k0_t30_loop.trips) : Fin 2 → Nat :=
  let c0_i32_481 : BitVec 32 := 0#32
  let c1_i32_483 : BitVec 32 := 1#32
  let arg18 : BitVec 32 := Scf.iv c0_i32_481 c1_i32_483 k0_t30
  let c1_i32_503 : BitVec 32 := 1#32
  let v1379 : BitVec 32 := Scalar.muli arg18 c1_i32_503
  let c0_i32_504 : BitVec 32 := 0#32
  let v1380 : BitVec 32 := Scalar.addi v1379 c0_i32_504
  let v1384 : Index := Scalar.indexCast v1380
  let c0_505 : Index := 0#32
  ![v1384.toNat, 0]
def k0_off408 (k0_t30 : Fin k0_t30_loop.trips) : Fin 2 → Nat :=
  let c0_i32_481 : BitVec 32 := 0#32
  let c1_i32_483 : BitVec 32 := 1#32
  let arg18 : BitVec 32 := Scf.iv c0_i32_481 c1_i32_483 k0_t30
  let c1_i32_503 : BitVec 32 := 1#32
  let v1379 : BitVec 32 := Scalar.muli arg18 c1_i32_503
  let c0_i32_504 : BitVec 32 := 0#32
  let v1380 : BitVec 32 := Scalar.addi v1379 c0_i32_504
  let v1388 : Index := Scalar.indexCast v1380
  let c16_506 : Index := 16#32
  ![v1388.toNat, 16]
def k0_off409 (k0_t30 : Fin k0_t30_loop.trips) : Fin 2 → Nat :=
  let c0_i32_481 : BitVec 32 := 0#32
  let c1_i32_483 : BitVec 32 := 1#32
  let arg18 : BitVec 32 := Scf.iv c0_i32_481 c1_i32_483 k0_t30
  let c1_i32_503 : BitVec 32 := 1#32
  let v1379 : BitVec 32 := Scalar.muli arg18 c1_i32_503
  let c0_i32_504 : BitVec 32 := 0#32
  let v1380 : BitVec 32 := Scalar.addi v1379 c0_i32_504
  let v1392 : Index := Scalar.indexCast v1380
  let c32_507 : Index := 32#32
  ![v1392.toNat, 32]
def k0_off410 (k0_t30 : Fin k0_t30_loop.trips) : Fin 2 → Nat :=
  let c0_i32_481 : BitVec 32 := 0#32
  let c1_i32_483 : BitVec 32 := 1#32
  let arg18 : BitVec 32 := Scf.iv c0_i32_481 c1_i32_483 k0_t30
  let c1_i32_503 : BitVec 32 := 1#32
  let v1379 : BitVec 32 := Scalar.muli arg18 c1_i32_503
  let c0_i32_504 : BitVec 32 := 0#32
  let v1380 : BitVec 32 := Scalar.addi v1379 c0_i32_504
  let v1396 : Index := Scalar.indexCast v1380
  let c48_508 : Index := 48#32
  ![v1396.toNat, 48]
def k0_off411 (k0_t30 : Fin k0_t30_loop.trips) : Fin 2 → Nat :=
  let c0_i32_481 : BitVec 32 := 0#32
  let c1_i32_483 : BitVec 32 := 1#32
  let arg18 : BitVec 32 := Scf.iv c0_i32_481 c1_i32_483 k0_t30
  let c1_i32_503 : BitVec 32 := 1#32
  let v1379 : BitVec 32 := Scalar.muli arg18 c1_i32_503
  let c0_i32_504 : BitVec 32 := 0#32
  let v1380 : BitVec 32 := Scalar.addi v1379 c0_i32_504
  let v1400 : Index := Scalar.indexCast v1380
  let c64_509 : Index := 64#32
  ![v1400.toNat, 64]
def k0_off412 (k0_t30 : Fin k0_t30_loop.trips) : Fin 2 → Nat :=
  let c0_i32_481 : BitVec 32 := 0#32
  let c1_i32_483 : BitVec 32 := 1#32
  let arg18 : BitVec 32 := Scf.iv c0_i32_481 c1_i32_483 k0_t30
  let c1_i32_503 : BitVec 32 := 1#32
  let v1379 : BitVec 32 := Scalar.muli arg18 c1_i32_503
  let c0_i32_504 : BitVec 32 := 0#32
  let v1380 : BitVec 32 := Scalar.addi v1379 c0_i32_504
  let v1404 : Index := Scalar.indexCast v1380
  let c80_510 : Index := 80#32
  ![v1404.toNat, 80]
def k0_off413 (k0_t30 : Fin k0_t30_loop.trips) : Fin 2 → Nat :=
  let c0_i32_481 : BitVec 32 := 0#32
  let c1_i32_483 : BitVec 32 := 1#32
  let arg18 : BitVec 32 := Scf.iv c0_i32_481 c1_i32_483 k0_t30
  let c1_i32_503 : BitVec 32 := 1#32
  let v1379 : BitVec 32 := Scalar.muli arg18 c1_i32_503
  let c0_i32_504 : BitVec 32 := 0#32
  let v1380 : BitVec 32 := Scalar.addi v1379 c0_i32_504
  let v1408 : Index := Scalar.indexCast v1380
  let c96_511 : Index := 96#32
  ![v1408.toNat, 96]
def k0_off414 (k0_t30 : Fin k0_t30_loop.trips) : Fin 2 → Nat :=
  let c0_i32_481 : BitVec 32 := 0#32
  let c1_i32_483 : BitVec 32 := 1#32
  let arg18 : BitVec 32 := Scf.iv c0_i32_481 c1_i32_483 k0_t30
  let c1_i32_503 : BitVec 32 := 1#32
  let v1379 : BitVec 32 := Scalar.muli arg18 c1_i32_503
  let c0_i32_504 : BitVec 32 := 0#32
  let v1380 : BitVec 32 := Scalar.addi v1379 c0_i32_504
  let v1412 : Index := Scalar.indexCast v1380
  let c112_512 : Index := 112#32
  ![v1412.toNat, 112]
def k0_off415 (k0_t30 : Fin k0_t30_loop.trips) : Fin 2 → Nat :=
  let c0_i32_481 : BitVec 32 := 0#32
  let c1_i32_483 : BitVec 32 := 1#32
  let arg18 : BitVec 32 := Scf.iv c0_i32_481 c1_i32_483 k0_t30
  let c1_i32_503 : BitVec 32 := 1#32
  let v1379 : BitVec 32 := Scalar.muli arg18 c1_i32_503
  let c0_i32_504 : BitVec 32 := 0#32
  let v1380 : BitVec 32 := Scalar.addi v1379 c0_i32_504
  let v1416 : Index := Scalar.indexCast v1380
  let c128_513 : Index := 128#32
  ![v1416.toNat, 128]
def k0_off416 (k0_t30 : Fin k0_t30_loop.trips) : Fin 2 → Nat :=
  let c0_i32_481 : BitVec 32 := 0#32
  let c1_i32_483 : BitVec 32 := 1#32
  let arg18 : BitVec 32 := Scf.iv c0_i32_481 c1_i32_483 k0_t30
  let c1_i32_503 : BitVec 32 := 1#32
  let v1379 : BitVec 32 := Scalar.muli arg18 c1_i32_503
  let c0_i32_504 : BitVec 32 := 0#32
  let v1380 : BitVec 32 := Scalar.addi v1379 c0_i32_504
  let v1420 : Index := Scalar.indexCast v1380
  let c144_514 : Index := 144#32
  ![v1420.toNat, 144]
def k0_off417 (k0_t30 : Fin k0_t30_loop.trips) : Fin 2 → Nat :=
  let c0_i32_481 : BitVec 32 := 0#32
  let c1_i32_483 : BitVec 32 := 1#32
  let arg18 : BitVec 32 := Scf.iv c0_i32_481 c1_i32_483 k0_t30
  let c1_i32_503 : BitVec 32 := 1#32
  let v1379 : BitVec 32 := Scalar.muli arg18 c1_i32_503
  let c0_i32_504 : BitVec 32 := 0#32
  let v1380 : BitVec 32 := Scalar.addi v1379 c0_i32_504
  let v1424 : Index := Scalar.indexCast v1380
  let c160_515 : Index := 160#32
  ![v1424.toNat, 160]
def k0_off418 (k0_t30 : Fin k0_t30_loop.trips) : Fin 2 → Nat :=
  let c0_i32_481 : BitVec 32 := 0#32
  let c1_i32_483 : BitVec 32 := 1#32
  let arg18 : BitVec 32 := Scf.iv c0_i32_481 c1_i32_483 k0_t30
  let c1_i32_503 : BitVec 32 := 1#32
  let v1379 : BitVec 32 := Scalar.muli arg18 c1_i32_503
  let c0_i32_504 : BitVec 32 := 0#32
  let v1380 : BitVec 32 := Scalar.addi v1379 c0_i32_504
  let v1428 : Index := Scalar.indexCast v1380
  let c176_516 : Index := 176#32
  ![v1428.toNat, 176]
def k0_off419 (k0_t30 : Fin k0_t30_loop.trips) : Fin 2 → Nat :=
  let c0_i32_481 : BitVec 32 := 0#32
  let c1_i32_483 : BitVec 32 := 1#32
  let arg18 : BitVec 32 := Scf.iv c0_i32_481 c1_i32_483 k0_t30
  let c1_i32_503 : BitVec 32 := 1#32
  let v1379 : BitVec 32 := Scalar.muli arg18 c1_i32_503
  let c0_i32_504 : BitVec 32 := 0#32
  let v1380 : BitVec 32 := Scalar.addi v1379 c0_i32_504
  let v1432 : Index := Scalar.indexCast v1380
  let c192_517 : Index := 192#32
  ![v1432.toNat, 192]
def k0_off420 (k0_t30 : Fin k0_t30_loop.trips) : Fin 2 → Nat :=
  let c0_i32_481 : BitVec 32 := 0#32
  let c1_i32_483 : BitVec 32 := 1#32
  let arg18 : BitVec 32 := Scf.iv c0_i32_481 c1_i32_483 k0_t30
  let c1_i32_503 : BitVec 32 := 1#32
  let v1379 : BitVec 32 := Scalar.muli arg18 c1_i32_503
  let c0_i32_504 : BitVec 32 := 0#32
  let v1380 : BitVec 32 := Scalar.addi v1379 c0_i32_504
  let v1436 : Index := Scalar.indexCast v1380
  let c208_518 : Index := 208#32
  ![v1436.toNat, 208]
def k0_off421 (k0_t30 : Fin k0_t30_loop.trips) : Fin 2 → Nat :=
  let c0_i32_481 : BitVec 32 := 0#32
  let c1_i32_483 : BitVec 32 := 1#32
  let arg18 : BitVec 32 := Scf.iv c0_i32_481 c1_i32_483 k0_t30
  let c1_i32_503 : BitVec 32 := 1#32
  let v1379 : BitVec 32 := Scalar.muli arg18 c1_i32_503
  let c0_i32_504 : BitVec 32 := 0#32
  let v1380 : BitVec 32 := Scalar.addi v1379 c0_i32_504
  let v1440 : Index := Scalar.indexCast v1380
  let c224_519 : Index := 224#32
  ![v1440.toNat, 224]
def k0_off422 (k0_t30 : Fin k0_t30_loop.trips) : Fin 2 → Nat :=
  let c0_i32_481 : BitVec 32 := 0#32
  let c1_i32_483 : BitVec 32 := 1#32
  let arg18 : BitVec 32 := Scf.iv c0_i32_481 c1_i32_483 k0_t30
  let c1_i32_503 : BitVec 32 := 1#32
  let v1379 : BitVec 32 := Scalar.muli arg18 c1_i32_503
  let c0_i32_504 : BitVec 32 := 0#32
  let v1380 : BitVec 32 := Scalar.addi v1379 c0_i32_504
  let v1444 : Index := Scalar.indexCast v1380
  let c240_520 : Index := 240#32
  ![v1444.toNat, 240]
def k0_off423 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_321 : BitVec 32 := 3#32
  let v920 : BitVec 32 := Scalar.muli v1 c3_i32_321
  let c2_i32_322 : BitVec 32 := 2#32
  let v921 : BitVec 32 := Scalar.addi v920 c2_i32_322
  let c0_i32_324 : BitVec 32 := 0#32
  let v923 : BitVec 1 := Scalar.cmpi .sgt v921 c0_i32_324
  let v924 : BitVec 32 := Scalar.extui v923
  let c0_i32_325 : BitVec 32 := 0#32
  let v925 : BitVec 1 := Scalar.cmpi .slt v921 c0_i32_325
  let v926 : BitVec 32 := Scalar.extui v925
  let v927 : BitVec 32 := Scalar.subi v924 v926
  let c8_i32_323 : BitVec 32 := 8#32
  let c0_i32_326 : BitVec 32 := 0#32
  let v928 : BitVec 1 := Scalar.cmpi .sgt c8_i32_323 c0_i32_326
  let v929 : BitVec 32 := Scalar.extui v928
  let c0_i32_327 : BitVec 32 := 0#32
  let v930 : BitVec 1 := Scalar.cmpi .slt c8_i32_323 c0_i32_327
  let v931 : BitVec 32 := Scalar.extui v930
  let v932 : BitVec 32 := Scalar.subi v929 v931
  let v933 : BitVec 1 := Scalar.cmpi .ne v927 v932
  let v934 : BitVec 32 := Scalar.remsi v921 c8_i32_323
  let c0_i32_328 : BitVec 32 := 0#32
  let v935 : BitVec 1 := Scalar.cmpi .ne v934 c0_i32_328
  let v936 : BitVec 1 := Scalar.andi v933 v935
  let v922 : BitVec 32 := Scalar.divsi v921 c8_i32_323
  let c1_i32_329 : BitVec 32 := 1#32
  let v937 : BitVec 32 := Scalar.subi v922 c1_i32_329
  let v938 : BitVec 32 := Scalar.select v936 v937 v922
  let c8_i32_330 : BitVec 32 := 8#32
  let c0_i32_331 : BitVec 32 := 0#32
  let v939 : BitVec 1 := Scalar.cmpi .eq c8_i32_330 c0_i32_331
  let c1_i32_332 : BitVec 32 := 1#32
  let v940 : BitVec 32 := Scalar.select v939 c1_i32_332 c8_i32_330
  let v941 : BitVec 32 := Scalar.remsi v921 v940
  let c0_i32_334 : BitVec 32 := 0#32
  let v943 : BitVec 1 := Scalar.cmpi .slt v941 c0_i32_334
  let c0_i32_335 : BitVec 32 := 0#32
  let v944 : BitVec 1 := Scalar.cmpi .slt v940 c0_i32_335
  let v945 : BitVec 1 := Scalar.xori v943 v944
  let c0_i32_333 : BitVec 32 := 0#32
  let v942 : BitVec 1 := Scalar.cmpi .ne v941 c0_i32_333
  let v946 : BitVec 1 := Scalar.andi v945 v942
  let v947 : BitVec 32 := Scalar.addi v941 v940
  let v948 : BitVec 32 := Scalar.select v946 v947 v941
  let c256_i32_336 : BitVec 32 := 256#32
  let v949 : BitVec 32 := Scalar.muli v948 c256_i32_336
  ![v938.toNat, v949.toNat]
def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_321 : BitVec 32 := 3#32
  let v920 : BitVec 32 := Scalar.muli v1 c3_i32_321
  let c2_i32_322 : BitVec 32 := 2#32
  let v921 : BitVec 32 := Scalar.addi v920 c2_i32_322
  let c8_i32_330 : BitVec 32 := 8#32
  let c0_i32_331 : BitVec 32 := 0#32
  let v939 : BitVec 1 := Scalar.cmpi .eq c8_i32_330 c0_i32_331
  let c1_i32_332 : BitVec 32 := 1#32
  let v940 : BitVec 32 := Scalar.select v939 c1_i32_332 c8_i32_330
  let v941 : BitVec 32 := Scalar.remsi v921 v940
  let c0_i32_334 : BitVec 32 := 0#32
  let v943 : BitVec 1 := Scalar.cmpi .slt v941 c0_i32_334
  let c0_i32_335 : BitVec 32 := 0#32
  let v944 : BitVec 1 := Scalar.cmpi .slt v940 c0_i32_335
  let v945 : BitVec 1 := Scalar.xori v943 v944
  let c0_i32_333 : BitVec 32 := 0#32
  let v942 : BitVec 1 := Scalar.cmpi .ne v941 c0_i32_333
  let v946 : BitVec 1 := Scalar.andi v945 v942
  let v947 : BitVec 32 := Scalar.addi v941 v940
  let v948 : BitVec 32 := Scalar.select v946 v947 v941
  let c256_i32_336 : BitVec 32 := 256#32
  let v949 : BitVec 32 := Scalar.muli v948 c256_i32_336
  let c0_i32_501 : BitVec 32 := 0#32
  let v1376 : BitVec 1 := Scalar.cmpi .eq v949 c0_i32_501
  let v1377 : BitVec 32 := Scalar.extui v1376
  let c0_i32_502 : BitVec 32 := 0#32
  let v1378 : BitVec 1 := Scalar.cmpi .ne v1377 c0_i32_502
  v1378

def k0_off424 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_321 : BitVec 32 := 3#32
  let v920 : BitVec 32 := Scalar.muli v1 c3_i32_321
  let c2_i32_322 : BitVec 32 := 2#32
  let v921 : BitVec 32 := Scalar.addi v920 c2_i32_322
  let c0_i32_324 : BitVec 32 := 0#32
  let v923 : BitVec 1 := Scalar.cmpi .sgt v921 c0_i32_324
  let v924 : BitVec 32 := Scalar.extui v923
  let c0_i32_325 : BitVec 32 := 0#32
  let v925 : BitVec 1 := Scalar.cmpi .slt v921 c0_i32_325
  let v926 : BitVec 32 := Scalar.extui v925
  let v927 : BitVec 32 := Scalar.subi v924 v926
  let c8_i32_323 : BitVec 32 := 8#32
  let c0_i32_326 : BitVec 32 := 0#32
  let v928 : BitVec 1 := Scalar.cmpi .sgt c8_i32_323 c0_i32_326
  let v929 : BitVec 32 := Scalar.extui v928
  let c0_i32_327 : BitVec 32 := 0#32
  let v930 : BitVec 1 := Scalar.cmpi .slt c8_i32_323 c0_i32_327
  let v931 : BitVec 32 := Scalar.extui v930
  let v932 : BitVec 32 := Scalar.subi v929 v931
  let v933 : BitVec 1 := Scalar.cmpi .ne v927 v932
  let v934 : BitVec 32 := Scalar.remsi v921 c8_i32_323
  let c0_i32_328 : BitVec 32 := 0#32
  let v935 : BitVec 1 := Scalar.cmpi .ne v934 c0_i32_328
  let v936 : BitVec 1 := Scalar.andi v933 v935
  let v922 : BitVec 32 := Scalar.divsi v921 c8_i32_323
  let c1_i32_329 : BitVec 32 := 1#32
  let v937 : BitVec 32 := Scalar.subi v922 c1_i32_329
  let v938 : BitVec 32 := Scalar.select v936 v937 v922
  let c0_i32_504 : BitVec 32 := 0#32
  ![v938.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S3x4x2048x2048 : Shape := ⟨4, ![3, 4, 2048, 2048]⟩
abbrev S3x4x2048x1 : Shape := ⟨4, ![3, 4, 2048, 1]⟩
abbrev S3x4x1024x2048 : Shape := ⟨4, ![3, 4, 1024, 2048]⟩
abbrev S3x4x1024x1 : Shape := ⟨4, ![3, 4, 1024, 1]⟩
abbrev S_ : Shape := ⟨0, ![]⟩
abbrev S3x4x1 : Shape := ⟨3, ![3, 4, 1]⟩
abbrev S3x4x2048 : Shape := ⟨3, ![3, 4, 2048]⟩
abbrev S3x4x1x2048 : Shape := ⟨4, ![3, 4, 1, 2048]⟩
abbrev S3x4x1x1 : Shape := ⟨4, ![3, 4, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S3x4x2048x2048, .f32⟩
  | .hbm, ⟨1, _⟩ => ⟨S3x4x2048x1, .f32⟩
  | .hbm, ⟨2, _⟩ => ⟨S3x4x1024x2048, .f32⟩
  | .hbm, ⟨3, _⟩ => ⟨S3x4x1024x1, .f32⟩
  | .hbm, ⟨4, _⟩ => ⟨S_, .f32⟩
  | .hbm, ⟨5, _⟩ => ⟨S3x4x1, .f32⟩
  | .hbm, ⟨6, _⟩ => ⟨S3x4x1024x2048, .f32⟩
  | .hbm, ⟨7, _⟩ => ⟨S3x4x1024x2048, .f32⟩
  | .hbm, ⟨8, _⟩ => ⟨S_, .f32⟩
  | .hbm, ⟨9, _⟩ => ⟨S3x4x2048, .f32⟩
  | .hbm, ⟨10, _⟩ => ⟨S_, .f32⟩
  | .hbm, ⟨11, _⟩ => ⟨S3x4x1, .f32⟩
  | .hbm, ⟨12, _⟩ => ⟨S3x4x1, .f32⟩
  | .hbm, ⟨13, _⟩ => ⟨S3x4x2048, .f32⟩
  | .hbm, ⟨14, _⟩ => ⟨S3x4x2048, .f32⟩
  | .hbm, ⟨15, _⟩ => ⟨S_, .f32⟩
  | .hbm, ⟨16, _⟩ => ⟨S3x4x1, .f32⟩
  | .hbm, ⟨17, _⟩ => ⟨S3x4x1, .i1⟩
  | .hbm, ⟨18, _⟩ => ⟨S_, .f32⟩
  | .hbm, ⟨19, _⟩ => ⟨S3x4x2048, .f32⟩
  | .hbm, ⟨20, _⟩ => ⟨S_, .f32⟩
  | .hbm, ⟨21, _⟩ => ⟨S3x4x2048, .f32⟩
  | .hbm, ⟨22, _⟩ => ⟨S3x4x2048, .f32⟩
  | .hbm, ⟨23, _⟩ => ⟨S3x4x2048, .i1⟩
  | .hbm, ⟨24, _⟩ => ⟨S3x4x2048, .f32⟩
  | .hbm, ⟨25, _⟩ => ⟨S_, .f32⟩
  | .hbm, ⟨26, _⟩ => ⟨S3x4x1, .f32⟩
  | .hbm, ⟨27, _⟩ => ⟨S3x4x1x2048, .f32⟩
  | .hbm, ⟨28, _⟩ => ⟨S3x4x1x1, .f32⟩
  | _, _ => ⟨S3x4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== KernelTc.lean ====
abbrev S3x4x2048x2048 : Shape := ⟨4, ![3, 4, 2048, 2048]⟩
abbrev S3x4x2048x1 : Shape := ⟨4, ![3, 4, 2048, 1]⟩
abbrev S12x2048x2048 : Shape := ⟨3, ![12, 2048, 2048]⟩
abbrev S12x2048 : Shape := ⟨2, ![12, 2048]⟩
abbrev S12x1x2048 : Shape := ⟨3, ![12, 1, 2048]⟩
abbrev S12x1x1 : Shape := ⟨3, ![12, 1, 1]⟩
abbrev S1x1024x512 : Shape := ⟨3, ![1, 1024, 512]⟩
abbrev S1x1x2048 : Shape := ⟨3, ![1, 1, 2048]⟩
abbrev S1x1x512 : Shape := ⟨3, ![1, 1, 512]⟩
abbrev S1x1x1 : Shape := ⟨3, ![1, 1, 1]⟩
abbrev S1x1x1024 : Shape := ⟨3, ![1, 1, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S1024x512 : Shape := ⟨2, ![1024, 512]⟩
abbrev S1024x1 : Shape := ⟨2, ![1024, 1]⟩
abbrev S512 : Shape := ⟨1, ![512]⟩

abbrev nBuf : Space → Nat
  | .hbm => 7
  | .vmem => 8
  | .smem => 0
  | _ => 0

abbrev bufTy : (tb : Table) → Fin (tcTables nBuf tb) → BufTy
  | .hbm, ⟨0, _⟩ => ⟨S3x4x2048x2048, .f32⟩
  | .hbm, ⟨1, _⟩ => ⟨S3x4x2048x1, .f32⟩
  | .hbm, ⟨2, _⟩ => ⟨S12x2048x2048, .f32⟩
  | .hbm, ⟨3, _⟩ => ⟨S12x2048, .f32⟩
  | .hbm, ⟨4, _⟩ => ⟨S12x1x2048, .f32⟩
  | .hbm, ⟨5, _⟩ => ⟨S12x1x2048, .f32⟩
  | .hbm, ⟨6, _⟩ => ⟨S12x1x1, .f32⟩
  | .local _ .vmem, ⟨0, _⟩ => ⟨S1x1024x512, .f32⟩
  | .local _ .vmem, ⟨1, _⟩ => ⟨S1x1024x512, .f32⟩
  | .local _ .vmem, ⟨2, _⟩ => ⟨S1x1x2048, .f32⟩
  | .local _ .vmem, ⟨3, _⟩ => ⟨S1x1x2048, .f32⟩
  | .local _ .vmem, ⟨4, _⟩ => ⟨S1x1x512, .f32⟩
  | .local _ .vmem, ⟨5, _⟩ => ⟨S1x1x512, .f32⟩
  | .local _ .vmem, ⟨6, _⟩ => ⟨S1x1x1, .f32⟩
  | .local _ .vmem, ⟨7, _⟩ => ⟨S1x1x1, .f32⟩
  | _, _ => ⟨S3x4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  ![arg0.toNat, c1_i32.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceRowsIdeal.lean ====
abbrev S3x4x2048x2048 : Shape := ⟨4, ![3, 4, 2048, 2048]⟩
abbrev S3x4x2048x1 : Shape := ⟨4, ![3, 4, 2048, 1]⟩
abbrev S3x4x1024x2048 : Shape := ⟨4, ![3, 4, 1024, 2048]⟩
abbrev S3x4x1024x1 : Shape := ⟨4, ![3, 4, 1024, 1]⟩
abbrev S_ : Shape := ⟨0, ![]⟩
abbrev S3x4x1 : Shape := ⟨3, ![3, 4, 1]⟩
abbrev S3x4x2048 : Shape := ⟨3, ![3, 4, 2048]⟩
abbrev S3x4x1x2048 : Shape := ⟨4, ![3, 4, 1, 2048]⟩
abbrev S3x4x1x1 : Shape := ⟨4, ![3, 4, 1, 1]⟩
abbrev S12x1x2048 : Shape := ⟨3, ![12, 1, 2048]⟩
abbrev S12x1x1 : Shape := ⟨3, ![12, 1, 1]⟩

abbrev nBuf : Space → Nat
  | .hbm => 31
  | .vmem => 0
  | .smem => 0
  | _ => 0

abbrev bufTy : (tb : Table) → Fin (tcTables nBuf tb) → BufTy
  | .hbm, ⟨0, _⟩ => ⟨S3x4x2048x2048, .f32⟩
  | .hbm, ⟨1, _⟩ => ⟨S3x4x2048x1, .f32⟩
  | .hbm, ⟨2, _⟩ => ⟨S3x4x1024x2048, .f32⟩
  | .hbm, ⟨3, _⟩ => ⟨S3x4x1024x1, .f32⟩
  | .hbm, ⟨4, _⟩ => ⟨S_, .f32⟩
  | .hbm, ⟨5, _⟩ => ⟨S3x4x1, .f32⟩
  | .hbm, ⟨6, _⟩ => ⟨S3x4x1024x2048, .f32⟩
  | .hbm, ⟨7, _⟩ => ⟨S3x4x1024x2048, .f32⟩
  | .hbm, ⟨8, _⟩ => ⟨S_, .f32⟩
  | .hbm, ⟨9, _⟩ => ⟨S3x4x2048, .f32⟩
  | .hbm, ⟨10, _⟩ => ⟨S_, .f32⟩
  | .hbm, ⟨11, _⟩ => ⟨S3x4x1, .f32⟩
  | .hbm, ⟨12, _⟩ => ⟨S3x4x1, .f32⟩
  | .hbm, ⟨13, _⟩ => ⟨S3x4x2048, .f32⟩
  | .hbm, ⟨14, _⟩ => ⟨S3x4x2048, .f32⟩
  | .hbm, ⟨15, _⟩ => ⟨S_, .f32⟩
  | .hbm, ⟨16, _⟩ => ⟨S3x4x1, .f32⟩
  | .hbm, ⟨17, _⟩ => ⟨S3x4x1, .i1⟩
  | .hbm, ⟨18, _⟩ => ⟨S_, .f32⟩
  | .hbm, ⟨19, _⟩ => ⟨S3x4x2048, .f32⟩
  | .hbm, ⟨20, _⟩ => ⟨S_, .f32⟩
  | .hbm, ⟨21, _⟩ => ⟨S3x4x2048, .f32⟩
  | .hbm, ⟨22, _⟩ => ⟨S3x4x2048, .f32⟩
  | .hbm, ⟨23, _⟩ => ⟨S3x4x2048, .i1⟩
  | .hbm, ⟨24, _⟩ => ⟨S3x4x2048, .f32⟩
  | .hbm, ⟨25, _⟩ => ⟨S_, .f32⟩
  | .hbm, ⟨26, _⟩ => ⟨S3x4x1, .f32⟩
  | .hbm, ⟨27, _⟩ => ⟨S3x4x1x2048, .f32⟩
  | .hbm, ⟨28, _⟩ => ⟨S3x4x1x1, .f32⟩
  | .hbm, ⟨29, _⟩ => ⟨S12x1x2048, .f32⟩
  | .hbm, ⟨30, _⟩ => ⟨S12x1x1, .f32⟩
  | _, _ => ⟨S3x4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Proof.Item.lean ====
/-
  The SparseCore kernel's body as three runs of one ITEM program. A vector subcore works on three items in a row, each the same
  code at another (mask row, column block); here that code is written once, over the item's row `s0` and first column `d0`.
-/
module

public import proofs.«01_k».proof.Proof.Gen.KernelIdeal.Skeleton
public import Idealize.ShloMosaic.Lib.SparseCore.Ops

@[expose] public section

noncomputable section

namespace Cert.Proof.Pool

open Cert.KernelIdeal Cert.KernelIdeal.Gen
open Idealize.ShloMosaic Idealize.SL.Sem

variable {F : FTy → Type} [FloatOps F]

/-! ## The vectors of one item -/

/-- The running sum along the sixteen lanes, as the kernel spells it. -/
def cumS (v : FVec F S16 .f32) : FVec F S16 .f32 :=
  k0_pay203 v (iota .scVector S16 32 [0] iota_S16_d0_w32_scVector)
    (k0_pay200 v (iota .scVector S16 32 [0] iota_S16_d0_w32_scVector) (k0_pay197 v) k0_pay198 (k0_pay199 v))
    (k0_pay201 (iota .scVector S16 32 [0] iota_S16_d0_w32_scVector)) (k0_pay202 v)

/-- The running maximum along the sixteen lanes, as the kernel spells it. -/
def cumM (v : FVec F S16 .f32) : FVec F S16 .f32 :=
  k0_pay210 v (iota .scVector S16 32 [0] iota_S16_d0_w32_scVector)
    (k0_pay208 v (iota .scVector S16 32 [0] iota_S16_d0_w32_scVector) (k0_pay204 v) k0_pay205 (k0_pay206 v) (k0_pay207 v))
    (k0_pay209 (iota .scVector S16 32 [0] iota_S16_d0_w32_scVector))

/-- The weights of sixteen steps: the mask times the scale plus the shift, both read off the mask's sum `v`. -/
def wvec (v m : FVec F S16 .f32) : FVec F S16 .f32 := k0_pay214 (k0_pay211 v) (k0_pay212 v) k0_pay213 m

/-- One accumulation: the row's sixteen elements times the step's weight, added. -/
def fma (a w : FVec F S16 .f32) (x : Vec F S1x16 .f32) : FVec F S16 .f32 := k0_pay1 a w x

/-- Sixteen vectors of sixteen lanes. -/
abbrev T16 (F : FTy → Type) : Type :=
  FVec F S16 .f32 × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32 × FVec F S16 .f32
    × FVec F S16 .f32 × FVec F S16 .f32

/-- A family of sixteen vectors as a tuple. -/
def tup (f : Fin 16 → FVec F S16 .f32) : T16 F :=
  (f 0, f 1, f 2, f 3, f 4, f 5, f 6, f 7, f 8, f 9, f 10, f 11, f 12, f 13, f 14, f 15)

/-- A tuple's component. -/
def T16.get (a : T16 F) : Fin 16 → FVec F S16 .f32 :=
  ![a.1, a.2.1, a.2.2.1, a.2.2.2.1, a.2.2.2.2.1, a.2.2.2.2.2.1, a.2.2.2.2.2.2.1, a.2.2.2.2.2.2.2.1, a.2.2.2.2.2.2.2.2.1,
    a.2.2.2.2.2.2.2.2.2.1, a.2.2.2.2.2.2.2.2.2.2.1, a.2.2.2.2.2.2.2.2.2.2.2.1, a.2.2.2.2.2.2.2.2.2.2.2.2.1,
    a.2.2.2.2.2.2.2.2.2.2.2.2.2.1, a.2.2.2.2.2.2.2.2.2.2.2.2.2.2.1, a.2.2.2.2.2.2.2.2.2.2.2.2.2.2.2]

theorem xslInb {s0 d0 : ℕ} (hs : s0 + 1 ≤ 12) (hd : d0 + 256 ≤ 2048) (g : Fin 8) :
    ∀ a, (![s0, 1024 + 128 * g.val, d0] : Fin 3 → ℕ) a + S1x128x256.size a ≤ S12x2048x2048.size a := by
  have hg := g.isLt
  intro a; fin_cases a
  · exact hs
  · show 1024 + 128 * g.val + 128 ≤ 2048; omega
  · exact hd
theorem mslInb {s0 : ℕ} (hs : s0 + 1 ≤ 12) : ∀ a, (![s0, 1024] : Fin 2 → ℕ) a + S1x1024.size a ≤ S12x2048.size a := by
  intro a; fin_cases a
  · exact hs
  · show 1024 + 1024 ≤ 2048; omega
theorem oslInb {s0 d0 : ℕ} (hs : s0 + 1 ≤ 12) (hd : d0 + 256 ≤ 2048) :
    ∀ a, (![s0, d0] : Fin 2 → ℕ) a + S1x256.size a ≤ S12x2048.size a := by
  intro a; fin_cases a
  · exact hs
  · exact hd
theorem moslInb {s0 : ℕ} (hs : s0 + 1 ≤ 12) : ∀ a, (![s0, 0] : Fin 2 → ℕ) a + S1x16.size a ≤ S12x16.size a := by
  intro a; fin_cases a
  · exact hs
  · show 0 + 16 ≤ 16; omega

section Prog

variable (i : grid0.Coords)
/-- A program of vector subcore `(i 0, i 1)`. -/
abbrev PV (F : FTy → Type) (i : grid0.Coords) (α : Type) : Type 1 :=
  Prog (TpuEff nD τ sig (Elt F) Λ₀ (.scVector ((i 0).castLE hcore0) ((i 1).castLE hsub0))) α

variable (wb : Memref sig .scVector .vmem S1024 .f32)

/-- A trip of the mask's reduction: sixteen more steps into the sixteen sums and the sixteen maxima. -/
def redBody : Fin k0_t1_loop.trips → FVec F S16 .f32 × FVec F S16 .f32 → PV F i (FVec F S16 .f32 × FVec F S16 .f32) :=
  fun t a => do
    let v ← Prog.lift (.load wb (Rect.unit (s := S1024) (k0_off3 t) S16.size (k0_off3_inb t)).toLoadRect (View.loadsAt_vmem h_S16))
    pure (k0_pay195 a.1 v, k0_pay196 a.2 v)

/-- A trip of the weights' computation: sixteen mask elements become weights in place. -/
def wBody (tot : FVec F S16 .f32) : Fin k0_t2_loop.trips → BitVec 32 → PV F i (BitVec 32) :=
  fun t _ => do
    let v ← Prog.lift (.load wb (Rect.unit (s := S1024) (k0_off4 t) S16.size (k0_off4_inb t)).toLoadRect (View.loadsAt_vmem h_S16))
    let _ ← Prog.lift (.load wb (Rect.unit (s := S1024) (k0_off4 t) S16.size (k0_off4_inb t)).toLoadRect (View.loadsAt_vmem h_S16))
    Prog.lift (.store wb (Rect.unit (s := S1024) (k0_off4 t) S16.size (k0_off4_inb t)) (wvec tot (v : Vec F S16 .f32)) Finset.univ
      (View.stores_vmem_bits_univ h_S16 rfl) (.inl rfl))
    pure 0#32

/-- The index vector of step `t` of the chunk that starts at step `base`. -/
def stepIdx (base : BitVec 32) (t : Fin k0_t3_loop.trips) : IVec S16 32 :=
  broadcast S16 (Scalar.addi base (Scalar.addi (Scalar.muli (Scf.iv 0#32 1#32 t) 1#32) 0#32))

/-- A load of sixteen elements of a row of the chunk. -/
abbrev ldx (xb : Memref sig .scVector .vmem S128x256 .f32) (o : Fin 2 → ℕ) (h : ∀ a, o a + S1x16.size a ≤ S128x256.size a) :
    PV F i (Vec F S1x16 .f32) :=
  Prog.lift (.load xb (Rect.unit (s := S128x256) o S1x16.size h).toLoadRect (View.loadsAt_vmem h_S1x16))

/-- A trip of a chunk's accumulation: row `t` of the chunk times the weight of step `base + t`, into the 256 sums. -/
def accBody (xb : Memref sig .scVector .vmem S128x256 .f32) (base : BitVec 32) : Fin k0_t3_loop.trips → T16 F → PV F i (T16 F) :=
  fun t a => do
    let hw : k0_chk2 (stepIdx base t) := (← Prog.lift (TpuEff.assume (k0_chk2 (stepIdx base t)) (k0_chk2.dec (stepIdx base t)))).down
    let w : Vec F S16 .f32 ← SparseCore.vectorLoadIdx wb ![stepIdx base t] (k0_idx2_inb (stepIdx base t) hw) (View.loads_vmem h_S1024)
    let x0 ← ldx i xb (k0_off7 t) (k0_off7_inb t)
    let x1 ← ldx i xb (k0_off8 t) (k0_off8_inb t)
    let x2 ← ldx i xb (k0_off9 t) (k0_off9_inb t)
    let x3 ← ldx i xb (k0_off10 t) (k0_off10_inb t)
    let x4 ← ldx i xb (k0_off11 t) (k0_off11_inb t)
    let x5 ← ldx i xb (k0_off12 t) (k0_off12_inb t)
    let x6 ← ldx i xb (k0_off13 t) (k0_off13_inb t)
    let x7 ← ldx i xb (k0_off14 t) (k0_off14_inb t)
    let x8 ← ldx i xb (k0_off15 t) (k0_off15_inb t)
    let x9 ← ldx i xb (k0_off16 t) (k0_off16_inb t)
    let x10 ← ldx i xb (k0_off17 t) (k0_off17_inb t)
    let x11 ← ldx i xb (k0_off18 t) (k0_off18_inb t)
    let x12 ← ldx i xb (k0_off19 t) (k0_off19_inb t)
    let x13 ← ldx i xb (k0_off20 t) (k0_off20_inb t)
    let x14 ← ldx i xb (k0_off21 t) (k0_off21_inb t)
    let x15 ← ldx i xb (k0_off22 t) (k0_off22_inb t)
    pure (fma (a.get 0) w x0, fma (a.get 1) w x1, fma (a.get 2) w x2, fma (a.get 3) w x3, fma (a.get 4) w x4, fma (a.get 5) w x5,
      fma (a.get 6) w x6, fma (a.get 7) w x7, fma (a.get 8) w x8, fma (a.get 9) w x9, fma (a.get 10) w x10, fma (a.get 11) w x11,
      fma (a.get 12) w x12, fma (a.get 13) w x13, fma (a.get 14) w x14, fma (a.get 15) w x15)

/-- Chunk `g` of the item: 128 steps of 256 columns of its row of the skip list. -/
abbrev xsl (arg2 : Memref sig .scVector .hbm S12x2048x2048 .f32) (s0 d0 : ℕ) (hs : s0 + 1 ≤ 12) (hd : d0 + 256 ≤ 2048) (g : Fin 8) :
    Memref sig .scVector .hbm S128x256 .f32 :=
  (arg2.slice (Rect.unit (s := S12x2048x2048) ![s0, 1024 + 128 * g.val, d0] S1x128x256.size (xslInb hs hd g)) (fun _ => rfl)).squeeze
    S128x256 squeezes_S1x128x256_S128x256

/-- The item's mask: the last 1024 steps of its row of the mask list. -/
abbrev msl (arg3 : Memref sig .scVector .hbm S12x2048 .f32) (s0 : ℕ) (hs : s0 + 1 ≤ 12) : Memref sig .scVector .hbm S1024 .f32 :=
  (arg3.slice (Rect.unit (s := S12x2048) ![s0, 1024] S1x1024.size (mslInb hs)) (fun _ => rfl)).squeeze S1024 squeezes_S1x1024_S1024

/-- The item's pooled columns. -/
abbrev osl (arg4 : Memref sig .scVector .hbm S12x2048 .f32) (s0 d0 : ℕ) (hs : s0 + 1 ≤ 12) (hd : d0 + 256 ≤ 2048) :
    Memref sig .scVector .hbm S256 .f32 :=
  (arg4.slice (Rect.unit (s := S12x2048) ![s0, d0] S1x256.size (oslInb hs hd)) (fun _ => rfl)).squeeze S256 squeezes_S1x256_S256

/-- The item's row of running maxima. -/
abbrev mosl (arg5 : Memref sig .scVector .hbm S12x16 .f32) (s0 : ℕ) (hs : s0 + 1 ≤ 12) : Memref sig .scVector .hbm S16 .f32 :=
  (arg5.slice (Rect.unit (s := S12x16) ![s0, 0] S1x16.size (moslInb hs)) (fun _ => rfl)).squeeze S16 squeezes_S1x16_S16

/-- The item's last step: where it is the first of its row, the row's running maxima are copied out. -/
def maxOut (arg5 : Memref sig .scVector .hbm S12x16 .f32) (arg10 : Memref sig .scVector .vmem S16 .f32) (harg10 : arg10.IsWhole) (qm : DmaSems sig S_)
    (s0 : ℕ) (hs : s0 + 1 ≤ 12) (c : BitVec 1) (mx : FVec F S16 .f32) : PV F i PUnit :=
  if h : c = 1#1 then do
    let _ ← Prog.lift (.load arg10 (Rect.unit (s := S16) ![0] S16.size inb_S16_S16_0).toLoadRect (View.loadsAt_vmem h_S16))
    Prog.lift (.store arg10 (Rect.unit (s := S16) ![0] S16.size inb_S16_S16_0) mx Finset.univ (View.stores_vmem_bits_univ h_S16 rfl) (.inl rfl))
    Prog.lift (.enqueueDma arg10 (.here (mosl arg5 s0 hs)) (.dma qm.sem) harg10.wordExact ((View.wordExact_bits rfl).reshape _ _) ⟨Or.inl rfl, trivial⟩)
    Prog.lift (.waitDma2 qm.sem arg10 (mosl arg5 s0 hs) harg10.wordExact ((View.wordExact_bits rfl).reshape _ _))
    pure ⟨⟩
  else pure ⟨⟩

/-- The sixteen sums into the buffer of 256 columns. -/
def putAcc (arg9 : Memref sig .scVector .vmem S256 .f32) (harg9 : arg9.IsWhole) (a : T16 F) : PV F i PUnit := do
  let _ ← Prog.lift (.load arg9 (Rect.unit (s := S256) ![0] S16.size inb_S256_S16_0).toLoadRect (View.loadsAt_vmem h_S16))
  Prog.lift (.store arg9 (Rect.unit (s := S256) ![0] S16.size inb_S256_S16_0) (a.get 0) Finset.univ (View.stores_vmem_bits_univ h_S16 rfl) (.inl rfl))
  let _ ← Prog.lift (.load arg9 (Rect.unit (s := S256) ![16] S16.size inb_S256_S16_16).toLoadRect (View.loadsAt_vmem h_S16))
  Prog.lift (.store arg9 (Rect.unit (s := S256) ![16] S16.size inb_S256_S16_16) (a.get 1) Finset.univ (View.stores_vmem_bits_univ h_S16 rfl) (.inl rfl))
  let _ ← Prog.lift (.load arg9 (Rect.unit (s := S256) ![32] S16.size inb_S256_S16_32).toLoadRect (View.loadsAt_vmem h_S16))
  Prog.lift (.store arg9 (Rect.unit (s := S256) ![32] S16.size inb_S256_S16_32) (a.get 2) Finset.univ (View.stores_vmem_bits_univ h_S16 rfl) (.inl rfl))
  let _ ← Prog.lift (.load arg9 (Rect.unit (s := S256) ![48] S16.size inb_S256_S16_48).toLoadRect (View.loadsAt_vmem h_S16))
  Prog.lift (.store arg9 (Rect.unit (s := S256) ![48] S16.size inb_S256_S16_48) (a.get 3) Finset.univ (View.stores_vmem_bits_univ h_S16 rfl) (.inl rfl))
  let _ ← Prog.lift (.load arg9 (Rect.unit (s := S256) ![64] S16.size inb_S256_S16_64).toLoadRect (View.loadsAt_vmem h_S16))
  Prog.lift (.store arg9 (Rect.unit (s := S256) ![64] S16.size inb_S256_S16_64) (a.get 4) Finset.univ (View.stores_vmem_bits_univ h_S16 rfl) (.inl rfl))
  let _ ← Prog.lift (.load arg9 (Rect.unit (s := S256) ![80] S16.size inb_S256_S16_80).toLoadRect (View.loadsAt_vmem h_S16))
  Prog.lift (.store arg9 (Rect.unit (s := S256) ![80] S16.size inb_S256_S16_80) (a.get 5) Finset.univ (View.stores_vmem_bits_univ h_S16 rfl) (.inl rfl))
  let _ ← Prog.lift (.load arg9 (Rect.unit (s := S256) ![96] S16.size inb_S256_S16_96).toLoadRect (View.loadsAt_vmem h_S16))
  Prog.lift (.store arg9 (Rect.unit (s := S256) ![96] S16.size inb_S256_S16_96) (a.get 6) Finset.univ (View.stores_vmem_bits_univ h_S16 rfl) (.inl rfl))
  let _ ← Prog.lift (.load arg9 (Rect.unit (s := S256) ![112] S16.size inb_S256_S16_112).toLoadRect (View.loadsAt_vmem h_S16))
  Prog.lift (.store arg9 (Rect.unit (s := S256) ![112] S16.size inb_S256_S16_112) (a.get 7) Finset.univ (View.stores_vmem_bits_univ h_S16 rfl) (.inl rfl))
  let _ ← Prog.lift (.load arg9 (Rect.unit (s := S256) ![128] S16.size inb_S256_S16_128).toLoadRect (View.loadsAt_vmem h_S16))
  Prog.lift (.store arg9 (Rect.unit (s := S256) ![128] S16.size inb_S256_S16_128) (a.get 8) Finset.univ (View.stores_vmem_bits_univ h_S16 rfl) (.inl rfl))
  let _ ← Prog.lift (.load arg9 (Rect.unit (s := S256) ![144] S16.size inb_S256_S16_144).toLoadRect (View.loadsAt_vmem h_S16))
  Prog.lift (.store arg9 (Rect.unit (s := S256) ![144] S16.size inb_S256_S16_144) (a.get 9) Finset.univ (View.stores_vmem_bits_univ h_S16 rfl) (.inl rfl))
  let _ ← Prog.lift (.load arg9 (Rect.unit (s := S256) ![160] S16.size inb_S256_S16_160).toLoadRect (View.loadsAt_vmem h_S16))
  Prog.lift (.store arg9 (Rect.unit (s := S256) ![160] S16.size inb_S256_S16_160) (a.get 10) Finset.univ (View.stores_vmem_bits_univ h_S16 rfl) (.inl rfl))
  let _ ← Prog.lift (.load arg9 (Rect.unit (s := S256) ![176] S16.size inb_S256_S16_176).toLoadRect (View.loadsAt_vmem h_S16))
  Prog.lift (.store arg9 (Rect.unit (s := S256) ![176] S16.size inb_S256_S16_176) (a.get 11) Finset.univ (View.stores_vmem_bits_univ h_S16 rfl) (.inl rfl))
  let _ ← Prog.lift (.load arg9 (Rect.unit (s := S256) ![192] S16.size inb_S256_S16_192).toLoadRect (View.loadsAt_vmem h_S16))
  Prog.lift (.store arg9 (Rect.unit (s := S256) ![192] S16.size inb_S256_S16_192) (a.get 12) Finset.univ (View.stores_vmem_bits_univ h_S16 rfl) (.inl rfl))
  let _ ← Prog.lift (.load arg9 (Rect.unit (s := S256) ![208] S16.size inb_S256_S16_208).toLoadRect (View.loadsAt_vmem h_S16))
  Prog.lift (.store arg9 (Rect.unit (s := S256) ![208] S16.size inb_S256_S16_208) (a.get 13) Finset.univ (View.stores_vmem_bits_univ h_S16 rfl) (.inl rfl))
  let _ ← Prog.lift (.load arg9 (Rect.unit (s := S256) ![224] S16.size inb_S256_S16_224).toLoadRect (View.loadsAt_vmem h_S16))
  Prog.lift (.store arg9 (Rect.unit (s := S256) ![224] S16.size inb_S256_S16_224) (a.get 14) Finset.univ (View.stores_vmem_bits_univ h_S16 rfl) (.inl rfl))
  let _ ← Prog.lift (.load arg9 (Rect.unit (s := S256) ![240] S16.size inb_S256_S16_240).toLoadRect (View.loadsAt_vmem h_S16))
  Prog.lift (.store arg9 (Rect.unit (s := S256) ![240] S16.size inb_S256_S16_240) (a.get 15) Finset.univ (View.stores_vmem_bits_univ h_S16 rfl) (.inl rfl))
  pure ⟨⟩

/-- The index vector that reads the last lane. -/
def lastIdx : IVec S16 32 := broadcast S16 15#32

/-- The item's mask: fetched, summed and maximised lane by lane, its sum spread over the lanes, and its weights computed in place. The
    item's first chunk is on its way meanwhile. -/
def itemHead (arg2 : Memref sig .scVector .hbm S12x2048x2048 .f32) (arg3 : Memref sig .scVector .hbm S12x2048 .f32) (arg4 : Memref sig .scVector .hbm S12x2048 .f32) (arg5 : Memref sig .scVector .hbm S12x16 .f32) (arg6 : Memref sig .scVector .vmem S128x256 .f32) (harg6 : arg6.IsWhole) (arg7 : Memref sig .scVector .vmem S128x256 .f32) (harg7 : arg7.IsWhole) (arg8 : Memref sig .scVector .vmem S1024 .f32) (harg8 : arg8.IsWhole) (arg9 : Memref sig .scVector .vmem S256 .f32) (harg9 : arg9.IsWhole) (arg10 : Memref sig .scVector .vmem S16 .f32) (harg10 : arg10.IsWhole) (arg11 : DmaSems sig S_) (arg12 : DmaSems sig S_) (arg13 : DmaSems sig S_) (arg14 : DmaSems sig S_) (s0 d0 : ℕ) (hs : s0 + 1 ≤ 12) (hd : d0 + 256 ≤ 2048) : PV F i (FVec F S16 .f32) := do
  Prog.lift (.enqueueDma (msl arg3 s0 hs) (.here arg8) (.dma arg13.sem) ((View.wordExact_bits rfl).reshape _ _) harg8.wordExact ⟨Or.inl rfl, trivial⟩)
  Prog.lift (.waitDma2 arg13.sem (msl arg3 s0 hs) arg8 ((View.wordExact_bits rfl).reshape _ _) harg8.wordExact)
  Prog.lift (.enqueueDma (xsl arg2 s0 d0 hs hd 0) (.here arg6) (.dma arg11.sem) ((View.wordExact_bits rfl).reshape _ _) harg6.wordExact ⟨Or.inl rfl, trivial⟩)
  let a ← Scf.Loop.for k0_t1_loop k0_t1_ok (k0_pay193 (F := F), k0_pay194 (F := F)) (redBody i arg8)
  let _ ← Prog.lift (.load arg9 (Rect.unit (s := S256) ![0] S16.size inb_S256_S16_0).toLoadRect (View.loadsAt_vmem h_S16))
  Prog.lift (.store arg9 (Rect.unit (s := S256) ![0] S16.size inb_S256_S16_0) (cumS a.1) Finset.univ (View.stores_vmem_bits_univ h_S16 rfl) (.inl rfl))
  let hw : k0_chk1 lastIdx := (← Prog.lift (TpuEff.assume (k0_chk1 lastIdx) (k0_chk1.dec lastIdx))).down
  let tot : Vec F S16 .f32 ← SparseCore.vectorLoadIdx arg9 ![lastIdx] (k0_idx1_inb lastIdx hw) (View.loads_vmem h_S256)
  let _ ← Scf.Loop.for k0_t2_loop k0_t2_ok 0#32 (wBody i arg8 tot)
  pure (cumM a.2)

/-- The item's eight chunks, two buffers in turn: the next chunk is fetched while one is accumulated. -/
def itemMid (arg2 : Memref sig .scVector .hbm S12x2048x2048 .f32) (arg3 : Memref sig .scVector .hbm S12x2048 .f32) (arg4 : Memref sig .scVector .hbm S12x2048 .f32) (arg5 : Memref sig .scVector .hbm S12x16 .f32) (arg6 : Memref sig .scVector .vmem S128x256 .f32) (harg6 : arg6.IsWhole) (arg7 : Memref sig .scVector .vmem S128x256 .f32) (harg7 : arg7.IsWhole) (arg8 : Memref sig .scVector .vmem S1024 .f32) (harg8 : arg8.IsWhole) (arg9 : Memref sig .scVector .vmem S256 .f32) (harg9 : arg9.IsWhole) (arg10 : Memref sig .scVector .vmem S16 .f32) (harg10 : arg10.IsWhole) (arg11 : DmaSems sig S_) (arg12 : DmaSems sig S_) (arg13 : DmaSems sig S_) (arg14 : DmaSems sig S_) (s0 d0 : ℕ) (hs : s0 + 1 ≤ 12) (hd : d0 + 256 ≤ 2048) : PV F i (T16 F) := do
  Prog.lift (.enqueueDma (xsl arg2 s0 d0 hs hd 1) (.here arg7) (.dma arg12.sem) ((View.wordExact_bits rfl).reshape _ _) harg7.wordExact ⟨Or.inl rfl, trivial⟩)
  Prog.lift (.waitDma2 arg11.sem (xsl arg2 s0 d0 hs hd 0) arg6 ((View.wordExact_bits rfl).reshape _ _) harg6.wordExact)
  let a0 ← Scf.Loop.for k0_t3_loop k0_t3_ok (tup fun _ => k0_pay215) (accBody i arg8 arg6 0#32)
  Prog.lift (.enqueueDma (xsl arg2 s0 d0 hs hd 2) (.here arg6) (.dma arg11.sem) ((View.wordExact_bits rfl).reshape _ _) harg6.wordExact ⟨Or.inl rfl, trivial⟩)
  Prog.lift (.waitDma2 arg12.sem (xsl arg2 s0 d0 hs hd 1) arg7 ((View.wordExact_bits rfl).reshape _ _) harg7.wordExact)
  let a1 ← Scf.Loop.for k0_t3_loop k0_t3_ok a0 (accBody i arg8 arg7 128#32)
  Prog.lift (.enqueueDma (xsl arg2 s0 d0 hs hd 3) (.here arg7) (.dma arg12.sem) ((View.wordExact_bits rfl).reshape _ _) harg7.wordExact ⟨Or.inl rfl, trivial⟩)
  Prog.lift (.waitDma2 arg11.sem (xsl arg2 s0 d0 hs hd 2) arg6 ((View.wordExact_bits rfl).reshape _ _) harg6.wordExact)
  let a2 ← Scf.Loop.for k0_t3_loop k0_t3_ok a1 (accBody i arg8 arg6 256#32)
  Prog.lift (.enqueueDma (xsl arg2 s0 d0 hs hd 4) (.here arg6) (.dma arg11.sem) ((View.wordExact_bits rfl).reshape _ _) harg6.wordExact ⟨Or.inl rfl, trivial⟩)
  Prog.lift (.waitDma2 arg12.sem (xsl arg2 s0 d0 hs hd 3) arg7 ((View.wordExact_bits rfl).reshape _ _) harg7.wordExact)
  let a3 ← Scf.Loop.for k0_t3_loop k0_t3_ok a2 (accBody i arg8 arg7 384#32)
  Prog.lift (.enqueueDma (xsl arg2 s0 d0 hs hd 5) (.here arg7) (.dma arg12.sem) ((View.wordExact_bits rfl).reshape _ _) harg7.wordExact ⟨Or.inl rfl, trivial⟩)
  Prog.lift (.waitDma2 arg11.sem (xsl arg2 s0 d0 hs hd 4) arg6 ((View.wordExact_bits rfl).reshape _ _) harg6.wordExact)
  let a4 ← Scf.Loop.for k0_t3_loop k0_t3_ok a3 (accBody i arg8 arg6 512#32)
  Prog.lift (.enqueueDma (xsl arg2 s0 d0 hs hd 6) (.here arg6) (.dma arg11.sem) ((View.wordExact_bits rfl).reshape _ _) harg6.wordExact ⟨Or.inl rfl, trivial⟩)
  Prog.lift (.waitDma2 arg12.sem (xsl arg2 s0 d0 hs hd 5) arg7 ((View.wordExact_bits rfl).reshape _ _) harg7.wordExact)
  let a5 ← Scf.Loop.for k0_t3_loop k0_t3_ok a4 (accBody i arg8 arg7 640#32)
  Prog.lift (.enqueueDma (xsl arg2 s0 d0 hs hd 7) (.here arg7) (.dma arg12.sem) ((View.wordExact_bits rfl).reshape _ _) harg7.wordExact ⟨Or.inl rfl, trivial⟩)
  Prog.lift (.waitDma2 arg11.sem (xsl arg2 s0 d0 hs hd 6) arg6 ((View.wordExact_bits rfl).reshape _ _) harg6.wordExact)
  let a6 ← Scf.Loop.for k0_t3_loop k0_t3_ok a5 (accBody i arg8 arg6 768#32)
  Prog.lift (.waitDma2 arg12.sem (xsl arg2 s0 d0 hs hd 7) arg7 ((View.wordExact_bits rfl).reshape _ _) harg7.wordExact)
  let a7 ← Scf.Loop.for k0_t3_loop k0_t3_ok a6 (accBody i arg8 arg7 896#32)
  pure a7

/-- One item: its mask, its chunks, and its results out. -/
def item (arg2 : Memref sig .scVector .hbm S12x2048x2048 .f32) (arg3 : Memref sig .scVector .hbm S12x2048 .f32) (arg4 : Memref sig .scVector .hbm S12x2048 .f32) (arg5 : Memref sig .scVector .hbm S12x16 .f32) (arg6 : Memref sig .scVector .vmem S128x256 .f32) (harg6 : arg6.IsWhole) (arg7 : Memref sig .scVector .vmem S128x256 .f32) (harg7 : arg7.IsWhole) (arg8 : Memref sig .scVector .vmem S1024 .f32) (harg8 : arg8.IsWhole) (arg9 : Memref sig .scVector .vmem S256 .f32) (harg9 : arg9.IsWhole) (arg10 : Memref sig .scVector .vmem S16 .f32) (harg10 : arg10.IsWhole) (arg11 : DmaSems sig S_) (arg12 : DmaSems sig S_) (arg13 : DmaSems sig S_) (arg14 : DmaSems sig S_) (qm : DmaSems sig S_) (s0 d0 : ℕ) (hs : s0 + 1 ≤ 12) (hd : d0 + 256 ≤ 2048) (c : BitVec 1) : PV F i PUnit := do
  let mx ← itemHead i arg2 arg3 arg4 arg5 arg6 harg6 arg7 harg7 arg8 harg8 arg9 harg9 arg10 harg10 arg11 arg12 arg13 arg14 s0 d0 hs hd
  let a ← itemMid i arg2 arg3 arg4 arg5 arg6 harg6 arg7 harg7 arg8 harg8 arg9 harg9 arg10 harg10 arg11 arg12 arg13 arg14 s0 d0 hs hd
  putAcc i arg9 harg9 a
  Prog.lift (.enqueueDma arg9 (.here (osl arg4 s0 d0 hs hd)) (.dma arg14.sem) harg9.wordExact ((View.wordExact_bits rfl).reshape _ _) ⟨Or.inl rfl, trivial⟩)
  Prog.lift (.waitDma2 arg14.sem arg9 (osl arg4 s0 d0 hs hd) harg9.wordExact ((View.wordExact_bits rfl).reshape _ _))
  maxOut i arg5 arg10 harg10 qm s0 hs c mx

end Prog
end Cert.Proof.Pool
end
-- ==== Proof.Base.lean ====
/-
  The set-up shared by the SparseCore proof's modules: the program as the launch theorem sees it, the resource algebra, the
  locations and memrefs of the kernel, and the two rules by which a subcore fetches a part of an array into a buffer of its own.
-/
module

public import proofs.«01_k».proof.Proof.Item
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The locations and the subcore's thread -/

/-- The skip list, the mask list, the pooled rows and the running maxima, as locations of device `d`. -/
abbrev xLoc (d : Dev nD) : Loc nD τ sig := (SparseCore.T d).loc main_v0
abbrev kLoc (d : Dev nD) : Loc nD τ sig := (SparseCore.T d).loc main_v1
abbrev oLoc (d : Dev nD) : Loc nD τ sig := (SparseCore.T d).loc main_v2_0
abbrev pLoc (d : Dev nD) : Loc nD τ sig := (SparseCore.T d).loc main_v2_1

abbrev cV (L : grid0.Coords) : Fin τ.nSC := (L 0).castLE hcore0
abbrev jV (L : grid0.Coords) : Fin τ.nSub := (L 1).castLE hsub0

/-- The thread of vector subcore `(L 0, L 1)` of device `d`. -/
abbrev th (d : Dev nD) (L : grid0.Coords) : Thread nD τ := V d (cV L) (jV L)

section Fetch

variable [FloatOps F] {d : Dev nD} {L : grid0.Coords} {α : Type}
variable {sp sp' : Space} {s : Shape} {e : EltTy}

/-- A transfer under way from a part of an array the subcore reads: the array's other elements, and the flight that gives back the part
    and the buffer rewritten. -/
def Fetching (d : Dev nD) (L : grid0.Coords) (src : Memref sig .scVector sp s e) (dst : Memref sig .scVector sp' s e) (sem : DmaSem sig)
    (Ss : Finset (Idx (src.view.loc (th d L)))) (q : PosShare TreeShare) (fs : Buf (Elt F) (src.view.loc (th d L)))
    (Sd : Finset (Idx (dst.view.loc (th d L)))) (fd : Buf (Elt F) (dst.view.loc (th d L))) : sProp 𝕄 :=
  iprop((src.view.loc (th d L) ↦[Ss \ src.view.set]{q} fs)
    ∗ Transfers.Flight (countersEmb (U := UU)) (th d L) (.dma sem) (none : HIx 1) dst.view.dmaCredit
        iprop((dst.view.loc (th d L) ↦[Sd]{fullShare} (dst.view.write (Elt F) fd (src.view.read (Elt F) fs) Finset.univ))
          ∗ (src.view.loc (th d L) ↦[src.view.set]{q} fs)))

/-- The transfer's start: the array's elements `Ss` at any share, of which the transfer reads a part, and the elements `Sd` of the
    destination's buffer outright. -/
theorem wp_fetch {src : Memref sig .scVector sp s e} {dst : Memref sig .scVector sp' s e} {sem : DmaSem sig}
    {hsrc : src.view.WordExact} {hdst : dst.view.WordExact} {hsem : DmaTarget.Typed (nD := nD) sp (SemLoc.dma sem) (DmaTarget.here (p := (th d L).2) dst)}
    {k : PUnit → PV F L α} {Q : α → sProp 𝕄} {Ss : Finset (Idx (src.view.loc (th d L)))} {q : PosShare TreeShare} {fs : Buf (Elt F) (src.view.loc (th d L))}
    {Sd : Finset (Idx (dst.view.loc (th d L)))} {fd : Buf (Elt F) (dst.view.loc (th d L))}
    (hN0 : 0 < dst.view.dmaCredit) (hSs : src.view.set ⊆ Ss) (hSd : dst.view.set ⊆ Sd) :
    iprop((src.view.loc (th d L) ↦[Ss]{q} fs) ∗ (dst.view.loc (th d L) ↦[Sd]{fullShare} fd) ∗ semVal (th d L, .dma sem) 0)
      ⊢ iprop((Fetching d L src dst sem Ss q fs Sd fd -∗ wp frame (wpE (defs₀ (F := F)) 𝒱₀ (th d L) none) Set.univ (k ⟨⟩) Q)
          -∗ wp frame (wpE (defs₀ (F := F)) 𝒱₀ (th d L) none) Set.univ (.op (.enqueueDma src (.here dst) (.dma sem) hsrc hdst hsem) k) Q) := by
  iintro ⟨Hs, Hd, Hv⟩ Hk
  ihave Hp := (pointsTo_split_subset hSs).1 $$ Hs
  icases Hp with ⟨Hs, Hr⟩
  iapply (Transfers.wp_dmaLocal countersEmb 𝒱₀ (th d L) none (none : HIx 1) dst.view.dmaCredit rfl hN0 hSd) $$ [Hs Hd Hv]
  · isplitl [Hs]; · iexact Hs
    isplitl [Hd]; · iexact Hd
    iexact Hv
  iintro Hf
  iapply Hk
  unfold Fetching
  isplitl [Hr]; · iexact Hr
  iexact Hf

/-- The wait for a transfer: the array's elements back, the buffer holding the part read, the counter back at zero, the wait recorded. -/
theorem wp_fetched {src : Memref sig .scVector sp s e} {dst : Memref sig .scVector sp' s e} {sem : DmaSem sig}
    {hsrc : src.view.WordExact} {hdst : dst.view.WordExact}
    {k : PUnit → PV F L α} {Q : α → sProp 𝕄} {Ss : Finset (Idx (src.view.loc (th d L)))} {q : PosShare TreeShare} {fs : Buf (Elt F) (src.view.loc (th d L))}
    {Sd : Finset (Idx (dst.view.loc (th d L)))} {fd : Buf (Elt F) (dst.view.loc (th d L))}
    {O : CellTallies nD τ sig (HIx 1)} {W : Waits sig (HIx 1)} (hSs : src.view.set ⊆ Ss) :
    iprop(Fetching d L src dst sem Ss q fs Sd fd ∗ owes (th d L) O W ∗ Transfers.MayWaits (th d L) (none : HIx 1) O)
      ⊢ iprop((iprop((src.view.loc (th d L) ↦[Ss]{q} fs)
              ∗ (dst.view.loc (th d L) ↦[Sd]{fullShare} (dst.view.write (Elt F) fd (src.view.read (Elt F) fs) Finset.univ))
              ∗ semVal (th d L, .dma sem) 0 ∗ owes (th d L) O (insert (SemLoc.dma sem, none) W))
            -∗ wp frame (wpE (defs₀ (F := F)) 𝒱₀ (th d L) none) Set.univ (k ⟨⟩) Q)
          -∗ wp frame (wpE (defs₀ (F := F)) 𝒱₀ (th d L) none) Set.univ (.op (.waitDma2 sem src dst hsrc hdst) k) Q) := by
  unfold Fetching
  iintro ⟨⟨Hr, Hf⟩, HO, Hmw⟩ Hk
  iapply (Transfers.wp_waitLocalO countersEmb 𝒱₀ (th d L) none (none : HIx 1) (rfl : dst.view.dmaCredit = _)) $$ [Hf HO Hmw]
  · isplitl [Hf]; · iexact Hf
    isplitl [HO]; · iexact HO
    iapply (Transfers.MayWaits.elim (SemLoc.dma sem)) $$ Hmw
  iintro ⟨⟨Hd, Hs⟩, Hv, HO⟩
  iapply Hk
  isplitl [Hs Hr]
  · iapply (pointsTo_split_subset hSs).2
    isplitl [Hs] <;> iassumption
  isplitl [Hd]; · iexact Hd
  isplitl [Hv]; · iexact Hv
  iexact HO

end Fetch

end Cert.Proof.Pool
end
-- ==== Proof.Values.lean ====
/-
  The values the kernel computes, as functions of the mask list `M` (12 rows of 2048) and the skip list `X` (12 rows of 2048 steps of 2048
  columns) at any instance of the float operations: sums and maxima taken one after the other, as the kernel takes them.
-/
module

public import proofs.«01_k».proof.Proof.Item
public import Idealize.ShloMosaic.Lib.ValueIdx

@[expose] public section

noncomputable section

namespace Cert.Proof.Pool

open Cert.KernelIdeal Cert.KernelIdeal.Gen
open Idealize.ShloMosaic Idealize.SL.Sem

variable {F : FTy → Type} [FloatOps F]

/-- The sum of the first `n` terms, taken in order from zero. -/
def sumN (f : ℕ → F .f32) : ℕ → F .f32
  | 0 => FloatOps.ofBits .f32 0x00000000#32
  | n + 1 => FloatOps.addf (sumN f n) (f n)

/-- The maximum of zero and the first `n` terms, taken in order. -/
def maxN (f : ℕ → F .f32) : ℕ → F .f32
  | 0 => FloatOps.ofBits .f32 0x00000000#32
  | n + 1 => FloatOps.maximumf (maxN f n) (f n)

variable (M : S12x2048.Idx → F .f32) (X : S12x2048x2048.Idx → F .f32)

/-- The mask of row `s` at step `t` of the last 1024. -/
def mSt (s : Fin 12) (t : ℕ) : F .f32 := M (ValueIdx.ix2 s (Fin.ofNat 2048 (1024 + t)))

/-- The skip list of row `s` at step `t` of the last 1024, column `c`. -/
def xSt (s : Fin 12) (t c : ℕ) : F .f32 := X (ValueIdx.ix3 s (Fin.ofNat 2048 (1024 + t)) (Fin.ofNat 2048 c))

/-- Sixteen partial sums of a row's mask: lane `l` sums the steps `16 k + l`, `k < n`. -/
def laneSum (s : Fin 12) (n : ℕ) : FVec F S16 .f32 := fun l => sumN (fun k => mSt M s (16 * k + (l 0).val)) n

/-- Sixteen partial maxima of a row's mask. -/
def laneMax (s : Fin 12) (n : ℕ) : FVec F S16 .f32 := fun l => maxN (fun k => mSt M s (16 * k + (l 0).val)) n

/-- A row's mask sum: the last lane of the running sum of the sixteen partial sums. -/
def tot (s : Fin 12) : F .f32 := cumS (laneSum M s 64) (ValueIdx.ix1 15)

/-- The weight of row `s` at step `t`. -/
def wgt (s : Fin 12) (t : ℕ) : F .f32 := wvec (fun _ => tot M s) (fun _ => mSt M s t) (ValueIdx.ix1 0)

/-- The weighted sum of the first `n` steps of row `s`, column `c`. -/
def pool (s : Fin 12) (c n : ℕ) : F .f32 := sumN (fun t => FloatOps.mulf (xSt X s t c) (wgt M s t)) n

/-- The pooled rows the kernel leaves. -/
def POOL : S12x2048.Idx → F .f32 := fun x => pool M X (x 0) (x 1).val 1024

/-- The running maxima the kernel leaves. -/
def MOUT : S12x16.Idx → F .f32 := fun x => cumM (laneMax M (x 0) 64) (ValueIdx.ix1 (x 1))

/-- The weights' vector, lane by lane. -/
theorem wvec_apply (v m : FVec F S16 .f32) (l : S16.Idx) : wvec v m l = wvec (fun _ => v l) (fun _ => m l) (ValueIdx.ix1 0) := rfl

/-- The first sum and maximum are zero. -/
theorem red_zero (s : Fin 12) : (k0_pay193 (F := F), k0_pay194 (F := F)) = (laneSum M s 0, laneMax M s 0) := rfl

/-- An accumulation, lane by lane. -/
theorem fma_apply (a w : FVec F S16 .f32) (x : Vec F S1x16 .f32) (l : S16.Idx) :
    fma a w x l = FloatOps.addf (a l) (FloatOps.mulf (x (ValueIdx.ix2 0 (l 0))) (w l)) := by
  have h : shapeCast S16 x shapeCasts_S1x16_S16 l = x (ValueIdx.ix2 0 (l 0)) := by
    unfold shapeCast
    congr 1
    rw [ValueIdx.eq_ix1 l]
    generalize l 0 = k
    revert k; decide +kernel
  show FloatOps.addf (a l) (FloatOps.mulf (shapeCast S16 x shapeCasts_S1x16_S16 l) (w l)) = _
  rw [h]

/-- The sixteen sums a chunk's accumulation starts from or ends at, at column block `d0`, after `n` steps. -/
def accs (s : Fin 12) (d0 n : ℕ) : T16 F := tup fun j l => pool M X s (d0 + 16 * j.val + (l 0).val) n

theorem accs_zero (s : Fin 12) (d0 : ℕ) : (tup fun _ => k0_pay215 (F := F)) = accs M X s d0 0 := rfl

theorem accs_get (s : Fin 12) (d0 n : ℕ) (j : Fin 16) : (accs M X s d0 n).get j = fun l => pool M X s (d0 + 16 * j.val + (l 0).val) n := by
  fin_cases j <;> rfl

end Cert.Proof.Pool
end
-- ==== Proof.Loops.lean ====
/-
  The kernel's three loops with the values they compute: the mask's reduction, the weights, and a chunk's accumulation.
-/
module

public import proofs.«01_k».proof.Proof.Base
public import proofs.«01_k».proof.Proof.Values

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable {d : Dev nD} {L : grid0.Coords}

/-- A run of the subcore's program from what it holds to what it holds after. -/
abbrev Wp (d : Dev nD) (L : grid0.Coords) {α : Type} (p : PV F L α) (Q : α → sProp 𝕄) : sProp 𝕄 :=
  wp frame (wpE (defs₀ (F := F)) 𝒱₀ (th d L) none) Set.univ p Q

/-- A buffer of the subcore held outright, at contents that read `G`. -/
def Holds (d : Dev nD) (L : grid0.Coords) {s : Shape} {sp : Space} (m : Memref sig .scVector sp s .f32) (G : s.Idx → F .f32) : sProp 𝕄 :=
  iprop(∃ f, ⌜m.view.read (Elt F) f = G⌝ ∗ (m.view.loc (th d L) ↦{fullShare} f))

/-- A finished run. -/
theorem wp_done {α : Type} {a : α} {Q : α → sProp 𝕄} : Q a ⊢ Wp d L (Prog.ret a) Q := by
  unfold Wp
  rw [wp_ret]
  iintro H
  imodintro
  iexact H

/-- A check that holds. -/
theorem wp_chk {α : Type} {P : Prop} {dec : Decidable P} {k : PLift P → PV F L α} {Q : α → sProp 𝕄} (h : P) :
    Wp d L (k ⟨h⟩) Q ⊢ Wp d L (.op (.assume P dec) k) Q := by
  unfold Wp
  rw [wp_assume_of _ _ _ _ h]

section Steps

variable {α : Type} {s : Shape}

/-- A load of a part of a held buffer. -/
theorem wp_ld {m : Memref sig .scVector .vmem s .f32} {G : s.Idx → F .f32} {r : Rect s} {hl : m.view.LoadsAt r.toLoadRect}
    {k : (r.shape.Idx → F .f32) → PV F L α} {Q : α → sProp 𝕄} :
    Holds d L m G ⊢ iprop((Holds d L m G -∗ Wp d L (k fun l => G (r.emb l)) Q) -∗ Wp d L (.op (.load m r.toLoadRect hl) k) Q) := by
  unfold Holds
  iintro ⟨%f, %hf, Hm⟩ Hk
  iapply (wp_load_rect 𝒱₀ (th d L) none Set.univ (m := m) (S := Finset.univ) (Finset.subset_univ _)) $$ [Hm]
  · iexact Hm
  iintro Hm
  rw [show (m.access r).read (Elt F) f = fun l => G (r.emb l) from by rw [← hf]; rfl]
  iapply Hk
  iexists f
  isplitr
  · ipureintro; exact hf
  · iexact Hm

/-- A store into a part of a held buffer: what it reads after is any `G'` that is the payload on the part and unchanged off it. -/
theorem wp_st {m : Memref sig .scVector .vmem s .f32} {G : s.Idx → F .f32} (G' : s.Idx → F .f32) {r : Rect s} {w : r.shape.Idx → F .f32}
    {hx : (m.access r).Stores Finset.univ} {hm : (Finset.univ : Finset r.shape.Idx) = Finset.univ ∨ ∀ a, r.stride a = 1} {k : PUnit → PV F L α} {Q : α → sProp 𝕄}
    (hin : ∀ l, G' (r.emb l) = w l) (hout : ∀ y, (∀ l, r.emb l ≠ y) → G' y = G y) :
    Holds d L m G ⊢ iprop((Holds d L m G' -∗ Wp d L (k ⟨⟩) Q) -∗ Wp d L (.op (.store m r w Finset.univ hx hm) k) Q) := by
  unfold Holds
  iintro ⟨%f, %hf, Hm⟩ Hk
  iapply (wp_store 𝒱₀ (th d L) none Set.univ (m := m) (r := r) (Mk := Finset.univ) (S := Finset.univ) (Finset.subset_univ _)) $$ [Hm]
  · iexact Hm
  iintro Hm
  iapply Hk
  iexists _
  isplitr
  swap
  · iexact Hm
  ipureintro
  funext y
  by_cases hy : ∃ l, r.emb l = y
  · obtain ⟨l, rfl⟩ := hy
    rw [hin]
    exact congrFun (View.read_write_univ (v := m.view.slice r) (Val := Elt F) f w) l
  · have hy' : ∀ l, r.emb l ≠ y := fun l h => hy ⟨l, h⟩
    rw [hout y hy', ← hf]
    refine congrArg (cast _) (View.write_of_not_mem _ _ _ fun hmem => ?_)
    obtain ⟨l, -, hl⟩ := Finset.mem_map.mp hmem
    exact hy' l (m.view.emb.injective hl)

/-- A gather from a held buffer. -/
theorem wp_gather {t : Shape} {m : Memref sig .scVector .vmem s .f32} {G : s.Idx → F .f32} {idxs : Fin s.rank → IVec t 32}
    {h : ∀ a x, (idxs a x).toNat < s.size a} {hl : m.view.Loads} {k : Vec F t .f32 → PV F L α} {Q : α → sProp 𝕄} :
    Holds d L m G ⊢ iprop((Holds d L m G -∗ Wp d L (k (loadIdx (G : Vec F s .f32) idxs h)) Q)
      -∗ Wp d L (SparseCore.vectorLoadIdx m idxs h hl >>= k) Q) := by
  unfold Holds
  iintro ⟨%f, %hf, Hm⟩ Hk
  iapply (SparseCore.wp_vectorLoadIdx 𝒱₀ (th d L) none Set.univ (base := m) (S := Finset.univ) (q := fullShare) (Finset.subset_univ _)) $$ [Hm]
  · iexact Hm
  iintro Hm
  rw [show (m.access (.whole s)).read (Elt F) f = G from by
    rw [← hf]; funext y; exact congrArg (fun z => m.view.read (Elt F) f z) (Rect.emb_whole_apply s y)]
  iapply Hk
  iexists f
  isplitr
  · ipureintro; exact hf
  · iexact Hm

end Steps

/-! ## The mask's reduction and the weights -/

theorem off3_eq : ∀ t : Fin k0_t1_loop.trips, k0_off3 t 0 = 16 * t.val := by decide +kernel
theorem off4_eq : ∀ t : Fin k0_t2_loop.trips, k0_off4 t 0 = 16 * t.val := by decide +kernel

/-- The mask's reduction: from the mask to its sixteen partial sums and maxima. -/
theorem red_loop (M : S12x2048.Idx → F .f32) (s : Fin 12) (wb : Memref sig .scVector .vmem S1024 .f32) :
    Holds d L wb (fun y => mSt M s (y 0).val)
      ⊢ Wp d L (Scf.Loop.for k0_t1_loop k0_t1_ok (k0_pay193 (F := F), k0_pay194 (F := F)) (redBody L wb))
          fun a => iprop(⌜a = (laneSum M s 64, laneMax M s 64)⌝ ∗ Holds d L wb (fun y => mSt M s (y 0).val)) := by
  have hb : ∀ (t : Fin k0_t1_loop.trips) (a : FVec F S16 .f32 × FVec F S16 .f32),
      iprop(⌜a = (laneSum M s t.val, laneMax M s t.val)⌝ ∗ Holds d L wb (fun y => mSt M s (y 0).val))
        ⊢ Wp d L (redBody L wb t a)
            fun a => iprop(⌜a = (laneSum M s (t.val + 1), laneMax M s (t.val + 1))⌝ ∗ Holds d L wb (fun y => mSt M s (y 0).val)) := by
    intro t a
    iintro ⟨%ha, H⟩
    subst ha
    unfold redBody
    simp only [Prog.bind_lift, Prog.pure_eq_ret]
    iapply wp_ld $$ H
    iintro H
    iapply wp_done
    isplitr
    swap; · iexact H
    ipureintro
    have e : (fun l => mSt M s ((Rect.unit (s := S1024) (k0_off3 t) S16.size (k0_off3_inb t)).emb l 0).val) = fun l : S16.Idx => mSt M s (16 * t.val + (l 0).val) := by
      funext l
      show mSt M s (k0_off3 t 0 + 1 * (l 0).val) = _
      rw [off3_eq, Nat.one_mul]
    rw [e]
    rfl
  iintro H
  iapply (Scf.wp_for frame (wpE (defs₀ (F := F)) 𝒱₀ (th d L) none) Set.univ _ _ _ k0_t1_ok _ (redBody L wb)
    (fun n a => iprop(⌜a = (laneSum M s n, laneMax M s n)⌝ ∗ Holds d L wb (fun y => mSt M s (y 0).val))) hb)
  isplitl [H]
  · isplitr
    · ipureintro; exact red_zero M s
    · iexact H
  · iintro %a H; iexact H

/-- Where the weights' loop stands: the steps below `n` hold their weights, the others still the mask. -/
def wAt (M : S12x2048.Idx → F .f32) (s : Fin 12) (n : ℕ) : S1024.Idx → F .f32 :=
  fun y => if (y 0).val < n then wgt M s (y 0).val else mSt M s (y 0).val

/-- The weights' loop: from the mask to the weights, in place. -/
theorem w_loop (M : S12x2048.Idx → F .f32) (s : Fin 12) (wb : Memref sig .scVector .vmem S1024 .f32) :
    Holds d L wb (fun y => mSt M s (y 0).val)
      ⊢ Wp d L (Scf.Loop.for k0_t2_loop k0_t2_ok 0#32 (wBody L wb (fun _ => tot M s)))
          fun _ => Holds d L wb (fun y => wgt M s (y 0).val) := by
  have hb : ∀ (t : Fin k0_t2_loop.trips) (a : BitVec 32),
      Holds d L wb (wAt M s (16 * t.val)) ⊢ Wp d L (wBody L wb (fun _ => tot M s) t a) fun _ => Holds d L wb (wAt M s (16 * (t.val + 1))) := by
    intro t a
    iintro H
    unfold wBody
    simp only [Prog.bind_lift, Prog.pure_eq_ret]
    iapply wp_ld $$ H
    iintro H
    iapply wp_ld $$ H
    iintro H
    have hemb : ∀ l : S16.Idx, ((Rect.unit (s := S1024) (k0_off4 t) S16.size (k0_off4_inb t)).emb l 0).val = 16 * t.val + (l 0).val := by
      intro l
      show k0_off4 t 0 + 1 * (l 0).val = _
      rw [off4_eq, Nat.one_mul]
    iapply (wp_st (wAt M s (16 * (t.val + 1))) ?hin ?hout) $$ H
    case hin =>
      intro l
      have hl : (l 0).val < 16 := (l 0).isLt
      rw [wvec_apply]
      unfold wAt
      rw [hemb, if_pos (by omega), if_neg (by omega)]
      rfl
    case hout =>
      intro y hy
      have hy' : ¬ (16 * t.val ≤ (y 0).val ∧ (y 0).val < 16 * t.val + 16) := fun h => by
        refine hy (ValueIdx.ix1 ⟨(y 0).val - 16 * t.val, by omega⟩) ?_
        funext a
        obtain rfl : a = 0 := Fin.fin_one_eq_zero a
        refine Fin.ext ((hemb _).trans ?_)
        show 16 * t.val + ((y 0).val - 16 * t.val) = (y 0).val
        omega
      unfold wAt
      by_cases h1 : (y 0).val < 16 * t.val
      · rw [if_pos (by omega), if_pos h1]
      · rw [if_neg (by omega), if_neg h1]
    iintro H
    iapply wp_done
    iexact H
  iintro H
  iapply (Scf.wp_for frame (wpE (defs₀ (F := F)) 𝒱₀ (th d L) none) Set.univ _ _ _ k0_t2_ok _ (wBody L wb _)
    (fun n _ => Holds d L wb (wAt M s (16 * n))) hb)
  isplitl [H]
  · rw [show wAt M s (16 * 0) = fun y => mSt M s (y 0).val from funext fun y => if_neg (Nat.not_lt_zero _)]
    iexact H
  · iintro %a H
    rw [show wAt M s (16 * Scf.trips k0_t2_loop.lb k0_t2_loop.ub k0_t2_loop.st) = fun y => wgt M s (y 0).val from
      funext fun y => if_pos (show (y 0).val < 16 * Scf.trips k0_t2_loop.lb k0_t2_loop.ub k0_t2_loop.st from (y 0).isLt)]
    iexact H

end Cert.Proof.Pool
end
-- ==== Proof.Acc.lean ====
/-
  A chunk's accumulation: 128 trips, each adding one step's row of 256 columns, times the step's weight, into sixteen vectors.
-/
module

public import proofs.«01_k».proof.Proof.Loops

@[expose] public section

noncomputable section

namespace Cert.Proof.Pool

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable {d : Dev nD} {L : grid0.Coords}

/-- The offsets of the sixteen loads of a trip. -/
def offX : Fin 16 → Fin k0_t3_loop.trips → Fin 2 → ℕ :=
  ![k0_off7, k0_off8, k0_off9, k0_off10, k0_off11, k0_off12, k0_off13, k0_off14, k0_off15, k0_off16, k0_off17, k0_off18, k0_off19,
    k0_off20, k0_off21, k0_off22]

theorem offX_eq : ∀ (j : Fin 16) (t : Fin k0_t3_loop.trips), offX j t 0 = t.val ∧ offX j t 1 = 16 * j.val := by decide +kernel

/-- The gather's index at a trip is the step, in range. -/
theorem stepIdx_toNat (n : ℕ) (hn : n + 128 ≤ 1024) (t : Fin k0_t3_loop.trips) (l : S16.Idx) :
    (stepIdx (BitVec.ofNat 32 n) t l).toNat = n + t.val := by
  have h : ∀ t : Fin k0_t3_loop.trips,
      (Scalar.addi (Scalar.muli (Scf.iv 0#32 1#32 t) 1#32) 0#32 : BitVec 32) = BitVec.ofNat 32 t.val := by decide +kernel
  have ht : t.val < 128 := t.isLt
  show (BitVec.ofNat 32 n + (Scalar.addi (Scalar.muli (Scf.iv 0#32 1#32 t) 1#32) 0#32 : BitVec 32)).toNat = _
  rw [h, ← BitVec.ofNat_add, BitVec.toNat_ofNat, Nat.mod_eq_of_lt (by omega)]

theorem stepIdx_chk (n : ℕ) (hn : n + 128 ≤ 1024) (t : Fin k0_t3_loop.trips) : k0_chk2 (stepIdx (BitVec.ofNat 32 n) t) := by
  intro a l
  obtain rfl : a = 0 := Fin.fin_one_eq_zero a
  show (stepIdx (BitVec.ofNat 32 n) t l).toNat < 1024
  rw [stepIdx_toNat n hn t l]
  have ht : t.val < 128 := t.isLt
  omega

/-- One of a trip's sixteen accumulations. -/
theorem fma_step (M : S12x2048.Idx → F .f32) (X : S12x2048x2048.Idx → F .f32) (s : Fin 12) (d0 n : ℕ) (t : Fin k0_t3_loop.trips)
    (w : FVec F S16 .f32) (hw : ∀ l, w l = wgt M s (n + t.val)) (j : Fin 16) (h : ∀ a, offX j t a + S1x16.size a ≤ S128x256.size a) :
    fma ((accs M X s d0 (n + t.val)).get j) w
        (fun l => xSt X s (n + ((Rect.unit (s := S128x256) (offX j t) S1x16.size h).emb l 0).val)
          (d0 + ((Rect.unit (s := S128x256) (offX j t) S1x16.size h).emb l 1).val))
      = (accs M X s d0 (n + t.val + 1)).get j := by
  funext l
  rw [fma_apply, accs_get, accs_get, hw]
  have e0 : ((Rect.unit (s := S128x256) (offX j t) S1x16.size h).emb (ValueIdx.ix2 0 (l 0)) 0).val = t.val := by
    show offX j t 0 + 1 * 0 = t.val
    rw [(offX_eq j t).1]; omega
  have e1 : ((Rect.unit (s := S128x256) (offX j t) S1x16.size h).emb (ValueIdx.ix2 0 (l 0)) 1).val = 16 * j.val + (l 0).val := by
    show offX j t 1 + 1 * (l 0).val = _
    rw [(offX_eq j t).2]; omega
  rw [e0, e1, ← Nat.add_assoc]
  rfl

/-- A chunk's accumulation: from the sums of the first `n` steps to the sums of the first `n + 128`. -/
theorem acc_loop (M : S12x2048.Idx → F .f32) (X : S12x2048x2048.Idx → F .f32) (s : Fin 12) (d0 n : ℕ) (hn : n + 128 ≤ 1024)
    (wb : Memref sig .scVector .vmem S1024 .f32) (xb : Memref sig .scVector .vmem S128x256 .f32) :
    iprop(Holds d L wb (fun y => wgt M s (y 0).val) ∗ Holds d L xb (fun y => xSt X s (n + (y 0).val) (d0 + (y 1).val)))
      ⊢ Wp d L (Scf.Loop.for k0_t3_loop k0_t3_ok (accs M X s d0 n) (accBody L wb xb (BitVec.ofNat 32 n)))
          fun a => iprop(⌜a = accs M X s d0 (n + 128)⌝ ∗ Holds d L wb (fun y => wgt M s (y 0).val)
            ∗ Holds d L xb (fun y => xSt X s (n + (y 0).val) (d0 + (y 1).val))) := by
  have hb : ∀ (t : Fin k0_t3_loop.trips) (a : T16 F),
      iprop(⌜a = accs M X s d0 (n + t.val)⌝ ∗ Holds d L wb (fun y => wgt M s (y 0).val)
            ∗ Holds d L xb (fun y => xSt X s (n + (y 0).val) (d0 + (y 1).val)))
        ⊢ Wp d L (accBody L wb xb (BitVec.ofNat 32 n) t a)
            fun a => iprop(⌜a = accs M X s d0 (n + (t.val + 1))⌝ ∗ Holds d L wb (fun y => wgt M s (y 0).val)
              ∗ Holds d L xb (fun y => xSt X s (n + (y 0).val) (d0 + (y 1).val))) := by
    intro t a
    iintro ⟨%ha, Hw, Hx⟩
    subst ha
    unfold accBody
    simp only [Prog.bind_lift, Prog.pure_eq_ret]
    iapply (wp_chk (stepIdx_chk n hn t))
    iapply wp_gather $$ Hw
    iintro Hw
    iterate 16
      iapply wp_ld $$ Hx
      iintro Hx
    iapply wp_done
    isplitr [Hw Hx]
    swap
    · isplitl [Hw]; · iexact Hw
      iexact Hx
    ipureintro
    have hw : ∀ l, loadIdx (F := F) (e := .f32) (s := S1024) (t := S16) (fun y : S1024.Idx => wgt M s (y 0).val) ![stepIdx (BitVec.ofNat 32 n) t]
        (k0_idx2_inb _ (stepIdx_chk n hn t)) l = wgt M s (n + t.val) := by
      intro l
      show wgt M s (stepIdx (BitVec.ofNat 32 n) t l).toNat = _
      rw [stepIdx_toNat n hn t l]
    have key := fma_step M X s d0 n t _ hw
    refine Prod.ext (key 0 _) (Prod.ext (key 1 _) (Prod.ext (key 2 _) (Prod.ext (key 3 _) (Prod.ext (key 4 _) (Prod.ext (key 5 _)
      (Prod.ext (key 6 _) (Prod.ext (key 7 _) (Prod.ext (key 8 _) (Prod.ext (key 9 _) (Prod.ext (key 10 _) (Prod.ext (key 11 _)
      (Prod.ext (key 12 _) (Prod.ext (key 13 _) (Prod.ext (key 14 _) (key 15 _)))))))))))))))
  iintro ⟨Hw, Hx⟩
  iapply (Scf.wp_for frame (wpE (defs₀ (F := F)) 𝒱₀ (th d L) none) Set.univ _ _ _ k0_t3_ok _ (accBody L wb xb _)
    (fun k a => iprop(⌜a = accs M X s d0 (n + k)⌝ ∗ Holds d L wb (fun y => wgt M s (y 0).val)
      ∗ Holds d L xb (fun y => xSt X s (n + (y 0).val) (d0 + (y 1).val)))) hb)
  isplitl [Hw Hx]
  · isplitr
    · ipureintro; rfl
    isplitl [Hw]; · iexact Hw
    iexact Hx
  · iintro %a H; iexact H

end Cert.Proof.Pool
end
-- ==== Proof.Geometry.lean ====
/-
  Which elements of the arrays an item reads and writes: the index maps of its four slices.
-/
module

public import proofs.«01_k».proof.Proof.Values
public import Idealize.ShloMosaic.Lib.ValueLayout

@[expose] public section

noncomputable section

namespace Cert.Proof.Pool

open Cert.KernelIdeal Cert.KernelIdeal.Gen
open Idealize.ShloMosaic Idealize.SL.Sem

variable {F : FTy → Type} [FloatOps F]

/-- The kernel's operands: the skip list, the mask list, the pooled rows, the running maxima, and the subcore's five buffers. -/
abbrev aX : Memref sig .scVector .hbm S12x2048x2048 .f32 := Memref.whole main_v0_scv
abbrev aM : Memref sig .scVector .hbm S12x2048 .f32 := Memref.whole main_v1_scv
abbrev aO : Memref sig .scVector .hbm S12x2048 .f32 := Memref.whole main_v2_0_scv
abbrev aP : Memref sig .scVector .hbm S12x16 .f32 := Memref.whole main_v2_1_scv
abbrev bA : Memref sig .scVector .vmem S128x256 .f32 := Memref.whole cc0_scratch0
abbrev bB : Memref sig .scVector .vmem S128x256 .f32 := Memref.whole cc0_scratch1
abbrev bW : Memref sig .scVector .vmem S1024 .f32 := Memref.whole cc0_scratch2
abbrev bS : Memref sig .scVector .vmem S256 .f32 := Memref.whole cc0_scratch3
abbrev bM : Memref sig .scVector .vmem S16 .f32 := Memref.whole cc0_scratch4

variable {s0 d0 : ℕ} (hs : s0 + 1 ≤ 12) (hd : d0 + 256 ≤ 2048)

/-- The item's row. -/
abbrev rowOf (hs : s0 + 1 ≤ 12) : Fin 12 := ⟨s0, hs⟩

theorem ofNat_of_lt (n : ℕ) (h : n < 2048) : Fin.ofNat 2048 n = ⟨n, h⟩ := Fin.ext (Nat.mod_eq_of_lt h)

/-- A chunk, read: 128 steps of 256 columns of the item's row. -/
theorem read_xsl (X : S12x2048x2048.Idx → F .f32) (g : Fin 8) :
    (xsl aX s0 d0 hs hd g).view.read (Elt F) X
      = fun y => xSt X (rowOf hs) (128 * g.val + (y 0).val) (d0 + (y 1).val) := by
  funext y
  have h0 : (y 0).val < 128 := (y 0).isLt
  have h1 : (y 1).val < 256 := (y 1).isLt
  have hg := g.isLt
  show X ((Rect.unit (s := S12x2048x2048) ![s0, 1024 + 128 * g.val, d0] S1x128x256.size (xslInb hs hd g)).emb
    (Shape.reshapeEquiv squeezes_S1x128x256_S128x256.numel_eq y)) = _
  rw [show Shape.reshapeEquiv squeezes_S1x128x256_S128x256.numel_eq y = (Fin.cons ⟨0, Nat.one_pos⟩ y : S1x128x256.Idx) from
    Shape.reshapeEquiv_cons_one _ y]
  unfold xSt
  rw [ofNat_of_lt _ (by omega), ofNat_of_lt _ (by omega)]
  congr 1
  funext a
  fin_cases a
  · rfl
  · refine Fin.ext ?_
    show 1024 + 128 * g.val + 1 * (y 0).val = 1024 + (128 * g.val + (y 0).val)
    omega
  · refine Fin.ext ?_
    show d0 + 1 * (y 1).val = d0 + (y 1).val
    omega

/-- The item's mask, read. -/
theorem read_msl (M : S12x2048.Idx → F .f32) :
    (msl aM s0 hs).view.read (Elt F) M = fun y => mSt M (rowOf hs) (y 0).val := by
  funext y
  have h0 : (y 0).val < 1024 := (y 0).isLt
  show M ((Rect.unit (s := S12x2048) ![s0, 1024] S1x1024.size (mslInb hs)).emb
    (Shape.reshapeEquiv squeezes_S1x1024_S1024.numel_eq y)) = _
  rw [show Shape.reshapeEquiv squeezes_S1x1024_S1024.numel_eq y = (Fin.cons ⟨0, Nat.one_pos⟩ y : S1x1024.Idx) from
    Shape.reshapeEquiv_cons_one _ y]
  unfold mSt
  rw [ofNat_of_lt _ (by omega)]
  congr 1
  funext a
  fin_cases a
  · rfl
  · refine Fin.ext ?_
    show 1024 + 1 * (y 0).val = 1024 + (y 0).val
    omega

/-- Where the item's pooled column `y` lies. -/
theorem emb_osl (y : S256.Idx) :
    (osl aO s0 d0 hs hd).view.emb y = (ValueIdx.ix2 (rowOf hs) ⟨d0 + (y 0).val, by have h : (y 0).val < 256 := (y 0).isLt; omega⟩ : S12x2048.Idx) := by
  show (Rect.unit (s := S12x2048) ![s0, d0] S1x256.size (oslInb hs hd)).emb (Shape.reshapeEquiv squeezes_S1x256_S256.numel_eq y) = _
  rw [show Shape.reshapeEquiv squeezes_S1x256_S256.numel_eq y = (Fin.cons ⟨0, Nat.one_pos⟩ y : S1x256.Idx) from
    Shape.reshapeEquiv_cons_one _ y]
  funext a
  fin_cases a
  · rfl
  · refine Fin.ext ?_
    show d0 + 1 * (y 0).val = d0 + (y 0).val
    omega

/-- Where the item's maximum of lane `y` lies. -/
theorem emb_mosl (y : S16.Idx) : (mosl aP s0 hs).view.emb y = (ValueIdx.ix2 (rowOf hs) (y 0) : S12x16.Idx) := by
  show (Rect.unit (s := S12x16) ![s0, 0] S1x16.size (moslInb hs)).emb (Shape.reshapeEquiv squeezes_S1x16_S16.numel_eq y) = _
  rw [show Shape.reshapeEquiv squeezes_S1x16_S16.numel_eq y = (Fin.cons ⟨0, Nat.one_pos⟩ y : S1x16.Idx) from
    Shape.reshapeEquiv_cons_one _ y]
  funext a
  fin_cases a
  · rfl
  · refine Fin.ext ?_
    show 0 + 1 * (y 0).val = (y 0).val
    omega

/-- The item's pooled elements: its row, its 256 columns. -/
theorem mem_osl (x : S12x2048.Idx) : x ∈ (osl aO s0 d0 hs hd).view.set ↔ (x 0).val = s0 ∧ d0 ≤ (x 1).val ∧ (x 1).val < d0 + 256 := by
  constructor
  · intro h
    obtain ⟨y, -, rfl⟩ := Finset.mem_map.mp h
    rw [show (osl aO s0 d0 hs hd).view.emb y = _ from emb_osl hs hd y]
    have h : (y 0).val < 256 := (y 0).isLt
    refine ⟨rfl, ?_, ?_⟩
    · show d0 ≤ d0 + (y 0).val; omega
    · show d0 + (y 0).val < d0 + 256; omega
  · rintro ⟨h0, h1, h2⟩
    refine Finset.mem_map.mpr ⟨ValueIdx.ix1 ⟨(x 1).val - d0, by omega⟩, Finset.mem_univ _, (emb_osl hs hd _).trans ?_⟩
    funext a
    fin_cases a
    · exact Fin.ext h0.symm
    · refine Fin.ext ?_
      show d0 + ((x 1).val - d0) = (x 1).val
      omega

/-- The item's maxima: its row. -/
theorem mem_mosl (x : S12x16.Idx) : x ∈ (mosl aP s0 hs).view.set ↔ (x 0).val = s0 := by
  constructor
  · intro h
    obtain ⟨y, -, rfl⟩ := Finset.mem_map.mp h
    rw [show (mosl aP s0 hs).view.emb y = _ from emb_mosl hs y]
  · intro h0
    refine Finset.mem_map.mpr ⟨ValueIdx.ix1 (x 1), Finset.mem_univ _, (emb_mosl hs _).trans ?_⟩
    funext a
    fin_cases a
    · exact Fin.ext h0.symm
    · rfl

/-- What the item's copy out leaves on its elements: the pooled columns. -/
theorem out_written (M : S12x2048.Idx → F .f32) (X : S12x2048x2048.Idx → F .f32) (f : S12x2048.Idx → F .f32) (w : S256.Idx → F .f32)
    (hw : w = fun y => pool M X (rowOf hs) (d0 + (y 0).val) 1024) :
    ∀ x ∈ (osl aO s0 d0 hs hd).view.set, (osl aO s0 d0 hs hd).view.write (Elt F) f w Finset.univ x = POOL M X x := by
  intro x hx
  obtain ⟨y, -, rfl⟩ := Finset.mem_map.mp hx
  refine (View.write_emb_of_mem (v := (osl aO s0 d0 hs hd).view) (Val := Elt F) f w (Finset.mem_univ y)).trans ?_
  subst hw
  show pool M X (rowOf hs) (d0 + (y 0).val) 1024 = POOL M X ((osl aO s0 d0 hs hd).view.emb y)
  rw [show (osl aO s0 d0 hs hd).view.emb y = _ from emb_osl hs hd y]
  rfl

/-- What the item's second copy out leaves on its elements: the running maxima. -/
theorem max_written (M : S12x2048.Idx → F .f32) (f : S12x16.Idx → F .f32) (w : S16.Idx → F .f32)
    (hw : w = cumM (laneMax M (rowOf hs) 64)) :
    ∀ x ∈ (mosl aP s0 hs).view.set, (mosl aP s0 hs).view.write (Elt F) f w Finset.univ x = MOUT M x := by
  intro x hx
  obtain ⟨y, -, rfl⟩ := Finset.mem_map.mp hx
  refine (View.write_emb_of_mem (v := (mosl aP s0 hs).view) (Val := Elt F) f w (Finset.mem_univ y)).trans ?_
  subst hw
  show cumM (laneMax M (rowOf hs) 64) y = MOUT M ((mosl aP s0 hs).view.emb y)
  rw [show (mosl aP s0 hs).view.emb y = _ from emb_mosl hs y]
  show _ = cumM (laneMax M (rowOf hs) 64) (ValueIdx.ix1 (y 0))
  exact congrArg (cumM (laneMax M (rowOf hs) 64)) (ValueIdx.eq_ix1 y)

end Cert.Proof.Pool
end
-- ==== Proof.Moves.lean ====
/-
  The steps an item's copies and stores take, each with the values it moves: a fetch of a part of an array into a buffer, a buffer
  copied out to a part of an array, and sixteen numbers stored after the ones already there.
-/
module

public import proofs.«01_k».proof.Proof.Loops
public import proofs.«01_k».proof.Proof.Geometry

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable {d : Dev nD} {L : grid0.Coords}

/-- A buffer of the subcore held outright, whatever it holds. -/
def Any (d : Dev nD) (L : grid0.Coords) {s : Shape} {sp : Space} (m : Memref sig .scVector sp s .f32) : sProp 𝕄 :=
  iprop(∃ f, (m.view.loc (th d L) ↦{fullShare} f))

theorem Holds.any {s : Shape} {sp : Space} {m : Memref sig .scVector sp s .f32} {G : s.Idx → F .f32} : Holds d L m G ⊢ Any d L m := by
  unfold Holds Any
  iintro ⟨%f, -, H⟩
  iexists f
  iexact H

/-- A buffer held at any contents holds some. -/
theorem Any.holds {s : Shape} {sp : Space} {m : Memref sig .scVector sp s .f32} : Any d L m ⊢ (iprop(∃ G, Holds d L m G) : sProp 𝕄) := by
  unfold Holds Any
  iintro ⟨%f, H⟩
  iexists _, f
  isplitr
  · ipureintro; rfl
  · iexact H

/-- What the subcore owes, the waits it has recorded since `W₀` all of its own transfers. -/
def Owing (d : Dev nD) (L : grid0.Coords) (O : CellTallies nD τ sig (HIx 1)) (W₀ : Waits sig (HIx 1)) : sProp 𝕄 :=
  iprop(∃ W, ⌜∀ p ∈ W, p ∈ W₀ ∨ p.2 = none⌝ ∗ owes (th d L) O W)

/-- A fetch under way into a buffer. -/
def Getting (d : Dev nD) (L : grid0.Coords) {s : Shape} {sp sp' : Space} (src : Memref sig .scVector sp s .f32)
    (dst : Memref sig .scVector sp' s .f32) (sem : DmaSem sig) (q : PosShare TreeShare) (fs : Buf (Elt F) (src.view.loc (th d L))) : sProp 𝕄 :=
  iprop(∃ fd, Fetching d L src dst sem Finset.univ q fs Finset.univ fd)

section Copies

variable {α : Type} {s : Shape} {sp sp' : Space} {O : CellTallies nD τ sig (HIx 1)} {W₀ : Waits sig (HIx 1)}

/-- The start of a fetch. -/
theorem wp_get {src : Memref sig .scVector sp s .f32} {dst : Memref sig .scVector sp' s .f32} {sem : DmaSem sig}
    {hsrc : src.view.WordExact} {hdst : dst.view.WordExact} {hsem : DmaTarget.Typed (nD := nD) sp (SemLoc.dma sem) (DmaTarget.here (p := (th d L).2) dst)}
    {k : PUnit → PV F L α} {Q : α → sProp 𝕄} {q : PosShare TreeShare} {fs : Buf (Elt F) (src.view.loc (th d L))}
    (hN0 : 0 < dst.view.dmaCredit) :
    iprop((src.view.loc (th d L) ↦{q} fs) ∗ Any d L dst ∗ semVal (th d L, .dma sem) 0)
      ⊢ iprop((Getting d L src dst sem q fs -∗ Wp d L (k ⟨⟩) Q)
          -∗ Wp d L (.op (.enqueueDma src (.here dst) (.dma sem) hsrc hdst hsem) k) Q) := by
  unfold Any Getting
  iintro ⟨Hs, ⟨%fd, Hd⟩, Hv⟩ Hk
  iapply (wp_fetch hN0 (Finset.subset_univ _) (Finset.subset_univ _)) $$ [Hs Hd Hv]
  · isplitl [Hs]; · iexact Hs
    isplitl [Hd]; · iexact Hd
    iexact Hv
  iintro Hf
  iapply Hk
  iexists fd
  iexact Hf

/-- The wait for a fetch: the buffer holds the part read. -/
theorem wp_got {src : Memref sig .scVector sp s .f32} {dst : Memref sig .scVector sp' s .f32} {sem : DmaSem sig}
    {hsrc : src.view.WordExact} {hdst : dst.view.WordExact}
    {k : PUnit → PV F L α} {Q : α → sProp 𝕄} {q : PosShare TreeShare} {fs : Buf (Elt F) (src.view.loc (th d L))} {G : s.Idx → F .f32}
    (hG : src.view.read (Elt F) fs = G) :
    iprop(Getting d L src dst sem q fs ∗ Owing d L O W₀ ∗ Transfers.MayWaits (th d L) (none : HIx 1) O)
      ⊢ iprop((iprop((src.view.loc (th d L) ↦{q} fs) ∗ Holds d L dst G ∗ semVal (th d L, .dma sem) 0 ∗ Owing d L O W₀) -∗ Wp d L (k ⟨⟩) Q)
          -∗ Wp d L (.op (.waitDma2 sem src dst hsrc hdst) k) Q) := by
  unfold Getting Owing
  iintro ⟨⟨%fd, Hf⟩, ⟨%W, %hW, HO⟩, Hmw⟩ Hk
  iapply (wp_fetched (Finset.subset_univ _)) $$ [Hf HO Hmw]
  · isplitl [Hf]; · iexact Hf
    isplitl [HO]; · iexact HO
    iexact Hmw
  iintro ⟨Hs, Hd, Hv, HO⟩
  iapply Hk
  isplitl [Hs]; · iexact Hs
  isplitl [Hd]
  · unfold Holds
    iexists _
    isplitr
    swap
    · iexact Hd
    ipureintro
    rw [View.read_write_univ (v := dst.view) (Val := Elt F), hG]
  isplitl [Hv]; · iexact Hv
  iexists _
  isplitr
  swap
  · iexact HO
  ipureintro
  intro p hp
  rcases Finset.mem_insert.mp hp with hp | hp
  · exact .inr (hp ▸ rfl)
  · exact hW p hp

/-- A buffer copied out and waited for: the part of the array written holds what the copy writes, `f'` on its elements. -/
theorem wp_out {src : Memref sig .scVector .vmem s .f32} {dst : Memref sig .scVector sp' s .f32} {sem : DmaSem sig}
    {hsrc hsrc' : src.view.WordExact} {hdst hdst' : dst.view.WordExact}
    {hsem : DmaTarget.Typed (nD := nD) .vmem (SemLoc.dma sem) (DmaTarget.here (p := (th d L).2) dst)}
    {k : PUnit → PV F L α} {Q : α → sProp 𝕄} {G : s.Idx → F .f32} {fd f' : Buf (Elt F) (dst.view.loc (th d L))}
    (hN0 : 0 < dst.view.dmaCredit) (hf' : ∀ x ∈ dst.view.set, dst.view.write (Elt F) fd G Finset.univ x = f' x) :
    iprop(Holds d L src G ∗ (dst.view.loc (th d L) ↦[dst.view.set]{fullShare} fd) ∗ semVal (th d L, .dma sem) 0 ∗ Owing d L O W₀
        ∗ Transfers.MayWaits (th d L) (none : HIx 1) O)
      ⊢ iprop((iprop(Holds d L src G ∗ (dst.view.loc (th d L) ↦[dst.view.set]{fullShare} f') ∗ semVal (th d L, .dma sem) 0 ∗ Owing d L O W₀)
              -∗ Wp d L (k ⟨⟩) Q)
          -∗ Wp d L (.op (.enqueueDma src (.here dst) (.dma sem) hsrc hdst hsem) fun _ => .op (.waitDma2 sem src dst hsrc' hdst') k) Q) := by
  unfold Holds Owing
  iintro ⟨⟨%f, %hf, Hs⟩, Hd, Hv, ⟨%W, %hW, HO⟩, Hmw⟩ Hk
  subst hf
  iapply (wp_fetch hN0 (Finset.subset_univ _) (Finset.Subset.refl _)) $$ [Hs Hd Hv]
  · isplitl [Hs]; · iexact Hs
    isplitl [Hd]; · iexact Hd
    iexact Hv
  iintro Hf
  iapply (wp_fetched (Finset.subset_univ _)) $$ [Hf HO Hmw]
  · isplitl [Hf]; · iexact Hf
    isplitl [HO]; · iexact HO
    iexact Hmw
  iintro ⟨Hs, Hd, Hv, HO⟩
  iapply Hk
  isplitl [Hs]
  · iexists f
    isplitr
    · ipureintro; rfl
    · iexact Hs
  isplitl [Hd]
  · iapply (Entails.of_eq (pointsTo_congr hf'))
    iexact Hd
  isplitl [Hv]; · iexact Hv
  iexists _
  isplitr
  swap
  · iexact HO
  ipureintro
  intro p hp
  rcases Finset.mem_insert.mp hp with hp | hp
  · exact .inr (hp ▸ rfl)
  · exact hW p hp

end Copies

/-- A buffer of 256 numbers whose first `n` are `g`. -/
def Upto (d : Dev nD) (L : grid0.Coords) (m : Memref sig .scVector .vmem S256 .f32) (g : ℕ → F .f32) (n : ℕ) : sProp 𝕄 :=
  iprop(∃ G, ⌜∀ y : S256.Idx, (y 0).val < n → G y = g (y 0).val⌝ ∗ Holds d L m G)

theorem Upto.start {m : Memref sig .scVector .vmem S256 .f32} {g : ℕ → F .f32} : Any d L m ⊢ Upto d L m g 0 := by
  unfold Upto
  refine Any.holds.trans ?_
  iintro ⟨%G, H⟩
  iexists G
  isplitr
  · ipureintro; intro y hy; exact absurd hy (Nat.not_lt_zero _)
  · iexact H

theorem Upto.full {m : Memref sig .scVector .vmem S256 .f32} {g : ℕ → F .f32} : Upto d L m g 256 ⊢ Holds d L m (fun y => g (y 0).val) := by
  unfold Upto
  iintro ⟨%G, %hG, H⟩
  rw [show G = fun y => g (y 0).val from funext fun y => hG y (y 0).isLt]
  iexact H

/-- The next sixteen numbers stored. -/
theorem wp_next {α : Type} {m : Memref sig .scVector .vmem S256 .f32} {g : ℕ → F .f32} {n : ℕ} {w : FVec F S16 .f32}
    {inb : ∀ a, (![n] : Fin 1 → ℕ) a + S16.size a ≤ S256.size a} {hl : m.view.LoadsAt (Rect.unit (s := S256) ![n] S16.size inb).toLoadRect}
    {hx : (m.access (Rect.unit (s := S256) ![n] S16.size inb)).Stores Finset.univ}
    {hm : (Finset.univ : Finset (Rect.unit (s := S256) ![n] S16.size inb).shape.Idx) = Finset.univ ∨ ∀ a, (Rect.unit (s := S256) ![n] S16.size inb).stride a = 1}
    {k : PUnit → PV F L α} {Q : α → sProp 𝕄} (hw : ∀ l : S16.Idx, w l = g (n + (l 0).val)) :
    Upto d L m g n ⊢ iprop((Upto d L m g (n + 16) -∗ Wp d L (k ⟨⟩) Q)
      -∗ Wp d L (.op (.load m (Rect.unit (s := S256) ![n] S16.size inb).toLoadRect hl) fun _ =>
          .op (.store m (Rect.unit (s := S256) ![n] S16.size inb) w Finset.univ hx hm) k) Q) := by
  unfold Upto
  iintro ⟨%G, %hG, H⟩ Hk
  iapply wp_ld $$ H
  iintro H
  have he : ∀ l : S16.Idx, ((Rect.unit (s := S256) ![n] S16.size inb).emb l 0).val = n + (l 0).val := fun l => by
    show n + 1 * (l 0).val = _
    omega
  iapply (wp_st (fun y : S256.Idx => if (y 0).val < n + 16 then g (y 0).val else G y)) $$ H
  · intro l
    have hl : (l 0).val < 16 := (l 0).isLt
    rw [if_pos (by rw [he]; omega), he, hw]
  · intro y hy
    by_cases h1 : (y 0).val < n
    · rw [if_pos (by omega), hG y h1]
    · rw [if_neg]
      intro h2
      refine hy (ValueIdx.ix1 ⟨(y 0).val - n, by omega⟩) ?_
      funext a
      rw [Subsingleton.elim a 0]
      refine Fin.ext ?_
      rw [he]
      show n + ((y 0).val - n) = _
      omega
  iintro H
  iapply Hk
  iexists _
  isplitr
  swap
  · iexact H
  ipureintro
  intro y hy
  exact if_pos hy

end Cert.Proof.Pool
end
-- ==== Proof.ItemRun.lean ====
/-
  One item's run, at any row and any block of columns: what it is handed, and what it leaves.
-/
module

public import proofs.«01_k».proof.Proof.Acc
public import proofs.«01_k».proof.Proof.Moves

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable {d : Dev nD} {L : grid0.Coords}

/-- A run followed by another. -/
theorem wp_then {α β : Type} {p : PV F L α} {k : α → PV F L β} {Q' : α → sProp 𝕄} {Q : β → sProp 𝕄} {P : sProp 𝕄} (h : P ⊢ Wp d L p Q') :
    P ⊢ iprop((∀ a, Q' a -∗ Wp d L (k a) Q) -∗ Wp d L (p >>= k) Q) := by
  unfold Wp
  rw [wp_bind]
  exact h.trans (wp_wand frame _ _)

theorem credit_x : 0 < bA.view.dmaCredit := by decide +kernel
theorem credit_x' : 0 < bB.view.dmaCredit := by decide +kernel
theorem credit_w : 0 < bW.view.dmaCredit := by decide +kernel

section Item

variable {s0 d0 : ℕ} {hs : s0 + 1 ≤ 12} {hd : d0 + 256 ≤ 2048} {O : CellTallies nD τ sig (HIx 1)} {W₀ : Waits sig (HIx 1)}
variable (M : S12x2048.Idx → F .f32) (X : S12x2048x2048.Idx → F .f32) (qa qb q : PosShare TreeShare)

theorem chk_last : k0_chk1 lastIdx := by
  intro x a
  fin_cases x
  show (15#32 : BitVec 32).toNat < 256
  decide

/-- The buffer of 256 columns with its first lanes rewritten, gathered at the last lane. -/
theorem gather_last (v : FVec F S16 .f32) (G : S256.Idx → F .f32) :
    loadIdx (F := F) (e := .f32) (s := S256) (t := S16)
      (fun y : S256.Idx => if h : (y 0).val < 16 then v (ValueIdx.ix1 ⟨(y 0).val, h⟩) else G y) ![lastIdx] (k0_idx1_inb lastIdx chk_last)
      = fun _ => v (ValueIdx.ix1 15) := rfl

/-- An item's first part: the mask in, its maxima out, its weights in place, the first chunk on its way. -/
theorem head_run :
    iprop((aM.view.loc (th d L) ↦{q} M) ∗ (aX.view.loc (th d L) ↦{qa} X) ∗ Any d L bA ∗ Any d L bW ∗ Any d L bS
        ∗ semVal (th d L, .dma cc0_scratch5.sem) 0 ∗ semVal (th d L, .dma cc0_scratch7.sem) 0 ∗ Owing d L O W₀
        ∗ Transfers.MayWaits (th d L) (none : HIx 1) O)
      ⊢ Wp d L (itemHead L aX aM aO aP bA (Memref.isWhole_whole _) bB (Memref.isWhole_whole _) bW (Memref.isWhole_whole _) bS (Memref.isWhole_whole _) bM (Memref.isWhole_whole _) cc0_scratch5 cc0_scratch6 cc0_scratch7 cc0_scratch8 s0 d0 hs hd)
          fun a => iprop(⌜a = cumM (laneMax M (rowOf hs) 64)⌝ ∗ (aM.view.loc (th d L) ↦{q} M)
            ∗ Getting d L (xsl aX s0 d0 hs hd 0) bA cc0_scratch5.sem qa X
            ∗ Holds d L bW (fun y => wgt M (rowOf hs) (y 0).val) ∗ Any d L bS
            ∗ semVal (th d L, .dma cc0_scratch7.sem) 0 ∗ Owing d L O W₀) := by
  unfold itemHead
  simp only [Prog.bind_lift, Prog.pure_eq_ret]
  iintro ⟨HM, HX, HA, HW, HS, Hv5, Hv7, HO, Hmw⟩
  iapply (wp_get (src := msl aM s0 hs) credit_w) $$ [HM HW Hv7]
  · isplitl [HM]; · iexact HM
    isplitl [HW]; · iexact HW
    iexact Hv7
  iintro Hg
  iapply (wp_got (read_msl hs M)) $$ [Hg HO Hmw]
  · isplitl [Hg]; · iexact Hg
    isplitl [HO]; · iexact HO
    iexact Hmw
  iintro ⟨HM, HW, Hv7, HO⟩
  iapply (wp_get (src := xsl aX s0 d0 hs hd 0) credit_x) $$ [HX HA Hv5]
  · isplitl [HX]; · iexact HX
    isplitl [HA]; · iexact HA
    iexact Hv5
  iintro Hx
  iapply (wp_then (red_loop M (rowOf hs) bW)) $$ HW
  iintro %a ⟨%ha, HW⟩
  subst ha
  ihave HS := Any.holds $$ HS
  icases HS with ⟨%G, HS⟩
  iapply wp_ld $$ HS
  iintro HS
  iapply (wp_st (fun y : S256.Idx => if h : (y 0).val < 16 then cumS (laneSum M (rowOf hs) 64) (ValueIdx.ix1 ⟨(y 0).val, h⟩) else G y)) $$ HS
  · intro l
    have hl : (l 0).val < 16 := (l 0).isLt
    have he : ((Rect.unit (s := S256) ![0] S16.size inb_S256_S16_0).emb l 0).val = (l 0).val := by
      show 0 + 1 * (l 0).val = _
      omega
    rw [dif_pos (by rw [he]; exact hl)]
    congr 1
    funext a
    rw [Subsingleton.elim a 0]
    exact Fin.ext he
  · intro y hy
    rw [dif_neg]
    intro h
    refine hy (ValueIdx.ix1 ⟨(y 0).val, h⟩) ?_
    funext a
    rw [Subsingleton.elim a 0]
    refine Fin.ext ?_
    show 0 + 1 * (y 0).val = _
    omega
  iintro HS
  iapply (wp_chk chk_last)
  iapply wp_gather $$ HS
  iintro HS
  rw [gather_last]
  iapply (wp_then (w_loop M (rowOf hs) bW)) $$ HW
  iintro %a HW
  iapply wp_done
  isplitr
  · ipureintro; rfl
  isplitl [HM]; · iexact HM
  isplitl [Hx]; · iexact Hx
  isplitl [HW]; · iexact HW
  isplitl [HS]; · iapply Holds.any; iexact HS
  isplitl [Hv7]; · iexact Hv7
  iexact HO

/-- A chunk's turn: its fetch waited for, its 128 steps accumulated. -/
theorem chunk_run {α : Type} {g : Fin 8} {b : Memref sig .scVector .vmem S128x256 .f32} {sem : DmaSem sig}
    {hsrc : (xsl aX s0 d0 hs hd g).view.WordExact} {hdst : b.view.WordExact} {k : T16 F → PV F L α} {Q : α → sProp 𝕄} (n : ℕ) (hn : n = 128 * g.val) :
    iprop(Getting d L (xsl aX s0 d0 hs hd g) b sem q X ∗ Owing d L O W₀ ∗ Transfers.MayWaits (th d L) (none : HIx 1) O
        ∗ Holds d L bW (fun y => wgt M (rowOf hs) (y 0).val))
      ⊢ iprop((iprop((aX.view.loc (th d L) ↦{q} X) ∗ Any d L b ∗ semVal (th d L, .dma sem) 0 ∗ Owing d L O W₀
              ∗ Holds d L bW (fun y => wgt M (rowOf hs) (y 0).val)) -∗ Wp d L (k (accs M X (rowOf hs) d0 (n + 128))) Q)
          -∗ Wp d L (.op (.waitDma2 sem (xsl aX s0 d0 hs hd g) b hsrc hdst) fun _ =>
              (Scf.Loop.for k0_t3_loop k0_t3_ok (accs M X (rowOf hs) d0 n) (accBody L bW b (BitVec.ofNat 32 n))) >>= k) Q) := by
  subst hn
  have hg := g.isLt
  iintro ⟨Hg, HO, Hmw, HW⟩ Hk
  iapply (wp_got (read_xsl hs hd X g)) $$ [Hg HO Hmw]
  · isplitl [Hg]; · iexact Hg
    isplitl [HO]; · iexact HO
    iexact Hmw
  iintro ⟨HX, Hb, Hv, HO⟩
  iapply (wp_then (acc_loop M X (rowOf hs) d0 (128 * g.val) (by omega) bW b)) $$ [HW Hb]
  · isplitl [HW]; · iexact HW
    iexact Hb
  iintro %a ⟨%ha, HW, Hb⟩
  subst ha
  iapply Hk
  isplitl [HX]; · iexact HX
  isplitl [Hb]; · iapply Holds.any; iexact Hb
  isplitl [Hv]; · iexact Hv
  isplitl [HO]; · iexact HO
  iexact HW

/-- A run followed by nothing. -/
theorem wp_eta {α : Type} {p : PV F L α} {Q : α → sProp 𝕄} : Wp d L (p >>= Prog.ret) Q ⊢ Wp d L p Q := by
  rw [show p >>= Prog.ret = p from bind_pure p]

/-- Two chunks' turns: the second chunk is fetched while the first is accumulated, a third while the second is. -/
theorem pair_run {α : Type} {g g1 g2 : Fin 8} {hsrc1 : (xsl aX s0 d0 hs hd g1).view.WordExact} {hdst1 : bB.view.WordExact}
    {hsem1 : DmaTarget.Typed (nD := nD) .hbm (SemLoc.dma cc0_scratch6.sem) (DmaTarget.here (p := (th d L).2) bB)}
    {hsrc : (xsl aX s0 d0 hs hd g).view.WordExact} {hdst : bA.view.WordExact}
    {hsrc2 : (xsl aX s0 d0 hs hd g2).view.WordExact} {hdst2 : bA.view.WordExact}
    {hsem2 : DmaTarget.Typed (nD := nD) .hbm (SemLoc.dma cc0_scratch5.sem) (DmaTarget.here (p := (th d L).2) bA)}
    {hsrc1' : (xsl aX s0 d0 hs hd g1).view.WordExact} {hdst1' : bB.view.WordExact}
    {k : T16 F → PV F L α} {Q : α → sProp 𝕄} (n : ℕ) (hn : n = 128 * g.val) (hn1 : n + 128 = 128 * g1.val) :
    iprop(Getting d L (xsl aX s0 d0 hs hd g) bA cc0_scratch5.sem qa X ∗ (aX.view.loc (th d L) ↦{qb} X) ∗ Any d L bB
        ∗ semVal (th d L, .dma cc0_scratch6.sem) 0 ∗ Holds d L bW (fun y => wgt M (rowOf hs) (y 0).val) ∗ Owing d L O W₀
        ∗ Transfers.MayWaits (th d L) (none : HIx 1) O)
      ⊢ iprop((iprop(Getting d L (xsl aX s0 d0 hs hd g2) bA cc0_scratch5.sem qa X ∗ (aX.view.loc (th d L) ↦{qb} X) ∗ Any d L bB
              ∗ semVal (th d L, .dma cc0_scratch6.sem) 0 ∗ Owing d L O W₀ ∗ Holds d L bW (fun y => wgt M (rowOf hs) (y 0).val))
            -∗ Wp d L (k (accs M X (rowOf hs) d0 (n + 256))) Q)
          -∗ Wp d L (.op (.enqueueDma (xsl aX s0 d0 hs hd g1) (.here bB) (.dma cc0_scratch6.sem) hsrc1 hdst1 hsem1) fun _ =>
              .op (.waitDma2 cc0_scratch5.sem (xsl aX s0 d0 hs hd g) bA hsrc hdst) fun _ =>
              (Scf.Loop.for k0_t3_loop k0_t3_ok (accs M X (rowOf hs) d0 n) (accBody L bW bA (BitVec.ofNat 32 n))) >>= fun a =>
              .op (.enqueueDma (xsl aX s0 d0 hs hd g2) (.here bA) (.dma cc0_scratch5.sem) hsrc2 hdst2 hsem2) fun _ =>
              .op (.waitDma2 cc0_scratch6.sem (xsl aX s0 d0 hs hd g1) bB hsrc1' hdst1') fun _ =>
              (Scf.Loop.for k0_t3_loop k0_t3_ok a (accBody L bW bB (BitVec.ofNat 32 (n + 128)))) >>= k) Q) := by
  iintro ⟨Ha, Xb, HB, H6, HW, HO, #Hmw⟩ Hk
  iapply (wp_get credit_x') $$ [Xb HB H6]
  · isplitl [Xb]; · iexact Xb
    isplitl [HB]; · iexact HB
    iexact H6
  iintro Hb
  iapply (chunk_run M X _ n hn) $$ [Ha HO HW]
  · isplitl [Ha]; · iexact Ha
    isplitl [HO]; · iexact HO
    isplitr; · iexact Hmw
    iexact HW
  iintro ⟨Xa, HA, H5, HO, HW⟩
  iapply (wp_get credit_x) $$ [Xa HA H5]
  · isplitl [Xa]; · iexact Xa
    isplitl [HA]; · iexact HA
    iexact H5
  iintro Ha
  iapply (chunk_run M X _ (n + 128) hn1) $$ [Hb HO HW]
  · isplitl [Hb]; · iexact Hb
    isplitl [HO]; · iexact HO
    isplitr; · iexact Hmw
    iexact HW
  iintro ⟨Xb, HB, H6, HO, HW⟩
  iapply Hk
  isplitl [Ha]; · iexact Ha
  isplitl [Xb]; · iexact Xb
  isplitl [HB]; · iexact HB
  isplitl [H6]; · iexact H6
  isplitl [HO]; · iexact HO
  iexact HW

/-- An item's eight chunks: from the first chunk under way to the sixteen sums over all 1024 steps. -/
theorem mid_run :
    iprop(Getting d L (xsl aX s0 d0 hs hd 0) bA cc0_scratch5.sem qa X ∗ (aX.view.loc (th d L) ↦{qb} X) ∗ Any d L bB
        ∗ semVal (th d L, .dma cc0_scratch6.sem) 0 ∗ Holds d L bW (fun y => wgt M (rowOf hs) (y 0).val) ∗ Owing d L O W₀
        ∗ Transfers.MayWaits (th d L) (none : HIx 1) O)
      ⊢ Wp d L (itemMid L aX aM aO aP bA (Memref.isWhole_whole _) bB (Memref.isWhole_whole _) bW (Memref.isWhole_whole _) bS (Memref.isWhole_whole _) bM (Memref.isWhole_whole _) cc0_scratch5 cc0_scratch6 cc0_scratch7 cc0_scratch8 s0 d0 hs hd)
          fun a => iprop(⌜a = accs M X (rowOf hs) d0 1024⌝ ∗ (aX.view.loc (th d L) ↦{qa} X) ∗ (aX.view.loc (th d L) ↦{qb} X)
            ∗ Any d L bA ∗ Any d L bB ∗ Any d L bW
            ∗ semVal (th d L, .dma cc0_scratch5.sem) 0 ∗ semVal (th d L, .dma cc0_scratch6.sem) 0 ∗ Owing d L O W₀) := by
  refine BIBase.Entails.trans ?_ wp_eta
  unfold itemMid
  rw [accs_zero M X (rowOf hs) d0]
  simp only [Prog.bind_lift, Prog.bind_op, bind_assoc]
  iintro ⟨Ha, Xb, HB, H6, HW, HO, #Hmw⟩
  iapply (pair_run M X _ _ 0 rfl rfl) $$ [Ha Xb HB H6 HW HO]
  · isplitl [Ha]; · iexact Ha
    isplitl [Xb]; · iexact Xb
    isplitl [HB]; · iexact HB
    isplitl [H6]; · iexact H6
    isplitl [HW]; · iexact HW
    isplitl [HO]; · iexact HO
    iexact Hmw
  iintro ⟨Ha, Xb, HB, H6, HO, HW⟩
  iapply (pair_run M X _ _ 256 rfl rfl) $$ [Ha Xb HB H6 HW HO]
  · isplitl [Ha]; · iexact Ha
    isplitl [Xb]; · iexact Xb
    isplitl [HB]; · iexact HB
    isplitl [H6]; · iexact H6
    isplitl [HW]; · iexact HW
    isplitl [HO]; · iexact HO
    iexact Hmw
  iintro ⟨Ha, Xb, HB, H6, HO, HW⟩
  iapply (pair_run M X _ _ 512 rfl rfl) $$ [Ha Xb HB H6 HW HO]
  · isplitl [Ha]; · iexact Ha
    isplitl [Xb]; · iexact Xb
    isplitl [HB]; · iexact HB
    isplitl [H6]; · iexact H6
    isplitl [HW]; · iexact HW
    isplitl [HO]; · iexact HO
    iexact Hmw
  iintro ⟨Ha, Xb, HB, H6, HO, HW⟩
  iapply (wp_get credit_x') $$ [Xb HB H6]
  · isplitl [Xb]; · iexact Xb
    isplitl [HB]; · iexact HB
    iexact H6
  iintro Hb
  iapply (chunk_run M X _ 768 rfl) $$ [Ha HO HW]
  · isplitl [Ha]; · iexact Ha
    isplitl [HO]; · iexact HO
    isplitr; · iexact Hmw
    iexact HW
  iintro ⟨Xa, HA, H5, HO, HW⟩
  iapply (chunk_run M X _ 896 rfl) $$ [Hb HO HW]
  · isplitl [Hb]; · iexact Hb
    isplitl [HO]; · iexact HO
    isplitr; · iexact Hmw
    iexact HW
  iintro ⟨Xb, HB, H6, HO, HW⟩
  iapply wp_done
  isplitr; · ipureintro; rfl
  isplitl [Xa]; · iexact Xa
  isplitl [Xb]; · iexact Xb
  isplitl [HA]; · iexact HA
  isplitl [HB]; · iexact HB
  isplitl [HW]; · iapply Holds.any; iexact HW
  isplitl [H5]; · iexact H5
  isplitl [H6]; · iexact H6
  iexact HO

/-- The sixteen sums stored: the buffer of 256 columns holds the pooled columns. -/
theorem put_run :
    Any d L bS ⊢ Wp d L (putAcc L bS (Memref.isWhole_whole _) (accs M X (rowOf hs) d0 1024))
      fun _ => Holds d L bS (fun y => pool M X (rowOf hs) (d0 + (y 0).val) 1024) := by
  refine BIBase.Entails.trans (Upto.start (g := fun t => pool M X (rowOf hs) (d0 + t) 1024)) ?_
  unfold putAcc
  simp only [Prog.bind_lift, Prog.pure_eq_ret, accs_get]
  iintro H
  iterate 16
    iapply (wp_next (fun l => by rw [Nat.add_assoc]; rfl)) $$ H
    iintro H
  iapply wp_done
  iapply (Upto.full (g := fun t => pool M X (rowOf hs) (d0 + t) 1024))
  iexact H

/-- The elements of the maxima an item writes: its row's, where it is the first item of its row. -/
def mSet (s0 : ℕ) (hs : s0 + 1 ≤ 12) (c : BitVec 1) : Finset S12x16.Idx := if c = 1#1 then (mosl aP s0 hs).view.set else ∅

theorem mosl_credit : 0 < (mosl aP s0 hs).view.dmaCredit := Nat.lt_of_lt_of_eq (by decide +kernel : 0 < bM.view.dmaCredit) rfl
theorem osl_credit : 0 < (osl aO s0 d0 hs hd).view.dmaCredit := Nat.lt_of_lt_of_eq (by decide +kernel : 0 < bS.view.dmaCredit) rfl

/-- An item's last step. -/
theorem max_run (qm : DmaSems sig S_) (c : BitVec 1) (f : S12x16.Idx → F .f32) :
    iprop(Any d L bM ∗ (aP.view.loc (th d L) ↦[mSet s0 hs c]{fullShare} f) ∗ semVal (th d L, .dma qm.sem) 0 ∗ Owing d L O W₀
        ∗ Transfers.MayWaits (th d L) (none : HIx 1) O)
      ⊢ Wp d L (maxOut L aP bM (Memref.isWhole_whole _) qm s0 hs c (cumM (laneMax M (rowOf hs) 64)))
          fun _ => iprop(Any d L bM ∗ (aP.view.loc (th d L) ↦[mSet s0 hs c]{fullShare} (MOUT M)) ∗ semVal (th d L, .dma qm.sem) 0 ∗ Owing d L O W₀) := by
  unfold maxOut mSet
  by_cases hc : c = 1#1
  · rw [dif_pos hc, if_pos hc]
    simp only [Prog.bind_lift, Prog.pure_eq_ret]
    iintro ⟨HB, HP, Hv, HO, Hmw⟩
    ihave HB := Any.holds $$ HB
    icases HB with ⟨%G, HB⟩
    iapply wp_ld $$ HB
    iintro HB
    have he : ∀ l : S16.Idx, (Rect.unit (s := S16) ![0] S16.size inb_S16_S16_0).emb l = l := fun l => by
      funext a
      rw [Subsingleton.elim a 0]
      refine Fin.ext ?_
      show 0 + 1 * (l 0).val = _
      omega
    iapply (wp_st (cumM (laneMax M (rowOf hs) 64))) $$ HB
    · intro l; exact congrArg _ (he l)
    · intro y hy; exact absurd (he y) (hy y)
    iintro HB
    iapply (wp_out mosl_credit (max_written hs M f _ rfl)) $$ [HB HP Hv HO Hmw]
    · isplitl [HB]; · iexact HB
      isplitl [HP]; · iexact HP
      isplitl [Hv]; · iexact Hv
      isplitl [HO]; · iexact HO
      iexact Hmw
    iintro ⟨HB, HP, Hv, HO⟩
    iapply wp_done
    isplitl [HB]; · iapply Holds.any; iexact HB
    isplitl [HP]; · iexact HP
    isplitl [Hv]; · iexact Hv
    iexact HO
  · rw [dif_neg hc, if_neg hc]
    simp only [Prog.pure_eq_ret]
    iintro ⟨HB, HP, Hv, HO, Hmw⟩
    iapply wp_done
    isplitl [HB]; · iexact HB
    isplitl [HP]
    · iapply (Entails.of_eq (pointsTo_congr (fun x hx => absurd hx (Finset.notMem_empty x))))
      iexact HP
    isplitl [Hv]; · iexact Hv
    iexact HO

/-- What every item of a subcore is handed and hands back: the read shares of the two lists, the five buffers, four counters at zero. -/
def Tools (d : Dev nD) (L : grid0.Coords) : sProp 𝕄 :=
  iprop((aX.view.loc (th d L) ↦{qa} X) ∗ (aX.view.loc (th d L) ↦{qb} X) ∗ (aM.view.loc (th d L) ↦{q} M)
    ∗ Any d L bA ∗ Any d L bB ∗ Any d L bW ∗ Any d L bS ∗ Any d L bM
    ∗ semVal (th d L, .dma cc0_scratch5.sem) 0 ∗ semVal (th d L, .dma cc0_scratch6.sem) 0 ∗ semVal (th d L, .dma cc0_scratch7.sem) 0
    ∗ semVal (th d L, .dma cc0_scratch8.sem) 0)

/-- One item: its pooled columns, and its row's maxima where it is the first of its row. -/
theorem item_run (qm : DmaSems sig S_) (c : BitVec 1) (fo : S12x2048.Idx → F .f32) (fp : S12x16.Idx → F .f32) :
    iprop(Tools M X qa qb q d L ∗ (aO.view.loc (th d L) ↦[(osl aO s0 d0 hs hd).view.set]{fullShare} fo)
        ∗ (aP.view.loc (th d L) ↦[mSet s0 hs c]{fullShare} fp) ∗ semVal (th d L, .dma qm.sem) 0 ∗ Owing d L O W₀
        ∗ Transfers.MayWaits (th d L) (none : HIx 1) O)
      ⊢ Wp d L (item L aX aM aO aP bA (Memref.isWhole_whole _) bB (Memref.isWhole_whole _) bW (Memref.isWhole_whole _) bS (Memref.isWhole_whole _) bM (Memref.isWhole_whole _) cc0_scratch5 cc0_scratch6 cc0_scratch7 cc0_scratch8 qm s0 d0 hs hd c)
          fun _ => iprop(Tools M X qa qb q d L ∗ (aO.view.loc (th d L) ↦[(osl aO s0 d0 hs hd).view.set]{fullShare} (POOL M X))
            ∗ (aP.view.loc (th d L) ↦[mSet s0 hs c]{fullShare} (MOUT M)) ∗ semVal (th d L, .dma qm.sem) 0 ∗ Owing d L O W₀) := by
  refine BIBase.Entails.trans ?_ wp_eta
  unfold item Tools
  simp only [Prog.bind_lift, Prog.bind_op, bind_assoc]
  iintro ⟨⟨Xa, Xb, HM, HA, HB, HW, HS, HT, H5, H6, H7, H8⟩, Ho, Hp, Hq, HO, #Hmw⟩
  iapply (wp_then (head_run M X qa q)) $$ [HM Xa HA HW HS H5 H7 HO]
  · isplitl [HM]; · iexact HM
    isplitl [Xa]; · iexact Xa
    isplitl [HA]; · iexact HA
    isplitl [HW]; · iexact HW
    isplitl [HS]; · iexact HS
    isplitl [H5]; · iexact H5
    isplitl [H7]; · iexact H7
    isplitl [HO]; · iexact HO
    iexact Hmw
  iintro %a ⟨%ha, HM, Hg, HW, HS, H7, HO⟩
  subst ha
  iapply (wp_then (mid_run M X qa qb)) $$ [Hg Xb HB H6 HW HO]
  · isplitl [Hg]; · iexact Hg
    isplitl [Xb]; · iexact Xb
    isplitl [HB]; · iexact HB
    isplitl [H6]; · iexact H6
    isplitl [HW]; · iexact HW
    isplitl [HO]; · iexact HO
    iexact Hmw
  iintro %a ⟨%ha, Xa, Xb, HA, HB, HW, H5, H6, HO⟩
  subst ha
  iapply (wp_then (put_run M X)) $$ HS
  iintro %u HS
  iapply (wp_out osl_credit (out_written hs hd M X fo _ rfl)) $$ [HS Ho H8 HO]
  · isplitl [HS]; · iexact HS
    isplitl [Ho]; · iexact Ho
    isplitl [H8]; · iexact H8
    isplitl [HO]; · iexact HO
    iexact Hmw
  iintro ⟨HS, Ho, H8, HO⟩
  iapply (wp_then (max_run M qm c fp)) $$ [HT Hp Hq HO]
  · isplitl [HT]; · iexact HT
    isplitl [Hp]; · iexact Hp
    isplitl [Hq]; · iexact Hq
    isplitl [HO]; · iexact HO
    iexact Hmw
  iintro %v ⟨HT, Hp, Hq, HO⟩
  iapply wp_done
  isplitr [Ho Hp Hq HO]
  · isplitl [Xa]; · iexact Xa
    isplitl [Xb]; · iexact Xb
    isplitl [HM]; · iexact HM
    isplitl [HA]; · iexact HA
    isplitl [HB]; · iexact HB
    isplitl [HW]; · iexact HW
    isplitl [HS]; · iapply Holds.any; iexact HS
    isplitl [HT]; · iexact HT
    isplitl [H5]; · iexact H5
    isplitl [H6]; · iexact H6
    isplitl [H7]; · iexact H7
    iexact H8
  isplitl [Ho]; · iexact Ho
  isplitl [Hp]; · iexact Hp
  isplitl [Hq]; · iexact Hq
  iexact HO

end Item

end Cert.Proof.Pool
end
-- ==== Proof.ItemEq.lean ====
/-
  The printed body is the item program three times.
-/
module

public import proofs.«01_k».proof.Proof.Item

@[expose] public section

noncomputable section

namespace Cert.Proof.Pool

open Cert.KernelIdeal Cert.KernelIdeal.Gen
open Idealize.ShloMosaic Idealize.SL.Sem

variable {F : FTy → Type} [FloatOps F]

universe v

/-- Two effects with their continuations are equal where the effects are and the continuations are at every response. -/
theorem op_eq {E : Type → Type v} {α β : Type} {e e' : E β} {k k' : β → Prog E α} (he : e = e') (hk : ∀ x, k x = k' x) :
    Prog.op e k = Prog.op e' k' := by subst he; exact congrArg _ (funext hk)

/-- Two programs in sequence are equal where the first parts are and the rests are at every value. -/
theorem bind_eq {E : Type → Type v} {α β : Type} {x x' : Prog E α} {k k' : α → Prog E β} (hx : x = x') (hk : ∀ a, k a = k' a) :
    x >>= k = x' >>= k' := by subst hx; exact congrArg _ (funext hk)

/-- A conditional in sequence: its two branches end in one value, which what follows reads. -/
theorem dite_bind_eq {E : Type → Type v} {α α' β : Type} {c : Prop} [Decidable c] {t : c → Prog E α} {e : ¬ c → Prog E α}
    {t' : c → Prog E α'} {e' : ¬ c → Prog E α'} {k : α → Prog E β} {k' : α' → Prog E β} (r : α)
    (ht : ∀ h, t h = (t' h >>= fun _ => Prog.ret r)) (he : ∀ h, e h = (e' h >>= fun _ => Prog.ret r)) (hk : ∀ u, k r = k' u) :
    (if h : c then t h else e h) >>= k = (if h : c then t' h else e' h) >>= k' := by
  split
  · rw [ht, Prog.bind_assoc]; exact congrArg _ (funext fun u => hk u)
  · rw [he, Prog.bind_assoc]; exact congrArg _ (funext fun u => hk u)

variable (i : grid0.Coords)
variable (arg2 : Memref sig .scVector .hbm S12x2048x2048 .f32) (harg2 : arg2.IsWhole) (arg3 : Memref sig .scVector .hbm S12x2048 .f32) (harg3 : arg3.IsWhole) (arg4 : Memref sig .scVector .hbm S12x2048 .f32) (harg4 : arg4.IsWhole) (arg5 : Memref sig .scVector .hbm S12x16 .f32) (harg5 : arg5.IsWhole) (arg6 : Memref sig .scVector .vmem S128x256 .f32) (harg6 : arg6.IsWhole) (arg7 : Memref sig .scVector .vmem S128x256 .f32) (harg7 : arg7.IsWhole) (arg8 : Memref sig .scVector .vmem S1024 .f32) (harg8 : arg8.IsWhole) (arg9 : Memref sig .scVector .vmem S256 .f32) (harg9 : arg9.IsWhole) (arg10 : Memref sig .scVector .vmem S16 .f32) (harg10 : arg10.IsWhole) (arg11 : DmaSems sig S_) (arg12 : DmaSems sig S_) (arg13 : DmaSems sig S_) (arg14 : DmaSems sig S_) (arg15 : DmaSems sig S_) (arg16 : DmaSems sig S_) (arg17 : DmaSems sig S_)

set_option maxRecDepth 100000 in
set_option maxHeartbeats 40000000 in
/-- The printed body is three items in a row. -/
theorem body_eq (hs0 : k0_off2 i 0 + 1 ≤ 12) (hd0 : k0_off2 i 2 + 256 ≤ 2048) (hs1 : k0_off6 i 1#32 0 + 1 ≤ 12)
    (hd1 : k0_off6 i 1#32 2 + 256 ≤ 2048) (hs2 : k0_off147 i 2#32 0 + 1 ≤ 12) (hd2 : k0_off147 i 2#32 2 + 256 ≤ 2048) :
    cc0__sc_pool (F := F) i arg2 harg2 arg3 harg3 arg4 harg4 arg5 harg5 arg6 harg6 arg7 harg7 arg8 harg8 arg9 harg9 arg10 harg10 arg11 arg12 arg13 arg14 arg15 arg16 arg17
      = (do
        item i arg2 arg3 arg4 arg5 arg6 harg6 arg7 harg7 arg8 harg8 arg9 harg9 arg10 harg10 arg11 arg12 arg13 arg14 arg15
          (k0_off2 i 0) (k0_off2 i 2) hs0 hd0 (k0_cond1 i)
        item i arg2 arg3 arg4 arg5 arg6 harg6 arg7 harg7 arg8 harg8 arg9 harg9 arg10 harg10 arg11 arg12 arg13 arg14 arg16
          (k0_off6 i 1#32 0) (k0_off6 i 1#32 2) hs1 hd1 (k0_cond2 i)
        item i arg2 arg3 arg4 arg5 arg6 harg6 arg7 harg7 arg8 harg8 arg9 harg9 arg10 harg10 arg11 arg12 arg13 arg14 arg17
          (k0_off147 i 2#32 0) (k0_off147 i 2#32 2) hs2 hd2 (k0_cond3 i)) := by
  rw [cc0__sc_pool_eq_skeleton]
  simp only [cc0__sc_pool_skel, k0_part25_eq_skeleton, k0_part25_skel, k0_part26_eq_skeleton, k0_part26_skel, k0_part27_eq_skeleton, k0_part27_skel,
    k0_part28_eq_skeleton, k0_part28_skel, k0_part29_eq_skeleton, k0_part29_skel, k0_part30_eq_skeleton, k0_part30_skel,
    k0_part31_eq_skeleton, k0_part31_skel, k0_part32_eq_skeleton, k0_part32_skel, k0_part33_eq_skeleton, k0_part33_skel,
    k0_part34_eq_skeleton, k0_part34_skel, k0_part35_eq_skeleton, k0_part35_skel, k0_part36_eq_skeleton, k0_part36_skel,
    k0_part37_eq_skeleton, k0_part37_skel, k0_part38_eq_skeleton, k0_part38_skel, k0_part39_eq_skeleton, k0_part39_skel,
    k0_part40_eq_skeleton, k0_part40_skel, k0_part41_eq_skeleton, k0_part41_skel, k0_part42_eq_skeleton, k0_part42_skel,
    k0_part43_eq_skeleton, k0_part43_skel, k0_part44_eq_skeleton, k0_part44_skel, k0_part45_eq_skeleton, k0_part45_skel,
    k0_part46_eq_skeleton, k0_part46_skel, k0_part47_eq_skeleton, k0_part47_skel, k0_part48_eq_skeleton, k0_part48_skel,
    k0_part49_eq_skeleton, k0_part49_skel, k0_part50_eq_skeleton, k0_part50_skel, k0_part51_eq_skeleton, k0_part51_skel,
    k0_part52_eq_skeleton, k0_part52_skel, k0_part53_eq_skeleton, k0_part53_skel, k0_part54_eq_skeleton, k0_part54_skel,
    k0_part55_eq_skeleton, k0_part55_skel, k0_part56_eq_skeleton, k0_part56_skel, k0_part57_eq_skeleton, k0_part57_skel,
    k0_part58_eq_skeleton, k0_part58_skel,
    Scf.Loop.for, Prog.bind_op, Prog.bind_lift, Prog.bind_ret, Prog.bind_assoc, Prog.pure_eq_ret,
    item, itemHead, itemMid, putAcc, maxOut, SparseCore.vectorLoadIdx]

  repeat first
    | refine op_eq (by rfl) fun _ => ?_
    | refine bind_eq (by rfl) fun _ => ?_
    | refine dite_bind_eq _ (fun _ => by rfl) (fun _ => by rfl) fun _ => ?_
  rfl

end Cert.Proof.Pool
end
-- ==== Proof.Tile.lean ====
/-
  One subcore's whole task: its three items, from the pieces it is dealt to the same pieces rewritten.
-/
module

public import proofs.«01_k».proof.Proof.ItemRun
public import proofs.«01_k».proof.Proof.ItemEq

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The pieces -/

/-- The number of item `k` of the subcore `(c, i)`. -/
abbrev num (c i k : ℕ) : ℕ := (i * 2 + c) * 3 + k

/-- The pooled elements of item `n`, and the maxima it writes. -/
def oSet (n : ℕ) : Finset S12x2048.Idx := Finset.univ.filter fun x => (x 0).val * 8 + (x 1).val / 256 = n
def pSet (n : ℕ) : Finset S12x16.Idx := Finset.univ.filter fun x => (x 0).val * 8 = n

/-- Where each item lies, and whether it is the first of its row. -/
theorem off0 : ∀ L : grid0.Coords, k0_off2 L 0 = num (L 0).val (L 1).val 0 / 8 ∧ k0_off2 L 2 = num (L 0).val (L 1).val 0 % 8 * 256
    ∧ (k0_cond1 L = 1#1 ↔ num (L 0).val (L 1).val 0 % 8 = 0) := by decide +kernel
theorem off1 : ∀ L : grid0.Coords, k0_off6 L 1#32 0 = num (L 0).val (L 1).val 1 / 8 ∧ k0_off6 L 1#32 2 = num (L 0).val (L 1).val 1 % 8 * 256
    ∧ (k0_cond2 L = 1#1 ↔ num (L 0).val (L 1).val 1 % 8 = 0) := by decide +kernel
theorem off2 : ∀ L : grid0.Coords, k0_off147 L 2#32 0 = num (L 0).val (L 1).val 2 / 8 ∧ k0_off147 L 2#32 2 = num (L 0).val (L 1).val 2 % 8 * 256
    ∧ (k0_cond3 L = 1#1 ↔ num (L 0).val (L 1).val 2 % 8 = 0) := by decide +kernel

/-- A subcore's items are among the 96. -/
theorem num_lt (L : grid0.Coords) {k : ℕ} (hk : k < 3) : num (L 0).val (L 1).val k < 96 := by
  have h0 : (L 0).val < 2 := (L 0).isLt
  have h1 : (L 1).val < 16 := (L 1).isLt
  unfold num
  omega

section Sets
variable {n s0 d0 : ℕ} {hs : s0 + 1 ≤ 12} {hd : d0 + 256 ≤ 2048}

theorem oSet_eq (h0 : s0 = n / 8) (h1 : d0 = n % 8 * 256) : (osl aO s0 d0 hs hd).view.set = oSet n := by
  ext x
  rw [mem_osl]
  unfold oSet
  rw [Finset.mem_filter]
  have h : (x 1).val < 2048 := (x 1).isLt
  constructor
  · rintro ⟨a, b, c⟩; exact ⟨Finset.mem_univ _, by omega⟩
  · rintro ⟨-, a⟩; exact ⟨by omega, by omega, by omega⟩

theorem pSet_eq {c : BitVec 1} (h0 : s0 = n / 8) (hc : c = 1#1 ↔ n % 8 = 0) : mSet s0 hs c = pSet n := by
  unfold mSet
  ext x
  unfold pSet
  rw [Finset.mem_filter]
  by_cases h : c = 1#1
  · rw [if_pos h, mem_mosl]
    have := hc.mp h
    constructor
    · intro a; exact ⟨Finset.mem_univ _, by omega⟩
    · rintro ⟨-, a⟩; omega
  · rw [if_neg h]
    have := mt hc.mpr h
    constructor
    · intro a; exact absurd a (Finset.notMem_empty x)
    · rintro ⟨-, a⟩; omega
end Sets

variable (m : (ℓ : Loc nD τ sig) → Buf (Elt F) ℓ)

/-- The two lists as the kernel's call reads them: the arguments reshaped. -/
def XX (d : Dev nD) : S12x2048x2048.Idx → F .f32 :=
  shapeCast S12x2048x2048 (m ((SparseCore.T d).loc main_arg0) : S3x4x2048x2048.Idx → F .f32) shapeCasts_S3x4x2048x2048_S12x2048x2048
def MM (d : Dev nD) : S12x2048.Idx → F .f32 :=
  shapeCast S12x2048 (m ((SparseCore.T d).loc main_arg1) : S3x4x2048x1.Idx → F .f32) shapeCasts_S3x4x2048x1_S12x2048

/-- A subcore's read share of each list. -/
abbrev wq (c i : ℕ) : PosShare TreeShare := Transfers.shareTokN (Transfers.shareTokN fullShare c) i

/-- What a subcore is dealt, and hands back with the two result arrays' pieces rewritten. -/
def Task (d : Dev nD) (c i : ℕ) (fo : S12x2048.Idx → F .f32) (fp : S12x16.Idx → F .f32) : sProp 𝕄 :=
  iprop((bigSep Finset.univ fun k : Fin 3 => oLoc d ↦[oSet (num c i k.val)]{fullShare} fo)
    ∗ (bigSep Finset.univ fun k : Fin 3 => pLoc d ↦[pSet (num c i k.val)]{fullShare} fp)
    ∗ (xLoc d ↦{wq c i} XX m d) ∗ (kLoc d ↦{wq c i} MM m d))

/-! ## The subcore's own buffers and counters -/

variable (d : Dev nD) (L : grid0.Coords)

/-- The seven counters of the subcore's transfers, and its five buffers. -/
def semsOf : Fin 7 → DmaSems sig S_ :=
  ![cc0_scratch5, cc0_scratch6, cc0_scratch7, cc0_scratch8, cc0_scratch9, cc0_scratch10, cc0_scratch11]
def bufsOf : Fin 5 → Ref sig .scVector := ![cc0_scratch0, cc0_scratch1, cc0_scratch2, cc0_scratch3, cc0_scratch4]

theorem semsOf_inj : ∀ j k : Fin 7, (semsOf j).sem = (semsOf k).sem → j = k := by decide +kernel
theorem bufsOf_inj : ∀ j k : Fin 5, bufsOf j = bufsOf k → j = k := by decide +kernel
theorem semsOf_scoped : ∀ k : Fin 7, (SemLoc.dma (semsOf k).sem : SemLoc sig).isScoped .scVector = true := by decide +kernel

def cellEmb (d : Dev nD) (L : grid0.Coords) : Fin 7 ↪ GSem nD τ sig :=
  ⟨fun k => (th d L, .dma (semsOf k).sem), fun j k h => semsOf_inj j k (SemLoc.dma.inj (congrArg Prod.snd h))⟩
def bufEmb (L : grid0.Coords) : Fin 5 ↪ DevRef τ sig :=
  ⟨fun k => (Proc.scVector (cV L) (jV L)).devRef (bufsOf k), fun j k h => bufsOf_inj j k (Proc.devRef_injective _ h)⟩

/-- The subcore's counters are the seven, at zero, and the rest. -/
theorem ownSems0_V :
    (ownSems0 (th d L) : sProp 𝕄)
      = iprop((semVal (th d L, .dma cc0_scratch5.sem) 0 ∗ semVal (th d L, .dma cc0_scratch6.sem) 0 ∗ semVal (th d L, .dma cc0_scratch7.sem) 0
          ∗ semVal (th d L, .dma cc0_scratch8.sem) 0 ∗ semVal (th d L, .dma cc0_scratch9.sem) 0 ∗ semVal (th d L, .dma cc0_scratch10.sem) 0
          ∗ semVal (th d L, .dma cc0_scratch11.sem) 0)
        ∗ bigSep (ownCells (th d L) \ Finset.univ.map (cellEmb d L)) fun g => semVal g 0) := by
  unfold SparseCore.Cfg.ownSems0
  rw [SparseCore.bigSep_sdiff_split' (t := Finset.univ.map (cellEmb d L)) (by
      intro g hg
      obtain ⟨k, -, rfl⟩ := Finset.mem_map.mp hg
      exact mem_ownCells.mpr ⟨rfl, semsOf_scoped k⟩),
    BI.bigSep_map, bigSep_univ_eq_bigSepL [0, 1, 2, 3, 4, 5, 6] (by decide) (by decide)]
  rfl

/-- The subcore's buffers are the five, each at some contents, and the rest. -/
theorem ownBufs_V :
    (ownBufs (th d L) : sProp 𝕄)
      = iprop((Any d L bA ∗ Any d L bB ∗ Any d L bW ∗ Any d L bS ∗ Any d L bM)
        ∗ bigSep (ownRefs (τ := τ) (.scVector (cV L) (jV L)) \ Finset.univ.map (bufEmb L)) fun b => iprop(∃ f, ((d, b) : Loc nD τ sig) ↦{fullShare} f)) := by
  unfold SparseCore.Cfg.ownBufs
  rw [show (th d L).2 = Proc.scVector (cV L) (jV L) from rfl, SparseCore.bigSep_sdiff_split' (t := Finset.univ.map (bufEmb L)) (by
      intro g hg
      obtain ⟨k, -, rfl⟩ := Finset.mem_map.mp hg
      refine SparseCore.Cfg.mem_ownRefs_of_owner (p := Proc.scVector (cV L) (jV L)) ?_
      fin_cases k <;> rfl),
    BI.bigSep_map, bigSep_univ_eq_bigSepL [0, 1, 2, 3, 4] (by decide) (by decide)]
  rfl

/-! ## The task -/

/-- A subcore's read share of an array in two, and what is left. -/
theorem two_shares (ℓ : Loc nD τ sig) (q : PosShare TreeShare) (f : Buf (Elt F) ℓ) :
    (ℓ ↦{q} f : sProp 𝕄) ⊣⊢ iprop((ℓ ↦{Transfers.shareDrop q 2} f) ∗ (ℓ ↦{Transfers.shareTokN q 0} f) ∗ (ℓ ↦{Transfers.shareTokN q 1} f)) := by
  have h : (ℓ ↦{q} f : sProp 𝕄) ⊣⊢ iprop((ℓ ↦{Transfers.shareDrop q 2} f)
      ∗ BI.bigSep Finset.univ (fun i : Fin 2 => (ℓ ↦{Transfers.shareTok q 2 i} f : sProp 𝕄))) := Transfers.pointsTo_toks q 2
  rw [BI.bigSep_fin_two] at h
  exact h

/-- The three items of the subcore's task. -/
theorem tile_run (O : CellTallies nD τ sig (HIx 1)) (W : Waits sig (HIx 1)) (fo : S12x2048.Idx → F .f32) (fp : S12x16.Idx → F .f32)
    (M : S12x2048.Idx → F .f32) (X : S12x2048x2048.Idx → F .f32) (qa qb q : PosShare TreeShare) :
    iprop(Tools M X qa qb q d L
        ∗ (oLoc d ↦[oSet (num (L 0).val (L 1).val 0)]{fullShare} fo) ∗ (oLoc d ↦[oSet (num (L 0).val (L 1).val 1)]{fullShare} fo)
        ∗ (oLoc d ↦[oSet (num (L 0).val (L 1).val 2)]{fullShare} fo)
        ∗ (pLoc d ↦[pSet (num (L 0).val (L 1).val 0)]{fullShare} fp) ∗ (pLoc d ↦[pSet (num (L 0).val (L 1).val 1)]{fullShare} fp)
        ∗ (pLoc d ↦[pSet (num (L 0).val (L 1).val 2)]{fullShare} fp)
        ∗ semVal (th d L, .dma cc0_scratch9.sem) 0 ∗ semVal (th d L, .dma cc0_scratch10.sem) 0 ∗ semVal (th d L, .dma cc0_scratch11.sem) 0
        ∗ Owing d L O W ∗ Transfers.MayWaits (th d L) (none : HIx 1) O)
      ⊢ Wp d L (cc0__sc_pool L aX (Memref.isWhole_whole _) aM (Memref.isWhole_whole _) aO (Memref.isWhole_whole _) aP (Memref.isWhole_whole _)
            bA (Memref.isWhole_whole _) bB (Memref.isWhole_whole _) bW (Memref.isWhole_whole _) bS (Memref.isWhole_whole _) bM (Memref.isWhole_whole _)
            cc0_scratch5 cc0_scratch6 cc0_scratch7 cc0_scratch8 cc0_scratch9 cc0_scratch10 cc0_scratch11)
          fun _ => iprop(Tools M X qa qb q d L
            ∗ (oLoc d ↦[oSet (num (L 0).val (L 1).val 0)]{fullShare} POOL M X) ∗ (oLoc d ↦[oSet (num (L 0).val (L 1).val 1)]{fullShare} POOL M X)
            ∗ (oLoc d ↦[oSet (num (L 0).val (L 1).val 2)]{fullShare} POOL M X)
            ∗ (pLoc d ↦[pSet (num (L 0).val (L 1).val 0)]{fullShare} MOUT M) ∗ (pLoc d ↦[pSet (num (L 0).val (L 1).val 1)]{fullShare} MOUT M)
            ∗ (pLoc d ↦[pSet (num (L 0).val (L 1).val 2)]{fullShare} MOUT M)
            ∗ semVal (th d L, .dma cc0_scratch9.sem) 0 ∗ semVal (th d L, .dma cc0_scratch10.sem) 0 ∗ semVal (th d L, .dma cc0_scratch11.sem) 0
            ∗ Owing d L O W) := by
  have n0 := num_lt L (k := 0) (by decide)
  have n1 := num_lt L (k := 1) (by decide)
  have n2 := num_lt L (k := 2) (by decide)
  obtain ⟨a0, b0, c0⟩ := off0 L
  obtain ⟨a1, b1, c1⟩ := off1 L
  obtain ⟨a2, b2, c2⟩ := off2 L
  have hs0 : k0_off2 L 0 + 1 ≤ 12 := by omega
  have hd0 : k0_off2 L 2 + 256 ≤ 2048 := by omega
  have hs1 : k0_off6 L 1#32 0 + 1 ≤ 12 := by omega
  have hd1 : k0_off6 L 1#32 2 + 256 ≤ 2048 := by omega
  have hs2 : k0_off147 L 2#32 0 + 1 ≤ 12 := by omega
  have hd2 : k0_off147 L 2#32 2 + 256 ≤ 2048 := by omega
  rw [body_eq L _ _ _ _ _ _ _ _ _ _ _ _ _ _ _ _ _ _ _ _ _ _ _ _ _ hs0 hd0 hs1 hd1 hs2 hd2,
    ← oSet_eq (hs := hs0) (hd := hd0) a0 b0, ← oSet_eq (hs := hs1) (hd := hd1) a1 b1, ← oSet_eq (hs := hs2) (hd := hd2) a2 b2,
    ← pSet_eq (hs := hs0) a0 c0, ← pSet_eq (hs := hs1) a1 c1, ← pSet_eq (hs := hs2) a2 c2]
  refine BIBase.Entails.trans ?_ wp_eta
  simp only [bind_assoc]
  iintro ⟨HT, O0, O1, O2, P0, P1, P2, S0, S1, S2, HO, #Hmw⟩
  iapply (wp_then (item_run M X qa qb q cc0_scratch9 (k0_cond1 L) fo fp)) $$ [HT O0 P0 S0 HO]
  · isplitl [HT]; · iexact HT
    isplitl [O0]; · iexact O0
    isplitl [P0]; · iexact P0
    isplitl [S0]; · iexact S0
    isplitl [HO]; · iexact HO
    iexact Hmw
  iintro %u ⟨HT, O0, P0, S0, HO⟩
  iapply (wp_then (item_run M X qa qb q cc0_scratch10 (k0_cond2 L) fo fp)) $$ [HT O1 P1 S1 HO]
  · isplitl [HT]; · iexact HT
    isplitl [O1]; · iexact O1
    isplitl [P1]; · iexact P1
    isplitl [S1]; · iexact S1
    isplitl [HO]; · iexact HO
    iexact Hmw
  iintro %u ⟨HT, O1, P1, S1, HO⟩
  iapply (wp_then (item_run M X qa qb q cc0_scratch11 (k0_cond3 L) fo fp)) $$ [HT O2 P2 S2 HO]
  · isplitl [HT]; · iexact HT
    isplitl [O2]; · iexact O2
    isplitl [P2]; · iexact P2
    isplitl [S2]; · iexact S2
    isplitl [HO]; · iexact HO
    iexact Hmw
  iintro %u ⟨HT, O2, P2, S2, HO⟩
  iapply wp_done
  isplitl [HT]; · iexact HT
  isplitl [O0]; · iexact O0
  isplitl [O1]; · iexact O1
  isplitl [O2]; · iexact O2
  isplitl [P0]; · iexact P0
  isplitl [P1]; · iexact P1
  isplitl [P2]; · iexact P2
  isplitl [S0]; · iexact S0
  isplitl [S1]; · iexact S1
  isplitl [S2]; · iexact S2
  iexact HO

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

/-- The task on the vector subcore at grid point `L`: from what it is dealt to the same with its pieces of the results written. -/
theorem tile_body (hF : (K (F := F)).Facts) (O : CellTallies nD τ sig (HIx 1)) (W : Waits sig (HIx 1)) (hO : ∀ g, O g none = 0)
    (fo : S12x2048.Idx → F .f32) (fp : S12x16.Idx → F .f32) :
    iprop(levAts (K (F := F)).L (K (F := F)).lev ∗ emp ∗ Task m d (L 0).val (L 1).val fo fp
        ∗ scopedBufs (th d L) ∗ scopedSems0 (th d L) ∗ owes (th d L) O W)
      ⊢ Wp d L (cc0__sc_pool L aX (Memref.isWhole_whole _) aM (Memref.isWhole_whole _) aO (Memref.isWhole_whole _) aP (Memref.isWhole_whole _)
            bA (Memref.isWhole_whole _) bB (Memref.isWhole_whole _) bW (Memref.isWhole_whole _) bS (Memref.isWhole_whole _) bM (Memref.isWhole_whole _)
            cc0_scratch5 cc0_scratch6 cc0_scratch7 cc0_scratch8 cc0_scratch9 cc0_scratch10 cc0_scratch11)
          fun _ => iprop(Task m d (L 0).val (L 1).val (POOL (MM m d) (XX m d)) (MOUT (MM m d))
            ∗ scopedBufs (th d L) ∗ scopedSems0 (th d L)
            ∗ ∃ W', ⌜∀ p ∈ W', p ∈ W ∨ p.2 = none ∨ p.2 = some (0 : Fin 1)⌝ ∗ owes (th d L) O W') := by
  unfold Task
  rw [(K (F := F)).scopedBufs_V hF d (cV L) (jV L), SparseCore.Cfg.scopedSems0_V (Val := Elt F) d (cV L) (jV L), ownSems0_V, ownBufs_V,
    bigSep_three, bigSep_three, bigSep_three, bigSep_three]
  refine BIBase.Entails.trans ?_ wp_eta
  iintro ⟨#Hlv, -, ⟨⟨O0, O1, O2⟩, ⟨P0, P1, P2⟩, HX, HM⟩, ⟨⟨BA, BB, BW, BS, BM⟩, Hbufs⟩, ⟨⟨S5, S6, S7, S8, S9, S10, S11⟩, Hsems⟩, HO⟩
  ihave Hmw := (show levAts (K (F := F)).L (K (F := F)).lev ⊢ Transfers.MayWaits (th d L) (none : HIx 1) O from
    (K (F := F)).mayWaits_none (thr := th d L) hO) $$ Hlv
  ihave HX := (two_shares (xLoc d) (wq (L 0).val (L 1).val) (XX m d)).1 $$ HX
  icases HX with ⟨Xr, Xa, Xb⟩
  iapply (wp_then (tile_run d L O W fo fp (MM m d) (XX m d) (Transfers.shareTokN (wq (L 0).val (L 1).val) 0)
      (Transfers.shareTokN (wq (L 0).val (L 1).val) 1) (wq (L 0).val (L 1).val))) $$ [Xa Xb HM BA BB BW BS BM S5 S6 S7 S8 O0 O1 O2 P0 P1 P2 S9 S10 S11 HO]
  · isplitl [Xa Xb HM BA BB BW BS BM S5 S6 S7 S8]
    · unfold Tools
      isplitl [Xa]; · iexact Xa
      isplitl [Xb]; · iexact Xb
      isplitl [HM]; · iexact HM
      isplitl [BA]; · iexact BA
      isplitl [BB]; · iexact BB
      isplitl [BW]; · iexact BW
      isplitl [BS]; · iexact BS
      isplitl [BM]; · iexact BM
      isplitl [S5]; · iexact S5
      isplitl [S6]; · iexact S6
      isplitl [S7]; · iexact S7
      iexact S8
    isplitl [O0]; · iexact O0
    isplitl [O1]; · iexact O1
    isplitl [O2]; · iexact O2
    isplitl [P0]; · iexact P0
    isplitl [P1]; · iexact P1
    isplitl [P2]; · iexact P2
    isplitl [S9]; · iexact S9
    isplitl [S10]; · iexact S10
    isplitl [S11]; · iexact S11
    isplitl [HO]
    · unfold Owing
      iexists W
      isplitr
      · ipureintro; exact fun p hp => .inl hp
      · iexact HO
    iexact Hmw
  unfold Tools Owing
  iintro %u ⟨⟨Xa, Xb, HM, BA, BB, BW, BS, BM, S5, S6, S7, S8⟩, O0, O1, O2, P0, P1, P2, S9, S10, S11, ⟨%W', %hW', HO⟩⟩
  ihave HX := (two_shares (xLoc d) (wq (L 0).val (L 1).val) (XX m d)).2 $$ [Xr Xa Xb]
  · isplitl [Xr]; · iexact Xr
    isplitl [Xa]; · iexact Xa
    iexact Xb
  iapply wp_done
  isplitl [O0 O1 O2 P0 P1 P2 HX HM]
  · isplitl [O0 O1 O2]
    · isplitl [O0]; · iexact O0
      isplitl [O1]; · iexact O1
      iexact O2
    isplitl [P0 P1 P2]
    · isplitl [P0]; · iexact P0
      isplitl [P1]; · iexact P1
      iexact P2
    isplitl [HX]; · iexact HX
    iexact HM
  isplitl [BA BB BW BS BM Hbufs]
  · isplitr [Hbufs]
    · isplitl [BA]; · iexact BA
      isplitl [BB]; · iexact BB
      isplitl [BW]; · iexact BW
      isplitl [BS]; · iexact BS
      iexact BM
    iexact Hbufs
  isplitl [S5 S6 S7 S8 S9 S10 S11 Hsems]
  · isplitr [Hsems]
    · isplitl [S5]; · iexact S5
      isplitl [S6]; · iexact S6
      isplitl [S7]; · iexact S7
      isplitl [S8]; · iexact S8
      isplitl [S9]; · iexact S9
      isplitl [S10]; · iexact S10
      iexact S11
    iexact Hsems
  iexists W'
  isplitr
  · ipureintro; exact fun p hp => (hW' p hp).imp_right .inl
  · iexact HO

/-! ## The obligation -/

/-- The call takes, on each core, every subcore's pieces and brings them back written. -/
def P : (K (F := F)).Pay (nD := nD) (Val := Elt F) (Name := ℕ) (U := UU) where
  st := fun q d c => match q with
    | 0 => bigSep Finset.univ fun i : Fin 16 => Task m d c.val i.val (m (oLoc d)) (m (pLoc d))
  dn := fun q d c => match q with
    | 0 => bigSep Finset.univ fun i : Fin 16 => Task m d c.val i.val (POOL (MM m d) (XX m d)) (MOUT (MM m d))
  go := fun q d c i => match q with
    | 0 => Task m d c.val i.val (m (oLoc d)) (m (pLoc d))
  td := fun q d c i => match q with
    | 0 => Task m d c.val i.val (POOL (MM m d) (XX m d)) (MOUT (MM m d))
  x := fun _ _ => iprop(emp)

instance Task_storable (d : Dev nD) (c i : ℕ) (fo : S12x2048.Idx → F .f32) (fp : S12x16.Idx → F .f32) :
    BI.Storable (upEmb : UEmb _ 𝕄) (Task m d c i fo fp) := by
  unfold Task
  infer_instance

instance P_storable : (P (F := F) m).IsStorable where
  st q d c := match q with
    | 0 => (inferInstance : BI.Storable (upEmb : UEmb _ 𝕄) (bigSep Finset.univ fun i : Fin 16 => Task m d c.val i.val (m (oLoc d)) (m (pLoc d))))
  dn q d c := match q with
    | 0 => (inferInstance : BI.Storable (upEmb : UEmb _ 𝕄)
        (bigSep Finset.univ fun i : Fin 16 => Task m d c.val i.val (POOL (MM m d) (XX m d)) (MOUT (MM m d))))
  go q d c i := match q with
    | 0 => (inferInstance : BI.Storable (upEmb : UEmb _ 𝕄) (Task m d c.val i.val (m (oLoc d)) (m (pLoc d))))
  td q d c i := match q with
    | 0 => (inferInstance : BI.Storable (upEmb : UEmb _ 𝕄) (Task m d c.val i.val (POOL (MM m d) (XX m d)) (MOUT (MM m d))))

/-- The grid point of a core and a subcore. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_pool (coordsV c s)
            aX (Memref.isWhole_whole _) aM (Memref.isWhole_whole _) aO (Memref.isWhole_whole _) aP (Memref.isWhole_whole _)
            bA (Memref.isWhole_whole _) bB (Memref.isWhole_whole _) bW (Memref.isWhole_whole _) bS (Memref.isWhole_whole _) bM (Memref.isWhole_whole _)
            cc0_scratch5 cc0_scratch6 cc0_scratch7 cc0_scratch8 cc0_scratch9 cc0_scratch10 cc0_scratch11) ⟨⟩ c s := rfl

set_option maxRecDepth 16384 in
/-- Every subcore meets what the launch asks of it. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO _ _

/-- A core's pieces are its subcores'. -/
theorem vecSplit : (K (F := F)).VecSplit' (P m) 0 := by
  intro d c
  show (bigSep Finset.univ fun i : Fin 16 => Task m d c.val i.val (m (oLoc d)) (m (pLoc d))) ⊢ |={Set.univ}=> iprop(
      (bigSep Finset.univ fun i : Fin 16 => Task m d c.val i.val (m (oLoc d)) (m (pLoc d)))
      ∗ ((bigSep Finset.univ fun i : Fin 16 => Task m d c.val i.val (POOL (MM m d) (XX m d)) (MOUT (MM m d)))
        -∗ (bigSep Finset.univ fun i : Fin 16 => Task m d c.val i.val (POOL (MM m d) (XX m d)) (MOUT (MM m d)))))
  iintro H; imodintro
  isplitl [H]; · iexact H
  iintro H; iexact H

end Cert.Proof.Pool
end
-- ==== Proof.Launch.lean ====
/-
  The launch: the four arrays dealt to the thirty-two subcores, the host's reshapes around the call, and what every run of the program
  leaves.
-/
module

public import proofs.«01_k».proof.Proof.Tile
public import Idealize.ShloMosaic.Lib.StableHlo.Run

@[expose] public section

noncomputable section

namespace Cert.Proof.Pool

open Cert.KernelIdeal Cert.KernelIdeal.Gen

open Idealize.ShloMosaic
open Idealize.ShloMosaic.SparseCore (S V T)
open Idealize.ShloMosaic.StableHlo (held held_sub_split held_congr wp_hlo_within after after_cons after_nil)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Dealing -/

/-- The item of a core, a subcore and its turn. -/
abbrev numP (p : Fin 2 × Fin 16 × Fin 3) : ℕ := num p.1.val p.2.1.val p.2.2.val

/-- No two turns have the same item. -/
theorem numP_inj {p q : Fin 2 × Fin 16 × Fin 3} (h : numP p = numP q) : p = q := by
  obtain ⟨a, b, c⟩ := p
  obtain ⟨a', b', c'⟩ := q
  have := a.isLt; have := a'.isLt; have := c.isLt; have := c'.isLt
  have h : (b.val * 2 + a.val) * 3 + c.val = (b'.val * 2 + a'.val) * 3 + c'.val := h
  have h1 : a = a' := Fin.ext (by omega)
  have h2 : b = b' := Fin.ext (by omega)
  have h3 : c = c' := Fin.ext (by omega)
  rw [h1, h2, h3]

/-- Every item has its turn. -/
theorem numP_surj {n : ℕ} (hn : n < 96) : ∃ p, numP p = n :=
  ⟨(⟨n / 3 % 2, by omega⟩, ⟨n / 6, by omega⟩, ⟨n % 3, by omega⟩), by show (n / 6 * 2 + n / 3 % 2) * 3 + n % 3 = n; omega⟩

/-- An array cut by item: whole, it is the turns' pieces. -/
theorem deal (ℓ : Loc nD τ sig) (f : Buf (Elt F) ℓ) (g : Idx ℓ → ℕ) (hg : ∀ x, g x < 96) (A : ℕ → Finset (Idx ℓ)) (hA : ∀ n x, x ∈ A n ↔ g x = n) :
    (ℓ ↦{fullShare} f : sProp 𝕄)
      = bigSep Finset.univ fun c : Fin 2 => bigSep Finset.univ fun i : Fin 16 => bigSep Finset.univ fun k : Fin 3 =>
          ℓ ↦[A (num c.val i.val k.val)]{fullShare} f := by
  have hu : (Finset.univ : Finset (Idx ℓ)) = Finset.univ.biUnion fun p => A (numP p) := by
    ext x
    obtain ⟨p, hp⟩ := numP_surj (hg x)
    simp only [Finset.mem_univ, Finset.mem_biUnion, true_and, true_iff]
    exact ⟨p, (hA _ x).2 hp.symm⟩
  have hd : (ℓ ↦{fullShare} f : sProp 𝕄) = bigSep Finset.univ fun p => ℓ ↦[A (numP p)]{fullShare} f := by
    rw [← pointsTo_biUnion (Ix := HIx 1) (Name := ℕ) (U := UU) (Lvl := ℕ) Finset.univ (fun p => A (numP p)), ← hu]
    intro p _ q _ hpq
    refine Finset.disjoint_left.2 fun x hx hy => hpq (numP_inj ?_)
    rw [← (hA _ x).1 hx, (hA _ x).1 hy]
  rw [hd, BI.bigSep_univ_prod]
  exact bigSep_congr fun c _ => BI.bigSep_univ_prod _

variable (m : (ℓ : Loc nD τ sig) → Buf (Elt F) ℓ) (ρ : Dev nD → PrngReg)

/-- The pooled array is the subcores' pieces of it; the array of maxima too. -/
theorem deal_o (d : Dev nD) (f : S12x2048.Idx → F .f32) :
    (oLoc d ↦{fullShare} (f : Buf (Elt F) (oLoc d)) : sProp 𝕄)
      = bigSep Finset.univ fun c : Fin 2 => bigSep Finset.univ fun i : Fin 16 => bigSep Finset.univ fun k : Fin 3 =>
          oLoc d ↦[oSet (num c.val i.val k.val)]{fullShare} f :=
  deal (oLoc d) f (fun x : S12x2048.Idx => (x 0).val * 8 + (x 1).val / 256)
    (fun x => by
      have h0 : (x 0).val < 12 := (x 0).isLt
      have h1 : (x 1).val < 2048 := (x 1).isLt
      show (x 0).val * 8 + (x 1).val / 256 < 96
      omega) oSet (fun n x => by unfold oSet; rw [Finset.mem_filter]; simp only [Finset.mem_univ, true_and])
theorem deal_p (d : Dev nD) (f : S12x16.Idx → F .f32) :
    (pLoc d ↦{fullShare} (f : Buf (Elt F) (pLoc d)) : sProp 𝕄)
      = bigSep Finset.univ fun c : Fin 2 => bigSep Finset.univ fun i : Fin 16 => bigSep Finset.univ fun k : Fin 3 =>
          pLoc d ↦[pSet (num c.val i.val k.val)]{fullShare} f :=
  deal (pLoc d) f (fun x : S12x16.Idx => (x 0).val * 8)
    (fun x => by
      have h0 : (x 0).val < 12 := (x 0).isLt
      show (x 0).val * 8 < 96
      omega) pSet (fun n x => by unfold pSet; rw [Finset.mem_filter]; simp only [Finset.mem_univ, true_and])

/-- What stays with the host of an array the subcores read: its own share, and the cores'. -/
def Kept (ℓ : Loc nD τ sig) (f : Buf (Elt F) ℓ) : sProp 𝕄 :=
  iprop((ℓ ↦{Transfers.shareDrop fullShare 2} f)
    ∗ bigSep Finset.univ fun c : Fin 2 => ℓ ↦{Transfers.shareDrop (Transfers.shareTokN fullShare c.val) 16} f)

/-- An array the subcores read: whole, it is what stays and the subcores' shares. -/
theorem deal_read (ℓ : Loc nD τ sig) (f : Buf (Elt F) ℓ) :
    (ℓ ↦{fullShare} f : sProp 𝕄) ⊣⊢ iprop(Kept ℓ f ∗ bigSep Finset.univ fun c : Fin 2 => bigSep Finset.univ fun i : Fin 16 => ℓ ↦{wq c.val i.val} f) := by
  have h2 : (ℓ ↦{fullShare} f : sProp 𝕄) = iprop((ℓ ↦{Transfers.shareDrop fullShare 2} f)
      ∗ bigSep Finset.univ (fun c : Fin 2 => (ℓ ↦{Transfers.shareTokN fullShare c.val} f : sProp 𝕄))) :=
    equiv_iff.mp ⟨(Transfers.pointsTo_toks fullShare 2).1, (Transfers.pointsTo_toks fullShare 2).2⟩
  have h16 : ∀ c : Fin 2, (ℓ ↦{Transfers.shareTokN fullShare c.val} f : sProp 𝕄)
      = iprop((ℓ ↦{Transfers.shareDrop (Transfers.shareTokN fullShare c.val) 16} f)
        ∗ bigSep Finset.univ (fun i : Fin 16 => (ℓ ↦{wq c.val i.val} f : sProp 𝕄))) := fun c =>
    equiv_iff.mp ⟨(Transfers.pointsTo_toks (Transfers.shareTokN fullShare c.val) 16).1, (Transfers.pointsTo_toks (Transfers.shareTokN fullShare c.val) 16).2⟩
  rw [h2, bigSep_congr fun c _ => h16 c, bigSep_sep']
  unfold Kept
  constructor
  · iintro ⟨A, B, C⟩
    isplitl [A B]
    · isplitl [A] <;> iassumption
    iexact C
  · iintro ⟨⟨A, B⟩, C⟩
    isplitl [A]; · iexact A
    isplitl [B] <;> iassumption

/-- What the thirty-two tasks hold between them. -/
theorem tasks_eq (d : Dev nD) (fo : S12x2048.Idx → F .f32) (fp : S12x16.Idx → F .f32) :
    (bigSep Finset.univ fun c : Fin 2 => bigSep Finset.univ fun i : Fin 16 => Task m d c.val i.val fo fp)
      = (iprop((oLoc d ↦{fullShare} (fo : Buf (Elt F) (oLoc d))) ∗ (pLoc d ↦{fullShare} (fp : Buf (Elt F) (pLoc d)))
          ∗ (bigSep Finset.univ fun c : Fin 2 => bigSep Finset.univ fun i : Fin 16 => xLoc d ↦{wq c.val i.val} XX m d)
          ∗ (bigSep Finset.univ fun c : Fin 2 => bigSep Finset.univ fun i : Fin 16 => kLoc d ↦{wq c.val i.val} MM m d)) : sProp 𝕄) := by
  rw [deal_o d fo, deal_p d fp]
  unfold Task
  simp only [bigSep_sep']

/-! ## The launch's own state -/

def u₀ : UU := (initOf (K (F := F)).hsCells (K (F := F)).hsToks, 1)

/-- The launch starts from the handshakes' rounds alone. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => iprop(emp)) = (iprop(emp) : sProp 𝕄) from bigSep_emp_const _]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

/-! ## The host -/

abbrev rf (b : Ref sig .tc) : DevRef τ sig := Proc.devRef .tc b

/-- The host's operations before the call, and after it. -/
abbrev op1 : HloOp τ sig (Elt F) := StableHlo.reshape main_arg0 main_v0 (rfl) shapeCasts_S3x4x2048x2048_S12x2048x2048
abbrev op2 : HloOp τ sig (Elt F) := StableHlo.reshape main_arg1 main_v1 (rfl) shapeCasts_S3x4x2048x1_S12x2048
abbrev op3 : HloOp τ sig (Elt F) := StableHlo.reshape main_v2_0 main_v3 (rfl) shapeCasts_S12x2048_S3x4x1x2048
abbrev op4 : HloOp τ sig (Elt F) := StableHlo.unary main_v2_1 main_v4 (extractStridedSlice S12x1 ![0, 15] · slices_S12x16_S12x1_0_15)
abbrev op5 : HloOp τ sig (Elt F) := StableHlo.reshape main_v4 main_v5 (rfl) shapeCasts_S12x1_S3x4x1x1

/-- The host's arrays, those the call works on, and those the claims speak of. -/
abbrev S9 : Finset (DevRef τ sig) :=
  {rf main_arg0, rf main_arg1, rf main_v0, rf main_v1, rf main_v2_0, rf main_v2_1, rf main_v3, rf main_v4, rf main_v5}
abbrev SC4 : Finset (DevRef τ sig) := {rf main_v0, rf main_v1, rf main_v2_0, rf main_v2_1}
abbrev SF4 : Finset (DevRef τ sig) := {rf main_arg0, rf main_arg1, rf main_v3, rf main_v5}

/-- The arrays' contents at launch, at the call, after it, and at the end. -/
def W0 (d : Dev nD) : Valuation τ sig (Elt F) := fun b => m (d, b)
def W2 (d : Dev nD) : Valuation τ sig (Elt F) := after [op1, op2] (W0 m d)
def W3 (d : Dev nD) : Valuation τ sig (Elt F) :=
  Function.update (Function.update (W2 m d) (rf main_v2_0) (POOL (MM m d) (XX m d))) (rf main_v2_1) (MOUT (MM m d))
def W6 (d : Dev nD) : Valuation τ sig (Elt F) := after [op3, op4, op5] (W3 m d)

/-- The two results. -/
def OUT (d : Dev nD) : S3x4x1x2048.Idx → F .f32 := shapeCast S3x4x1x2048 (POOL (MM m d) (XX m d)) shapeCasts_S12x2048_S3x4x1x2048
def MAX (d : Dev nD) : S3x4x1x1.Idx → F .f32 :=
  shapeCast S3x4x1x1 (extractStridedSlice S12x1 ![0, 15] (MOUT (MM m d)) slices_S12x16_S12x1_0_15) shapeCasts_S12x1_S3x4x1x1

theorem h1 : (op1 (F := F)).bufs ⊆ S9 := show ({rf main_arg0, rf main_v0} : Finset (DevRef τ sig)) ⊆ S9 by decide
theorem h2 : (op2 (F := F)).bufs ⊆ S9 := show ({rf main_arg1, rf main_v1} : Finset (DevRef τ sig)) ⊆ S9 by decide
theorem h3 : (op3 (F := F)).bufs ⊆ S9 := show ({rf main_v2_0, rf main_v3} : Finset (DevRef τ sig)) ⊆ S9 by decide
theorem h4 : (op4 (F := F)).bufs ⊆ S9 := show ({rf main_v2_1, rf main_v4} : Finset (DevRef τ sig)) ⊆ S9 by decide
theorem h5 : (op5 (F := F)).bufs ⊆ S9 := show ({rf main_v4, rf main_v5} : Finset (DevRef τ sig)) ⊆ S9 by decide

theorem unscoped_held (d : Dev nD) : (unscopedBufs d (fun b => m ((SparseCore.T d).loc b)) : sProp 𝕄) = held (T d) S9 (W0 m d) := by
  unfold unscopedBufs held
  rw [show (Finset.univ.filter fun b : Ref sig .tc => ¬ b.isScoped)
      = {main_arg0, main_arg1, main_v0, main_v1, main_v2_0, main_v2_1, main_v3, main_v4, main_v5} by decide]
  simp only [S9]
  repeat rw [SparseCore.bigSep_insert' (by decide), SparseCore.bigSep_insert' (by decide)]
  rw [bigSep_singleton, bigSep_singleton]
  rfl

theorem held_call (d : Dev nD) (W : Valuation τ sig (Elt F)) :
    (held (T d) SC4 W : sProp 𝕄) = iprop((xLoc d ↦{fullShare} W (rf main_v0)) ∗ (kLoc d ↦{fullShare} W (rf main_v1))
      ∗ (oLoc d ↦{fullShare} W (rf main_v2_0)) ∗ (pLoc d ↦{fullShare} W (rf main_v2_1))) := by
  unfold held
  rw [SparseCore.bigSep_insert' (by decide), SparseCore.bigSep_insert' (by decide), SparseCore.bigSep_insert' (by decide), bigSep_singleton]

theorem held_end (d : Dev nD) (W : Valuation τ sig (Elt F)) :
    (held (T d) SF4 W : sProp 𝕄) = iprop(((SparseCore.T d).loc main_arg0 ↦{fullShare} W (rf main_arg0)) ∗ ((SparseCore.T d).loc main_arg1 ↦{fullShare} W (rf main_arg1))
      ∗ ((SparseCore.T d).loc main_v3 ↦{fullShare} W (rf main_v3)) ∗ ((SparseCore.T d).loc main_v5 ↦{fullShare} W (rf main_v5))) := by
  unfold held
  rw [SparseCore.bigSep_insert' (by decide), SparseCore.bigSep_insert' (by decide), SparseCore.bigSep_insert' (by decide), bigSep_singleton]

theorem W2_x (d : Dev nD) : W2 m d (rf main_v0) = (XX m d : Buf (Elt F) (xLoc d)) := by unfold W2; after_results; rfl
theorem W2_k (d : Dev nD) : W2 m d (rf main_v1) = (MM m d : Buf (Elt F) (kLoc d)) := by unfold W2; after_results; rfl
theorem W2_o (d : Dev nD) : W2 m d (rf main_v2_0) = m (oLoc d) := by unfold W2; after_results; rfl
theorem W2_p (d : Dev nD) : W2 m d (rf main_v2_1) = m (pLoc d) := by unfold W2; after_results; rfl
theorem W2_a (d : Dev nD) : W2 m d (rf main_arg0) = m ((SparseCore.T d).loc main_arg0) := by unfold W2; after_results; rfl
theorem W2_b (d : Dev nD) : W2 m d (rf main_arg1) = m ((SparseCore.T d).loc main_arg1) := by unfold W2; after_results; rfl

theorem W3_ne (d : Dev nD) {b : DevRef τ sig} (h0 : b ≠ rf main_v2_0) (h1 : b ≠ rf main_v2_1) : W3 m d b = W2 m d b := by
  unfold W3
  rw [Function.update_of_ne h1, Function.update_of_ne h0]
theorem W3_o (d : Dev nD) : W3 m d (rf main_v2_0) = (POOL (MM m d) (XX m d) : Buf (Elt F) (oLoc d)) := by
  unfold W3
  rw [Function.update_of_ne (by decide)]
  exact Function.update_self _ _ _
theorem W3_p (d : Dev nD) : W3 m d (rf main_v2_1) = (MOUT (MM m d) : Buf (Elt F) (pLoc d)) := by
  unfold W3
  exact Function.update_self _ _ _

theorem W6_a (d : Dev nD) : W6 m d (rf main_arg0) = m ((SparseCore.T d).loc main_arg0) := by
  rw [← W2_a m d, ← W3_ne m d (b := rf main_arg0) (by decide) (by decide)]; unfold W6; after_results
theorem W6_b (d : Dev nD) : W6 m d (rf main_arg1) = m ((SparseCore.T d).loc main_arg1) := by
  rw [← W2_b m d, ← W3_ne m d (b := rf main_arg1) (by decide) (by decide)]; unfold W6; after_results
theorem W6_out (d : Dev nD) : W6 m d (rf main_v3) = (OUT m d : Buf (Elt F) ((SparseCore.T d).loc main_v3)) := by
  unfold W6 OUT; after_results; rw [W3_o]; rfl
theorem W6_max (d : Dev nD) : W6 m d (rf main_v5) = (MAX m d : Buf (Elt F) ((SparseCore.T d).loc main_v5)) := by
  unfold W6 MAX; after_results; rw [W3_p]; rfl

/-- What @main leaves: the arguments unchanged and the two results. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_v3 ↦{fullShare} (OUT m d : Buf (Elt F) ((SparseCore.T d).loc main_v3)))
    ∗ ((SparseCore.T d).loc main_v5 ↦{fullShare} (MAX m d : Buf (Elt F) ((SparseCore.T d).loc main_v5))))

theorem held_fin (d : Dev nD) {W : Valuation τ sig (Elt F)} (hW : W = W6 m d) : (held (T d) S9 W : sProp 𝕄) ⊢ FIN m d := by
  rw [hW, held_sub_split (T d) (show SF4 ⊆ S9 by decide), held_end, W6_a, W6_b, W6_out, W6_max]
  unfold FIN
  iintro ⟨H, -⟩
  iexact H

/-- The arrays at the call: what the subcores take, what stays of the two lists, and the other arrays. -/
theorem call_in (d : Dev nD) {W : Valuation τ sig (Elt F)} (hW : W = W2 m d) : (held (T d) S9 W : sProp 𝕄)
    ⊢ iprop((bigSep Finset.univ fun c : Fin 2 => bigSep Finset.univ fun i : Fin 16 => Task m d c.val i.val (m (oLoc d)) (m (pLoc d)))
        ∗ Kept (xLoc d) (XX m d) ∗ Kept (kLoc d) (MM m d) ∗ held (T d) (S9 \ SC4) (W2 m d)) := by
  rw [hW, held_sub_split (T d) (show SC4 ⊆ S9 by decide), held_call, W2_x, W2_k, W2_o, W2_p, tasks_eq]
  iintro ⟨⟨Hx, Hk, Ho, Hp⟩, Hr⟩
  ihave Hx := (deal_read (xLoc d) (XX m d)).1 $$ Hx
  ihave Hk := (deal_read (kLoc d) (MM m d)).1 $$ Hk
  icases Hx with ⟨Kx, Hx⟩
  icases Hk with ⟨Kk, Hk⟩
  isplitl [Hx Hk Ho Hp]
  · isplitl [Ho]; · iexact Ho
    isplitl [Hp]; · iexact Hp
    isplitl [Hx] <;> iassumption
  isplitl [Kx]; · iexact Kx
  isplitl [Kk] <;> iassumption

/-- And after it: the two result arrays written, the rest as it was. -/
theorem call_out (d : Dev nD) :
    iprop((bigSep Finset.univ fun c : Fin 2 => bigSep Finset.univ fun i : Fin 16 => Task m d c.val i.val (POOL (MM m d) (XX m d)) (MOUT (MM m d)))
        ∗ Kept (xLoc d) (XX m d) ∗ Kept (kLoc d) (MM m d) ∗ held (T d) (S9 \ SC4) (W2 m d))
      ⊢ (held (T d) S9 (W3 m d) : sProp 𝕄) := by
  rw [held_sub_split (T d) (show SC4 ⊆ S9 by decide) (W3 m d), held_call, W3_ne m d (b := rf main_v0) (by decide) (by decide),
    W3_ne m d (b := rf main_v1) (by decide) (by decide), W2_x, W2_k, W3_o, W3_p, tasks_eq,
    held_congr (T d) (S := S9 \ SC4) (V := W3 m d) (V' := W2 m d) fun b hb => W3_ne m d
      (fun h => (Finset.mem_sdiff.mp hb).2 (h ▸ (by decide : rf main_v2_0 ∈ SC4)))
      (fun h => (Finset.mem_sdiff.mp hb).2 (h ▸ (by decide : rf main_v2_1 ∈ SC4)))]
  iintro ⟨⟨Ho, Hp, Hx, Hk⟩, Kx, Kk, Hr⟩
  isplitr [Hr]
  · isplitl [Hx Kx]
    · iapply (deal_read (xLoc d) (XX m d)).2; isplitl [Kx] <;> iassumption
    isplitl [Hk Kk]
    · iapply (deal_read (kLoc d) (MM m d)).2; isplitl [Kk] <;> iassumption
    isplitl [Ho] <;> iassumption
  iexact Hr

/-- @main on a device: two reshapes, the call, and the three operations that shape the results. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hh, Hts, -⟩, -⟩
  iapply (wp_hlo_within 𝒱 (SparseCore.T d) none Set.univ (op := op1) (S := S9) h1 (V := W0 m d)) $$ [Hb Hh]
  · isplitl [Hb] <;> iassumption
  iintro ⟨Hb, Hh⟩
  rw [wp_ret]; imodintro
  iapply (wp_hlo_within 𝒱 (SparseCore.T d) none Set.univ (op := op2) (S := S9) h2 (V := op1.result (W0 m d))) $$ [Hb Hh]
  · isplitl [Hb] <;> iassumption
  iintro ⟨Hb, Hh⟩
  rw [wp_ret]; imodintro
  ihave H := (call_in m d (W := op2.result (op1.result (W0 m d))) rfl) $$ Hh
  icases H with ⟨Ht, Hrest⟩
  iapply ((K (F := F)).wp_run (D (F := F)) 𝒱 (EH := EH) (P := P m) κ d 0) $$ [Hst Ht Hb Hrest Hts]
  isplitr; · iexact Hctx
  isplitl [Hst]; · iexact Hst
  isplitl [Ht]; · iexact Ht
  iintro ⟨Hst, Hdn⟩
  ihave Hh := (call_out m d) $$ [Hdn Hrest]
  · isplitl [Hdn]; · iexact Hdn
    iexact Hrest
  iapply (wp_hlo_within 𝒱 (SparseCore.T d) none Set.univ (op := op3) (S := S9) h3 (V := W3 m d)) $$ [Hb Hh]
  · isplitl [Hb] <;> iassumption
  iintro ⟨Hb, Hh⟩
  rw [wp_ret]; imodintro
  iapply (wp_hlo_within 𝒱 (SparseCore.T d) none Set.univ (op := op4) (S := S9) h4 (V := op3.result (W3 m d))) $$ [Hb Hh]
  · isplitl [Hb] <;> iassumption
  iintro ⟨Hb, Hh⟩
  rw [wp_ret]; imodintro
  iapply (wp_hlo_within 𝒱 (SparseCore.T d) none Set.univ (op := op5) (S := S9) h5 (V := op4.result (op3.result (W3 m d)))) $$ [Hb Hh]
  · isplitl [Hb] <;> iassumption
  iintro ⟨Hb, Hh⟩
  rw [wp_ret]; imodintro
  ihave Hf := (held_fin m d (W := op5.result (op4.result (op3.result (W3 m d)))) rfl) $$ Hh
  imodintro
  isplitl [Hst]; · iexact Hst
  isplitl [Hf]; · iexact Hf
  isplitl [Hb] <;> iassumption

/-! ## What every run leaves -/

/-- The four arrays of a device at the end. -/
def fq (d : Dev nD) (s' : Phys nD τ sig (Elt F)) : Prop :=
  s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_v3) = (OUT m d : Buf (Elt F) ((SparseCore.T d).loc main_v3))
  ∧ s'.mem.mem ((SparseCore.T d).loc main_v5) = (MAX m d : Buf (Elt F) ((SparseCore.T d).loc main_v5))

/-- An array held whole is what the machine has. -/
theorem agree (ℓ : Loc nD τ sig) (f : Buf (Elt F) ℓ) (s' : Phys nD τ sig (Elt F)) :
    iprop(SI s' ∗ (ℓ ↦{fullShare} f : sProp 𝕄)) ⊢ iprop(⌜s'.mem.mem ℓ = f⌝ ∗ SI s') := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN
  iintro ⟨⟨Ha, Hb, Ho, Hm⟩, HSI⟩
  ihave H := (agree _ _ s') $$ [HSI Ha]
  · isplitl [HSI] <;> iassumption
  icases H with ⟨%ha, HSI⟩
  ihave H := (agree _ _ s') $$ [HSI Hb]
  · isplitl [HSI] <;> iassumption
  icases H with ⟨%hb, HSI⟩
  ihave H := (agree _ _ s') $$ [HSI Ho]
  · isplitl [HSI] <;> iassumption
  icases H with ⟨%ho, HSI⟩
  ihave H := (agree _ _ s') $$ [HSI Hm]
  · isplitl [HSI] <;> iassumption
  icases H with ⟨%hm, -⟩
  ipureintro
  exact ⟨ha, hb, ho, hm⟩

/-- The final states: the arguments as they were, the two results, every counter at zero. -/
def QC : PUnit × MemSt nD τ sig (Elt F) → Prop := fun r =>
  (∀ c : Dev nD, r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_v3) = (OUT m c : Buf (Elt F) ((SparseCore.T c).loc main_v3))
    ∧ r.2.mem ((SparseCore.T c).loc main_v5) = (MAX m c : Buf (Elt F) ((SparseCore.T c).loc main_v5)))
  ∧ r.2.sem = fun _ => 0

/-- Every run of the program ends so, from any memory. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Pool
end
-- ==== Proof.Frames.lean ====
/-
  The frames: both programs and the reference run to the end from any memory, leave their arguments as they were and every counter at
  zero.
-/
module

public import proofs.«01_k».proof.Defs
public import proofs.«01_k».proof.Proof.Launch
public import proofs.«01_k».proof.Proof.Gen.Kernel
public import proofs.«01_k».proof.Proof.Gen.Pre_mask_nonneg
public import proofs.«01_k».proof.Proof.Gen.ReferenceIdeal
public import proofs.«01_k».proof.Proof.Gen.ReferenceIdeal.Run

@[expose] public section

noncomputable section

namespace Cert.Proof

open Idealize.ShloMosaic Idealize.SL.Sem Cert.Kernel.Gen Cert.KernelIdeal.Gen Cert.ReferenceIdeal.Gen Cert.Pre_mask_nonneg.Gen

/-- The program over the extended reals ends quiescent, its arguments unchanged. -/
theorem frame_ideal : Cert.quiescent_KernelIdeal := fun m ρ _ =>
  (θ_run Cert.KernelIdeal.defs _ _).mono (fun _ h => ⟨fun c => ⟨(h.1 c).1, (h.1 c).2.1⟩, h.2⟩) (Pool.run_main (F := Ideal) m ρ)

/-- The reference over the extended reals: it declares no counter. -/
theorem frame_reference : Cert.quiescent_ReferenceIdeal := fun m ρ _ =>
  (θ_run Cert.ReferenceIdeal.defs _ _).mono (fun r h => ⟨fun c => ⟨(h c).2.2.1, (h c).2.2.2⟩, sem_eq_zero_of_no_sems (by decide) r.2⟩)
    (Cert.ReferenceIdeal.Value.run (F := Ideal) m ρ)

/-- The program as printed: its floats are bit patterns, its operations the idealized program's. -/
theorem frame_kernel : Cert.quiescent_Kernel := fun m ρ _ =>
  (θ_run Cert.KernelIdeal.defs _ _).mono (fun _ h => ⟨fun c => ⟨(h.1 c).1, (h.1 c).2.1⟩, h.2⟩) (Pool.run_main (F := Bits) m ρ)

/-- The same of the memories whose mask has no negative element. -/
theorem frame_ideal_pre : Cert.quiescent_KernelIdeal_pre_mask_nonneg := fun m ρ _ => frame_ideal m ρ trivial

/-- The same of the reference. -/
theorem frame_reference_pre : Cert.quiescent_ReferenceIdeal_pre_mask_nonneg := fun m ρ _ => frame_reference m ρ trivial

end Cert.Proof

end
-- ==== Proof.Totals.lean ====
/-
  What the kernel's sums and maxima are over the extended reals: sums over the steps, and least upper bounds.
-/
module

public import proofs.«01_k».proof.Proof.Values
public import Idealize.ShloMosaic.Lib.IdealHost
public import Idealize.ShloMosaic.PureOps.Ideal.Laws

@[expose] public section

noncomputable section

namespace Cert.Proof.Pool

open Cert.KernelIdeal Cert.KernelIdeal.Gen
open Idealize.ShloMosaic Idealize.SL.Sem

section AnyFloat

variable {F : FTy → Type} [FloatOps F]

/-- The last lane of the running sum is the sixteen lanes added in order. -/
theorem cumS_last (u : Fin 16 → F .f32) :
    cumS (fun l => u (l 0)) (ValueIdx.ix1 15)
      = ((List.finRange 15).map fun k => u k.succ).foldl FloatOps.addf (u 0) := rfl

/-- The last lane of the running maximum is the sixteen lanes' maximum, taken in order. -/
theorem cumM_last (u : Fin 16 → F .f32) :
    cumM (fun l => u (l 0)) (ValueIdx.ix1 15)
      = ((List.finRange 15).map fun k => u k.succ).foldl FloatOps.maximumf (u 0) := rfl

end AnyFloat

/-- Sums in order are sums. -/
theorem sumN_eq (f : ℕ → EReal) (n : ℕ) : sumN (F := Ideal) f n = ∑ k ∈ Finset.range n, f k := by
  induction n with
  | zero => exact Ideal.ofBits_zero_f32
  | succ n ih => rw [Finset.sum_range_succ, ← ih]; rfl

/-- A list of extended reals added up in order from `a`. -/
theorem foldl_addf (l : List EReal) (a : EReal) :
    l.foldl (FloatOps.addf (F := Ideal) (φ := .f32)) a = a + l.sum := by
  induction l generalizing a with
  | nil => exact (add_zero a).symm
  | cons x l ih =>
    rw [List.foldl_cons, ih, List.sum_cons, ← add_assoc]
    rfl

/-- A list's maximum taken in order from `a` is below `z` exactly when `a` and every element are. -/
theorem foldl_maximumf_le (l : List EReal) (a z : EReal) :
    l.foldl (FloatOps.maximumf (F := Ideal) (φ := .f32)) a ≤ z ↔ a ≤ z ∧ ∀ x ∈ l, x ≤ z := by
  induction l generalizing a with
  | nil => simp
  | cons x l ih =>
    rw [List.foldl_cons, ih, List.forall_mem_cons, ← and_assoc]
    exact and_congr_left fun _ => max_le_iff

/-- A maximum in order is below `z` exactly when zero and every term are. -/
theorem maxN_le (f : ℕ → EReal) (n : ℕ) (z : EReal) :
    maxN (F := Ideal) f n ≤ z ↔ 0 ≤ z ∧ ∀ k < n, f k ≤ z := by
  induction n with
  | zero =>
    show Ideal.ofBits .f32 0x00000000#32 ≤ z ↔ _
    rw [Ideal.ofBits_zero_f32]; simp
  | succ n ih =>
    show max (maxN (F := Ideal) f n) (f n) ≤ z ↔ _
    rw [max_le_iff, ih, and_assoc, Nat.forall_lt_succ_right]

/-- Blocks of sixteen terms added up are the terms added up. -/
theorem sum_blocks (f : ℕ → EReal) (n : ℕ) :
    ∑ k ∈ Finset.range n, ∑ l : Fin 16, f (16 * k + l.val) = ∑ t ∈ Finset.range (16 * n), f t := by
  induction n with
  | zero => rfl
  | succ n ih =>
    rw [Finset.sum_range_succ, ih, Nat.mul_succ, Finset.sum_range_add, Fin.sum_univ_eq_sum_range (fun l => f (16 * n + l))]

variable (M : S12x2048.Idx → Ideal .f32) (X : S12x2048x2048.Idx → Ideal .f32)

/-- A row's mask sum is the sum of its last 1024 steps. -/
theorem tot_eq (s : Fin 12) : (tot M s : EReal) = ∑ t ∈ Finset.range 1024, (mSt M s t : EReal) := by
  have e : (tot M s : EReal) = ∑ l : Fin 16, sumN (F := Ideal) (fun k => mSt M s (16 * k + l.val)) 64 := by
    refine (cumS_last (F := Ideal) fun l => sumN (F := Ideal) (fun k => mSt M s (16 * k + l.val)) 64).trans ?_
    refine (foldl_addf _ _).trans ?_
    rw [Fin.sum_univ_succ (fun l : Fin 16 => (sumN (F := Ideal) (fun k => mSt M s (16 * k + l.val)) 64 : EReal)), Fin.sum_univ_def]
  rw [e, ← sum_blocks (fun t => mSt M s t) 64, Finset.sum_comm]
  exact Finset.sum_congr rfl fun l _ => sumN_eq _ 64

/-- A row's mask maximum is below `z` exactly when zero and its last 1024 steps are. -/
theorem rowMax_le (s : Fin 12) (z : EReal) :
    (cumM (laneMax M s 64) (ValueIdx.ix1 15) : EReal) ≤ z ↔ 0 ≤ z ∧ ∀ t < 1024, (mSt M s t : EReal) ≤ z := by
  have e := cumM_last (F := Ideal) fun l => maxN (F := Ideal) (fun k => mSt M s (16 * k + l.val)) 64
  have e' : (cumM (laneMax M s 64) (ValueIdx.ix1 15) : EReal)
      = ((List.finRange 15).map fun k => maxN (F := Ideal) (fun j => mSt M s (16 * j + k.succ.val)) 64).foldl
          (FloatOps.maximumf (F := Ideal) (φ := .f32)) (maxN (F := Ideal) (fun j => mSt M s (16 * j + (0 : Fin 16).val)) 64) := e
  rw [e', foldl_maximumf_le]
  have h : (∀ x ∈ ((List.finRange 15).map fun k => (maxN (F := Ideal) (fun j => mSt M s (16 * j + k.succ.val)) 64 : EReal)), x ≤ z)
      ↔ ∀ k : Fin 15, (maxN (F := Ideal) (fun j => mSt M s (16 * j + k.succ.val)) 64 : EReal) ≤ z := by
    rw [List.forall_mem_map]
    exact ⟨fun h k => h k (List.mem_finRange k), fun h k _ => h k⟩
  refine (and_congr_right fun _ => h).trans ?_
  refine (Fin.forall_fin_succ (P := fun l : Fin 16 => (maxN (F := Ideal) (fun j => mSt M s (16 * j + l.val)) 64 : EReal) ≤ z)).symm.trans ?_
  refine (forall_congr' fun l => maxN_le _ 64 z).trans ?_
  constructor
  · intro h
    refine ⟨(h 0).1, fun t ht => ?_⟩
    have := (h ⟨t % 16, Nat.mod_lt _ (by decide)⟩).2 (t / 16) (by omega)
    rwa [show 16 * (t / 16) + t % 16 = t from Nat.div_add_mod t 16] at this
  · intro h l
    exact ⟨h.1, fun k hk => h.2 _ (by omega)⟩

/-- A pooled element is the sum of its weighted steps. -/
theorem pool_eq (s : Fin 12) (c n : ℕ) :
    (pool M X s c n : EReal) = ∑ t ∈ Finset.range n, (xSt X s t c : EReal) * (wgt M s t : EReal) := sumN_eq _ n

end Cert.Proof.Pool
end
-- ==== Proof.Weights.lean ====
/-
  The weighted sum of a row is its masked mean: the two ways of writing the pooled element agree over the extended reals.
-/
module

public import proofs.«01_k».proof.Proof.Totals

@[expose] public section

noncomputable section

namespace Cert.Proof.Pool

open Cert.KernelIdeal Cert.KernelIdeal.Gen
open Idealize.ShloMosaic Idealize.SL.Sem

/-- The small number the mask's sum is guarded with. -/
abbrev EPS : EReal := Ideal.ofBits .f32 0x322BCC77#32
/-- One over the number of steps. -/
abbrev INV : EReal := Ideal.ofBits .f32 0x3A800000#32
/-- The number of steps. -/
abbrev LEN : EReal := Ideal.ofBits .f32 0x44800000#32

/-- The number of steps is 1024. -/
theorem LEN_eq : LEN = ((1024 : ℝ) : EReal) := by
  simp [Ideal.ofBits, Ideal.ieee, -EReal.coe_mul]; norm_num

/-- Its inverse is 1/1024. -/
theorem INV_eq : INV = (((1024 : ℝ)⁻¹ : ℝ) : EReal) := by
  simp [Ideal.ofBits, Ideal.ieee, -EReal.coe_mul]; norm_num

/-- The guard is positive. -/
theorem EPS_pos : 0 < EPS := by
  have : ∃ r : ℝ, 0 < r ∧ EPS = (r : EReal) := by
    simp only [Ideal.ofBits, Ideal.ieee]
    refine ⟨_, ?_, rfl⟩
    norm_num
    split_ifs with h
    · exact absurd h (by decide)
    · positivity
  obtain ⟨r, hr, e⟩ := this
  rw [e]; exact_mod_cast hr

/-- The word the reference's maximum starts from is the least extended real. -/
theorem bot_eq : Ideal.ofBits .f32 0xFF800000#32 = ⊥ := by
  simp [Ideal.ofBits, Ideal.ieee]

/-- A choice made by a comparison with zero. -/
theorem choose_zero (S a b : EReal) :
    (if Ideal.cmp .oeq S 0 = 1#1 then a else b) = if S = 0 then a else b := by
  by_cases h : S = 0
  · rw [if_pos h, if_pos]; simp [Ideal.cmp, h]
  · rw [if_neg h, if_neg]; simp [Ideal.cmp, h]

/-- A weight, from the mask's sum `S` and the mask `w`. -/
theorem wvec_eq (S w : EReal) :
    (wvec (F := Ideal) (fun _ => S) (fun _ => w) (ValueIdx.ix1 0) : EReal)
      = w * (if S = 0 then 0 else Ideal.div 1 (S + EPS)) + (if S = 0 then INV else 0) := by
  have e : (wvec (F := Ideal) (fun _ => S) (fun _ => w) (ValueIdx.ix1 0) : EReal)
      = w * (if Ideal.cmp .oeq S (Ideal.ofBits .f32 0x00000000#32) = 1#1 then Ideal.ofBits .f32 0x00000000#32
              else Ideal.div (Ideal.ofBits .f32 0x3F800000#32) (S + EPS))
        + (if Ideal.cmp .oeq S (Ideal.ofBits .f32 0x00000000#32) = 1#1 then INV else Ideal.ofBits .f32 0x00000000#32) := rfl
  rw [e, Ideal.ofBits_zero_f32, Ideal.ofBits_one_f32, choose_zero, choose_zero]

/-- A sum times a finite number that is not negative. -/
theorem sum_mul_fin {ι : Type} (T : Finset ι) (f : ι → EReal) (c : EReal) (h : 0 ≤ c) (h' : c ≠ ⊤) :
    (∑ t ∈ T, f t) * c = ∑ t ∈ T, f t * c := by
  classical
  induction T using Finset.induction_on with
  | empty => simp
  | insert a T ha ih => rw [Finset.sum_insert ha, Finset.sum_insert ha, EReal.right_distrib_of_nonneg_of_ne_top h h', ih]

/-- The pooled element both ways: the sum of the steps times their weights is, with an empty mask, the steps' mean, and
otherwise the masked sum over the mask's guarded sum. -/
theorem weighted {ι : Type} (T : Finset ι) (x w : ι → EReal) (hw : ∀ t ∈ T, 0 ≤ w t) (S : EReal) (hS : S = ∑ t ∈ T, w t) :
    ∑ t ∈ T, x t * (wvec (F := Ideal) (fun _ => S) (fun _ => w t) (ValueIdx.ix1 0) : EReal)
      = if S = 0 then Ideal.div (∑ t ∈ T, x t) LEN else Ideal.div (∑ t ∈ T, x t * w t) (S + EPS) := by
  have hn : 0 ≤ S := hS ▸ Finset.sum_nonneg hw
  by_cases h : S = 0
  · rw [if_pos h]
    have hz : ∀ t ∈ T, w t = 0 := (Finset.sum_eq_zero_iff_of_nonneg hw).1 (hS ▸ h)
    have hi : LEN⁻¹ = INV := by rw [LEN_eq, INV_eq]; exact (EReal.coe_inv _).symm
    have hl : LEN ≠ 0 := by rw [LEN_eq]; exact_mod_cast (by norm_num : (1024 : ℝ) ≠ 0)
    unfold Ideal.div
    rw [if_neg hl, hi, sum_mul_fin _ _ _ (by rw [INV_eq]; exact_mod_cast (by norm_num : (0 : ℝ) ≤ (1024 : ℝ)⁻¹)) (by rw [INV_eq]; exact EReal.coe_ne_top _)]
    refine Finset.sum_congr rfl fun t ht => ?_
    rw [wvec_eq, if_pos h, if_pos h, hz t ht, mul_zero, zero_add]
  · rw [if_neg h]
    have hp : 0 < S + EPS := lt_of_lt_of_le EPS_pos (le_add_of_nonneg_left hn)
    have hc : S + EPS ≠ 0 := hp.ne'
    unfold Ideal.div
    rw [if_neg hc, sum_mul_fin _ _ _ (EReal.inv_nonneg_of_nonneg hp.le) (EReal.inv_lt_top _).ne]
    refine Finset.sum_congr rfl fun t _ => ?_
    rw [wvec_eq, if_neg h, if_neg h, add_zero, Ideal.div, if_neg hc, one_mul, mul_assoc]

end Cert.Proof.Pool
end
-- ==== Proof.RefRead.lean ====
/-
  The reference's two results read at an index.
-/
module

public import proofs.«01_k».proof.Proof.Gen.ReferenceIdeal
public import Idealize.ShloMosaic.Lib.IdealHost
public import Idealize.ShloMosaic.Lib.ValueLayout
public import Idealize.ShloMosaic.Lib.ValueIdx
public import Idealize.ShloMosaic.PureOps.Ideal.Laws

@[expose] public section

noncomputable section

namespace Cert.Proof.Ref

open Cert.ReferenceIdeal Cert.ReferenceIdeal.Gen
open Idealize.ShloMosaic Idealize.ShloMosaic.ValueIdx

variable (A : FVec Ideal S3x4x2048x2048 .f32) (B : FVec Ideal S3x4x2048x1 .f32)

/-- The last 1024 steps of the skip list. -/
def lastA : FVec Ideal S3x4x1024x2048 .f32 :=
  extractStridedSlice S3x4x1024x2048 ![0, 0, 1024, 0] A slices_S3x4x2048x2048_S3x4x1024x2048_0_0_1024_0
/-- The last 1024 steps of the mask. -/
def lastB : FVec Ideal S3x4x1024x1 .f32 :=
  extractStridedSlice S3x4x1024x1 ![0, 0, 1024, 0] B slices_S3x4x2048x1_S3x4x1024x1_0_0_1024_0
/-- The mask's sums. -/
def sumB : FVec Ideal S3x4x1 .f32 :=
  Host.reduceAdd (lastB B) (constant S_ .f32 0x00000000#32) reducesTo_S3x4x1024x1_S3x4x1_d2 h_S_
/-- A sum over the steps. -/
def sumA (x : FVec Ideal S3x4x1024x2048 .f32) : FVec Ideal S3x4x2048 .f32 :=
  Host.reduceAdd x (constant S_ .f32 0x00000000#32) reducesTo_S3x4x1024x2048_S3x4x2048_d2 h_S_

/-- The reference's pooled result. -/
def pooled : FVec Ideal S3x4x1x2048 .f32 :=
  broadcastInDim S3x4x1x2048 ![0, 1, 3] bcast_S3x4x2048_S3x4x1x2048_0_1_3
    (select (broadcastInDim S3x4x2048 ![0, 1, 2] bcast_S3x4x1_S3x4x2048_0_1_2
        (cmpf .oeq (sumB B) (broadcastInDim S3x4x1 ![] bcast_S_S3x4x1 (constant S_ .f32 0x00000000#32))))
      (Host.divf (sumA (lastA A)) (broadcastInDim S3x4x2048 ![] bcast_S_S3x4x2048 (constant S_ .f32 0x44800000#32)))
      (Host.divf (sumA (mulf (lastA A) (broadcastInDim S3x4x1024x2048 ![0, 1, 2, 3] bcast_S3x4x1024x1_S3x4x1024x2048_0_1_2_3 (lastB B))))
        (broadcastInDim S3x4x2048 ![0, 1, 2] bcast_S3x4x1_S3x4x2048_0_1_2
          (addf (sumB B) (broadcastInDim S3x4x1 ![] bcast_S_S3x4x1 (constant S_ .f32 0x322BCC77#32))))))

/-- The reference's mask result. -/
def masked : FVec Ideal S3x4x1x1 .f32 :=
  broadcastInDim S3x4x1x1 ![0, 1, 3] bcast_S3x4x1_S3x4x1x1_0_1_3
    (Host.reduce FloatOps.maximumf (lastB B) (constant S_ .f32 0xFF800000#32) reducesTo_S3x4x1024x1_S3x4x1_d2 h_S_)

variable (l : Fin 3) (b : Fin 4) (c : Fin 2048)

/-- The skip list of a row at step `k` of the last 1024. -/
def aSt (k : Fin 1024) : EReal := A (ix4 l b ⟨1024 + k.val, by omega⟩ c)
/-- The mask of a row at step `k` of the last 1024. -/
def bSt (k : Fin 1024) : EReal := B (ix4 l b ⟨1024 + k.val, by omega⟩ 0)

theorem lastA_apply (k : Fin 1024) : lastA A (ix4 l b k c) = aSt A l b c k := slice4_axis2_apply 1024 A _ l b k c _ rfl
theorem lastB_apply (k : Fin 1024) : lastB B (ix4 l b k 0) = bSt B l b k := slice4_axis2_apply 1024 B _ l b k 0 _ rfl

/-- The steps of a column, as indices. -/
theorem lift_col (h : Shape.Reduces S3x4x1024x2048 [2] S3x4x2048) (k : Fin 1024) : h.lift (ix3 l b c) k = ix4 l b k c :=
  funext fun a => Fin.ext (by fin_cases a <;> rfl)

/-- The steps of a mask, as indices. -/
theorem lift_one (h : Shape.Reduces S3x4x1024x1 [2] S3x4x1) (k : Fin 1024) : h.lift (ix3 l b 0) k = ix4 l b k 0 :=
  funext fun a => Fin.ext (by fin_cases a <;> rfl)

/-- A column's sum over the steps. -/
theorem sumA_apply (x : FVec Ideal S3x4x1024x2048 .f32) :
    (sumA x (ix3 l b c) : EReal) = ∑ k : Fin 1024, (x (ix4 l b k c) : EReal) := by
  have h : Shape.Reduces S3x4x1024x2048 [2] S3x4x2048 := by decide
  refine (hostReduceAdd_apply x _ _ h_S_ _).trans ((Ideal.hostReduceAdd_single _ h x _ _).trans ?_)
  rw [show (constant S_ .f32 0x00000000#32 : FVec Ideal S_ .f32) (Shape.Idx.first h_S_) = (0 : EReal) from Ideal.ofBits_zero_f32, zero_add]
  exact Finset.sum_congr rfl fun k _ => congrArg x (lift_col l b c h k)

/-- A row's mask sum. -/
theorem sumB_apply : (sumB B (ix3 l b 0) : EReal) = ∑ k : Fin 1024, bSt B l b k := by
  have h : Shape.Reduces S3x4x1024x1 [2] S3x4x1 := by decide
  refine (hostReduceAdd_apply (lastB B) _ _ h_S_ _).trans ((Ideal.hostReduceAdd_single _ h (lastB B) _ _).trans ?_)
  rw [show (constant S_ .f32 0x00000000#32 : FVec Ideal S_ .f32) (Shape.Idx.first h_S_) = (0 : EReal) from Ideal.ofBits_zero_f32, zero_add]
  exact Finset.sum_congr rfl fun k _ => (congrArg (lastB B) (lift_one l b h k)).trans (lastB_apply B l b k)

/-- A row's mask maximum, from the least extended real. -/
theorem masked_apply : (masked B (ix4 l b 0 0) : EReal)
    = (Finset.univ : Finset (Fin 1024)).fold (max : EReal → EReal → EReal) (Ideal.ofBits .f32 0xFF800000#32) (bSt B l b) := by
  have h : Shape.Reduces S3x4x1024x1 [2] S3x4x1 := by decide
  have : Std.Commutative (FloatOps.maximumf (F := Ideal) (φ := .f32)) := ⟨fun a b => max_comm (α := EReal) a b⟩
  have : Std.Associative (FloatOps.maximumf (F := Ideal) (φ := .f32)) := ⟨fun a b c => max_assoc (α := EReal) a b c⟩
  refine (broadcastInDim_apply _ _ _ _ (ix3 l b 0) fun a => by fin_cases a <;> rfl).trans ?_
  refine (Host.reduce_eq_fold_single _ (lastB B) _ _ h h_S_ _).trans ?_
  have e : (lastB B ∘ h.lift (ix3 l b 0)) = bSt B l b :=
    funext fun k => (congrArg (lastB B) (lift_one l b h k)).trans (lastB_apply B l b k)
  rw [e]
  rfl

/-- The pooled element: with an empty mask the steps' mean, otherwise the masked sum over the mask's guarded sum. -/
theorem pooled_apply : (pooled A B (ix4 l b 0 c) : EReal)
    = if Ideal.cmp .oeq (∑ k : Fin 1024, bSt B l b k) (Ideal.ofBits .f32 0x00000000#32) = 1#1
      then Ideal.div (∑ k : Fin 1024, aSt A l b c k) (Ideal.ofBits .f32 0x44800000#32)
      else Ideal.div (∑ k : Fin 1024, aSt A l b c k * bSt B l b k)
        ((∑ k : Fin 1024, bSt B l b k) + Ideal.ofBits .f32 0x322BCC77#32) := by
  have hc : ∀ {α : Type} (x : S3x4x1.Idx → α), broadcastInDim S3x4x2048 ![0, 1, 2] bcast_S3x4x1_S3x4x2048_0_1_2 x (ix3 l b c) = x (ix3 l b 0) :=
    fun x => broadcastInDim_apply _ _ x _ (ix3 l b 0) fun a => by fin_cases a <;> rfl
  refine (broadcastInDim_apply _ _ _ _ (ix3 l b c) fun a => by fin_cases a <;> rfl).trans ?_
  rw [← sumB_apply, ← sumA_apply l b c (lastA A) |>.trans (Finset.sum_congr rfl fun k _ => lastA_apply A l b c k)]
  have hp : ∑ k : Fin 1024, aSt A l b c k * bSt B l b k
      = (sumA (mulf (lastA A) (broadcastInDim S3x4x1024x2048 ![0, 1, 2, 3] bcast_S3x4x1024x1_S3x4x1024x2048_0_1_2_3 (lastB B))) (ix3 l b c) : EReal) := by
    rw [sumA_apply]
    refine Finset.sum_congr rfl fun k _ => ?_
    rw [← lastA_apply, ← lastB_apply]
    exact congrArg (lastA A (ix4 l b k c) * ·)
      (broadcastInDim_apply _ _ (lastB B) (ix4 l b k c) (ix4 l b k 0) fun a => by fin_cases a <;> rfl).symm
  rw [hp]
  show (if broadcastInDim S3x4x2048 ![0, 1, 2] bcast_S3x4x1_S3x4x2048_0_1_2
        (cmpf .oeq (sumB B) (broadcastInDim S3x4x1 ![] bcast_S_S3x4x1 (constant S_ .f32 0x00000000#32))) (ix3 l b c) = 1#1
      then Ideal.div _ _
      else Ideal.div _ (broadcastInDim S3x4x2048 ![0, 1, 2] bcast_S3x4x1_S3x4x2048_0_1_2
          (addf (sumB B) (broadcastInDim S3x4x1 ![] bcast_S_S3x4x1 (constant S_ .f32 0x322BCC77#32))) (ix3 l b c))) = _
  rw [hc, hc]
  rfl

end Cert.Proof.Ref
end
-- ==== Proof.Agree.lean ====
/-
  The kernel's two results are the reference's, for a mask with no negative element.
-/
module

public import proofs.«01_k».proof.Proof.Weights
public import proofs.«01_k».proof.Proof.RefRead
public import Idealize.ShloMosaic.Lib.Pipeline.Value

@[expose] public section

noncomputable section

namespace Cert.Proof.Pool

open Cert.KernelIdeal Cert.KernelIdeal.Gen
open Idealize.ShloMosaic Idealize.ShloMosaic.ValueIdx Idealize.SL.Sem

variable (A : S3x4x2048x2048.Idx → Ideal .f32) (B : S3x4x2048x1.Idx → Ideal .f32)

/-- The skip list with its layers and batches as one axis. -/
abbrev flatA : S12x2048x2048.Idx → Ideal .f32 := shapeCast S12x2048x2048 A shapeCasts_S3x4x2048x2048_S12x2048x2048
/-- The mask with its layers and batches as one axis. -/
abbrev flatB : S12x2048.Idx → Ideal .f32 := shapeCast S12x2048 B shapeCasts_S3x4x2048x1_S12x2048

/-- The row of a layer and batch. -/
def row (l : Fin 3) (b : Fin 4) : Fin 12 := ⟨l.val * 4 + b.val, by omega⟩

variable (l : Fin 3) (b : Fin 4)

/-- A step's mask. -/
theorem mSt_eq (k : Fin 1024) : mSt (flatB B) (row l b) k.val = Ref.bSt B l b k := by
  have hk := k.isLt
  refine shapeCast_apply B _ _ (ix4 l b ⟨1024 + k.val, by omega⟩ 0) ?_
  rw [Shape.rowMajor_val_four, Shape.rowMajor_val_two]
  show ((l.val * 4 + b.val) * 2048 + (1024 + k.val)) * 1 + 0 = (l.val * 4 + b.val) * 2048 + (1024 + k.val) % 2048
  omega

/-- A step's element of a column. -/
theorem xSt_eq (c : Fin 2048) (k : Fin 1024) : xSt (flatA A) (row l b) k.val c.val = Ref.aSt A l b c k := by
  have hk := k.isLt
  have hc := c.isLt
  refine shapeCast_apply A _ _ (ix4 l b ⟨1024 + k.val, by omega⟩ c) ?_
  rw [Shape.rowMajor_val_four, Shape.rowMajor_val_three]
  show ((l.val * 4 + b.val) * 2048 + (1024 + k.val)) * 2048 + c.val
    = ((l.val * 4 + b.val) * 2048 + (1024 + k.val) % 2048) * 2048 + c.val % 2048
  omega

variable (hB : ∀ i, (0 : EReal) ≤ B i)
include hB

/-- The pooled element is the reference's. -/
theorem pool_ref (c : Fin 2048) :
    (pool (flatB B) (flatA A) (row l b) c.val 1024 : EReal) = Ref.pooled A B (ix4 l b 0 c) := by
  have ht : (tot (flatB B) (row l b) : EReal) = ∑ k : Fin 1024, Ref.bSt B l b k := by
    rw [tot_eq, ← Fin.sum_univ_eq_sum_range (fun t => (mSt (flatB B) (row l b) t : EReal))]
    exact Finset.sum_congr rfl fun k _ => mSt_eq B l b k
  have hp : (pool (flatB B) (flatA A) (row l b) c.val 1024 : EReal)
      = ∑ k : Fin 1024, Ref.aSt A l b c k * (wvec (F := Ideal) (fun _ => tot (flatB B) (row l b)) (fun _ => Ref.bSt B l b k) (ix1 0) : EReal) := by
    rw [pool_eq, ← Fin.sum_univ_eq_sum_range (fun t => (xSt (flatA A) (row l b) t c.val : EReal) * (wgt (flatB B) (row l b) t : EReal))]
    refine Finset.sum_congr rfl fun k _ => ?_
    rw [wgt, mSt_eq, xSt_eq]
  rw [hp, Ref.pooled_apply, Ideal.ofBits_zero_f32, choose_zero, ← ht]
  exact weighted Finset.univ (Ref.aSt A l b c) (Ref.bSt B l b) (fun k _ => hB _) _ ht

/-- The row's mask maximum is the reference's. -/
theorem max_ref : (cumM (laneMax (flatB B) (row l b) 64) (ix1 15) : EReal) = Ref.masked B (ix4 l b 0 0) := by
  refine eq_of_forall_ge_iff fun z => ?_
  rw [rowMax_le, Ref.masked_apply, bot_eq]
  have hs : (Finset.univ : Finset (Fin 1024)).fold (max : EReal → EReal → EReal) ⊥ (Ref.bSt B l b)
      = Finset.univ.sup (Ref.bSt B l b) := rfl
  rw [hs, Finset.sup_le_iff]
  constructor
  · intro h k _
    exact (mSt_eq B l b k).symm.trans_le (h.2 k.val k.isLt)
  · intro h
    refine ⟨(hB _).trans (h 0 (Finset.mem_univ _)), fun t ht => ?_⟩
    exact (mSt_eq B l b ⟨t, ht⟩).trans_le (h ⟨t, ht⟩ (Finset.mem_univ _))

/-- The kernel's pooled result is the reference's. -/
theorem pooled_ref : shapeCast S3x4x1x2048 (POOL (flatB B) (flatA A)) shapeCasts_S12x2048_S3x4x1x2048 = Ref.pooled A B := by
  funext j
  obtain ⟨l, b, u, c, rfl⟩ : ∃ l b u c, j = ix4 l b u c := ⟨_, _, _, _, eq_ix4 j⟩
  obtain rfl : u = 0 := Subsingleton.elim _ _
  refine (shapeCast_apply _ _ _ (ix2 (row l b) c) ?_).trans (pool_ref A B l b hB c)
  rw [Shape.rowMajor_val_four, Shape.rowMajor_val_two]
  show (l.val * 4 + b.val) * 2048 + c.val = ((l.val * 4 + b.val) * 1 + 0) * 2048 + c.val
  omega

/-- The kernel's mask result is the reference's. -/
theorem masked_ref : shapeCast S3x4x1x1 (extractStridedSlice S12x1 ![0, 15] (MOUT (flatB B)) slices_S12x16_S12x1_0_15) shapeCasts_S12x1_S3x4x1x1
    = Ref.masked B := by
  funext j
  obtain ⟨l, b, u, c, rfl⟩ : ∃ l b u c, j = ix4 l b u c := ⟨_, _, _, _, eq_ix4 j⟩
  obtain rfl : u = 0 := Subsingleton.elim _ _
  obtain rfl : c = 0 := Subsingleton.elim _ _
  refine (shapeCast_apply _ _ _ (ix2 (row l b) 0) ?_).trans
    ((slice2_axis1_apply 15 (MOUT (flatB B)) _ (row l b) 0 15 rfl).trans (max_ref B l b hB))
  rw [Shape.rowMajor_val_four, Shape.rowMajor_val_two]
  show (l.val * 4 + b.val) * 1 + 0 = ((l.val * 4 + b.val) * 1 + 0) * 1 + 0
  omega

end Cert.Proof.Pool
end
-- ==== Proof.Algebraic.lean ====
/-
  The value claim: on a mask with no negative element the program over the extended reals ends with the reference's two results.
-/
module

public import proofs.«01_k».proof.Defs
public import proofs.«01_k».proof.Proof.Launch
public import proofs.«01_k».proof.Proof.Agree
public import proofs.«01_k».proof.Proof.Gen.ReferenceIdeal.Run
public import proofs.«01_k».proof.Proof.Gen.Pre_mask_nonneg
public import Idealize.ShloMosaic.Lib.ReduceAll

@[expose] public section

noncomputable section

namespace Cert.Proof

open Idealize.ShloMosaic Idealize.ShloMosaic.TcCoe Idealize.SL.Sem Cert.KernelIdeal.Gen Cert.ReferenceIdeal.Gen Cert.Pre_mask_nonneg.Gen

/-- The precondition, element by element: no mask element is negative. -/
theorem nonneg_of_pre (A : FVec Ideal Cert.Pre_mask_nonneg.S3x4x2048x2048 .f32) (B : FVec Ideal Cert.Pre_mask_nonneg.S3x4x2048x1 .f32)
    (h : Cert.Pre_mask_nonneg.fn (F := Ideal) A B = fun _ => 1#1) (i : Cert.Pre_mask_nonneg.S3x4x2048x1.Idx) : (0 : EReal) ≤ B i := by
  haveI : Subsingleton Cert.Pre_mask_nonneg.S_.Idx := ⟨fun a b => funext fun x => x.elim0⟩
  have e := Host.reduce_andi_all _ _ _ _ (fun x => x.elim0) (congrFun h fun x => x.elim0) i
  have e' : Ideal.cmp .oge (B i) (Ideal.ofBits .f32 0x00000000#32) = 1#1 := e
  rw [Ideal.ofBits_zero_f32] at e'
  by_contra hn
  simp [Ideal.cmp, hn] at e'

/-- The kernel's and the reference's results are the same. -/
theorem algebraic : Cert.algebraic_KernelIdeal_ReferenceIdeal_pre_mask_nonneg := by
  intro m g m' g' hpre hm
  have h0 := fun c => nonneg_of_pre _ _ (hpre c)
  refine ⟨fun c => Pool.OUT m c, fun c => Pool.MAX m c, ?_, ?_⟩
  · exact (θ_run Cert.KernelIdeal.defs _ _).mono (fun _ h c => ⟨(h.1 c).2.2.1, (h.1 c).2.2.2, (h.1 c).1, (h.1 c).2.1⟩)
      (Pool.run_main (F := Ideal) m g)
  · refine (θ_run Cert.ReferenceIdeal.defs _ _).mono (fun r h c => ⟨?_, ?_, (h c).2.2.1, (h c).2.2.2⟩)
      (Cert.ReferenceIdeal.Value.run (F := Ideal) m' g')
    · refine (h c).1.trans ?_
      rw [(hm c).1, (hm c).2]
      exact (Pool.pooled_ref _ _ (h0 c)).symm
    · refine (h c).2.1.trans ?_
      rw [(hm c).2]
      exact (Pool.masked_ref _ (h0 c)).symm

end Cert.Proof

end
-- ==== Proof.TcBody.lean ====
/-
  The TensorCore body's two payloads read at an index over the extended reals.
-/
module

public import proofs.«01_k».proof.Proof.Gen.KernelTcIdeal.Skeleton
public import proofs.«01_k».proof.Proof.Weights
public import Idealize.ShloMosaic.Lib.ValueLayout
public import Idealize.ShloMosaic.Lib.ValueIdx
public import Idealize.ShloMosaic.Lib.Pipeline.Value
public import Idealize.ShloMosaic.PureOps.Ideal.Laws

@[expose] public section

noncomputable section

namespace Cert.Proof.Tc

open Cert.KernelTcIdeal Cert.KernelTcIdeal.Gen
open Idealize.ShloMosaic Idealize.ShloMosaic.ValueIdx Idealize.SL.Sem

variable (x : Vec Ideal S1x1x1024 .f32)

/-- The mask as a plain vector. -/
theorem pay1_apply (k : Fin 1024) : k0_pay1 x (ix1 k) = x (ix3 0 0 k) := by
  refine shapeCast_apply x _ _ (ix3 0 0 k) ?_
  rw [Shape.rowMajor_val_three, Shape.rowMajor_val_one]
  show (0 * 1 + 0) * 1024 + k.val = k.val
  omega

/-- The mask as a one-row table. -/
theorem row_apply (k : Fin 1024) :
    shapeCast S1x1024 (k0_pay1 x) shapeCasts_S1024_S1x1024 (ix2 0 k) = x (ix3 0 0 k) := by
  refine (shapeCast_apply (k0_pay1 x) _ _ (ix1 k) ?_).trans (pay1_apply x k)
  rw [Shape.rowMajor_val_two, Shape.rowMajor_val_one]
  show k.val = 0 * 1024 + k.val
  omega

/-- The only index of a one-element vector, cast to one row and one column. -/
theorem one_apply (v : FVec Ideal S1 .f32) :
    extractAt ![0, 0] (shapeCast S1x1 v shapeCasts_S1_S1x1) inpos_S1x1_p0_0 = v (ix1 0) := by
  refine shapeCast_apply v _ _ (ix1 0) ?_
  rw [Shape.rowMajor_val_two, Shape.rowMajor_val_one]
  rfl

/-- The places of the row. -/
theorem lift_row (h : Shape.Reduces S1x1024 [1] S1) (k : Fin 1024) : h.lift (ix1 0) k = ix2 0 k :=
  funext fun a => Fin.ext (by fin_cases a <;> rfl)

/-- The places of a column. -/
theorem lift_col (h : Shape.Reduces S1024x512 [0] S512) (e : Fin 512) (k : Fin 1024) : h.lift (ix1 e) k = ix2 k e :=
  funext fun a => Fin.ext (by fin_cases a <;> rfl)

/-- The mask's sum, as the body takes it. -/
def total : Ideal .f32 :=
  extractAt ![0, 0] (shapeCast S1x1 (multiReduction .add [1] S1 (shapeCast S1x1024 (k0_pay1 x) shapeCasts_S1024_S1x1024)
    0x00000000#32 reduces_S1x1024_S1 (.inl rfl) rfl) shapeCasts_S1_S1x1) inpos_S1x1_p0_0

/-- It is the sum of the mask. -/
theorem total_eq : (total x : EReal) = ∑ k : Fin 1024, (x (ix3 0 0 k) : EReal) := by
  refine (one_apply _).trans ((Ideal.multiReduction_add_single _ _ reduces_S1x1024_S1 _ _ _).trans ?_)
  refine Finset.sum_congr rfl fun k _ => ?_
  exact (congrArg (shapeCast S1x1024 (k0_pay1 x) shapeCasts_S1024_S1x1024) (lift_row reduces_S1x1024_S1 k)).trans (row_apply x k)

/-- The weights, as the body takes them. -/
def weights : FVec Ideal S1024 .f32 :=
  addf (mulf (k0_pay1 x) (broadcast S1024 (Scalar.select (Scalar.cmpf .oeq (total x) (Scalar.ofBits .f32 0x00000000#32))
      (Scalar.ofBits .f32 0x00000000#32)
      (Scalar.divf (Scalar.ofBits .f32 0x3F800000#32) (Scalar.addf (total x) (Scalar.ofBits .f32 0x322BCC77#32))))))
    (broadcast S1024 (Scalar.select (Scalar.cmpf .oeq (total x) (Scalar.ofBits .f32 0x00000000#32))
      (Scalar.ofBits .f32 0x3A800000#32) (Scalar.ofBits .f32 0x00000000#32)))

/-- A weight is the one of the mask's sum and the mask. -/
theorem weights_apply (k : Fin 1024) :
    (weights x (ix1 k) : EReal) = (Pool.wvec (F := Ideal) (fun _ => total x) (fun _ => x (ix3 0 0 k)) (ix1 0) : EReal) := by
  rw [← pay1_apply x k]
  rfl

variable (y : Vec Ideal S1x1024x512 .f32)

/-- The block's steps times their weights. -/
def prods : FVec Ideal S1024x512 .f32 :=
  mulf (shapeCast S1024x512 y shapeCasts_S1x1024x512_S1024x512)
    (broadcastTo S1024x512 (shapeCast S1024x1 (weights x) shapeCasts_S1024_S1024x1) broadcasts_S1024x1_S1024x512)

/-- One of them. -/
theorem prods_apply (k : Fin 1024) (e : Fin 512) :
    (prods x y (ix2 k e) : EReal) = y (ix3 0 k e) * (weights x (ix1 k) : EReal) := by
  have h1 : shapeCast S1024x512 y shapeCasts_S1x1024x512_S1024x512 (ix2 k e) = y (ix3 0 k e) := by
    refine shapeCast_apply y _ _ (ix3 0 k e) ?_
    rw [Shape.rowMajor_val_three, Shape.rowMajor_val_two]
    show (0 * 1024 + k.val) * 512 + e.val = k.val * 512 + e.val
    omega
  have h2 : broadcastTo S1024x512 (shapeCast S1024x1 (weights x) shapeCasts_S1024_S1024x1) broadcasts_S1024x1_S1024x512 (ix2 k e)
      = weights x (ix1 k) := by
    refine (broadcastTo_apply (shapeCast S1024x1 (weights x) shapeCasts_S1024_S1024x1) _ (ix2 k e) (ix2 k 0)
      fun a => by fin_cases a <;> rfl).trans (shapeCast_apply _ _ _ (ix1 k) ?_)
    rw [Shape.rowMajor_val_two, Shape.rowMajor_val_one]
    show k.val = k.val * 1 + 0
    omega
  exact congrArg₂ (fun a b : EReal => a * b) h1 h2

/-- The pooled block at a column. -/
theorem pay2_apply (e : Fin 512) : (k0_pay2 x y (ix3 0 0 e) : EReal)
    = ∑ k : Fin 1024, (y (ix3 0 k e) : EReal) * (Pool.wvec (F := Ideal) (fun _ => total x) (fun _ => x (ix3 0 0 k)) (ix1 0) : EReal) := by
  have h : k0_pay2 x y = shapeCast S1x1x512 (multiReduction .add [0] S512 (prods x y) 0x00000000#32 reduces_S1024x512_S512 (.inl rfl) rfl)
      shapeCasts_S512_S1x1x512 := rfl
  rw [h]
  refine (shapeCast_apply _ _ _ (ix1 e) ?_).trans ((Ideal.multiReduction_add_single _ _ reduces_S1024x512_S512 _ _ _).trans ?_)
  · rw [Shape.rowMajor_val_three, Shape.rowMajor_val_one]
    show e.val = (0 * 1 + 0) * 512 + e.val
    omega
  · refine Finset.sum_congr rfl fun k _ => ?_
    refine (congrArg (prods x y) (lift_col reduces_S1024x512_S512 e k)).trans ((prods_apply x y k e).trans ?_)
    exact congrArg (fun w : EReal => (y (ix3 0 k e) : EReal) * w) (weights_apply x k)

/-- The mask's maximum, as the body takes it. -/
def top : FVec Ideal S1 .f32 :=
  multiReduction .maximumf [1] S1 (shapeCast S1x1024 (k0_pay1 x) shapeCasts_S1024_S1x1024) 0xFF800000#32 reduces_S1x1024_S1 (.inl rfl) rfl

/-- It is the mask's maximum, from the least extended real. -/
theorem top_apply : (top x (ix1 0) : EReal)
    = (Finset.univ : Finset (Fin 1024)).fold (max : EReal → EReal → EReal) (Ideal.ofBits .f32 0xFF800000#32) (fun k => x (ix3 0 0 k)) := by
  refine (Ideal.multiReduction_maximumf_single _ _ reduces_S1x1024_S1 _ _ _).trans ?_
  have e : (shapeCast S1x1024 (k0_pay1 x) shapeCasts_S1024_S1x1024 ∘ (reduces_S1x1024_S1).lift (ix1 0)) = fun k => x (ix3 0 0 k) :=
    funext fun k => (congrArg (shapeCast S1x1024 (k0_pay1 x) shapeCasts_S1024_S1x1024) (lift_row reduces_S1x1024_S1 k)).trans (row_apply x k)
  exact congrArg (fun f : Fin 1024 → EReal => (Finset.univ : Finset (Fin 1024)).fold (max : EReal → EReal → EReal) (Ideal.ofBits .f32 0xFF800000#32) f) e

/-- A value at every place. -/
theorem bc_apply (z : Ideal .f32) (i : S1x1x1.Idx) : broadcast S1x1x1 z i = z := rfl

/-- The second payload is that maximum. -/
theorem pay3_apply : (k0_pay3 x (ix3 0 0 0) : EReal)
    = (Finset.univ : Finset (Fin 1024)).fold (max : EReal → EReal → EReal) (Ideal.ofBits .f32 0xFF800000#32) (fun k => x (ix3 0 0 k)) := by
  have h : k0_pay3 x = broadcast S1x1x1 (extractAt ![0, 0] (shapeCast S1x1 (top x) shapeCasts_S1_S1x1) inpos_S1x1_p0_0) := rfl
  rw [h]
  rw [bc_apply, one_apply (top x)]
  exact top_apply x

end Cert.Proof.Tc
end
-- ==== Proof.TcValue.lean ====
/-
  The TensorCore call's two result arrays are the reference's results with one row per layer and batch.
-/
module

public import proofs.«01_k».proof.Proof.TcBody
public import proofs.«01_k».proof.Proof.Agree
public import proofs.«01_k».proof.Proof.Gen.KernelTcIdeal.Value
public import proofs.«01_k».proof.Proof.Gen.ReferenceRowsIdeal
public import Idealize.ShloMosaic.Lib.Pipeline.ValueKit.Tiles

@[expose] public section

noncomputable section

namespace Cert.Proof.Tc

open Cert.KernelTcIdeal Cert.KernelTcIdeal.Gen Cert.KernelTcIdeal.Value
open Idealize.ShloMosaic Idealize.ShloMosaic.TcCoe Idealize.ShloMosaic.ValueIdx Idealize.ShloMosaic.Tactic Idealize.SL.Sem

variable (m : (ℓ : Loc nD τ sig) → Buf (Elt Ideal) ℓ) (c : Dev nD)

/-- The skip list as launched. -/
abbrev argA : FVec Ideal S3x4x2048x2048 .f32 := m ((c.tc : Thread nD τ).loc main_arg0)
/-- The mask as launched. -/
abbrev argB : FVec Ideal S3x4x2048x1 .f32 := m ((c.tc : Thread nD τ).loc main_arg1)

/-- The call's first operand: the skip list with its layers and batches as one axis. -/
theorem V_v0 : (V m c main_v0 : FVec Ideal S12x2048x2048 .f32)
    = shapeCast S12x2048x2048 (argA m c) shapeCasts_S3x4x2048x2048_S12x2048x2048 := by
  unfold V hostOps0; after_results; rfl

/-- The call's second operand: the mask with its layers and batches as one axis. -/
theorem V_v2 : (V m c main_v2 : FVec Ideal S12x1x2048 .f32)
    = shapeCast S12x1x2048 (shapeCast S12x2048 (argB m c) shapeCasts_S3x4x2048x1_S12x2048) shapeCasts_S12x2048_S12x1x2048 := by
  unfold V hostOps0; after_results; rfl

variable (l : Fin 3) (b : Fin 4)

/-- An element of the first operand. -/
theorem V_v0_apply (j d : Fin 2048) : (V m c main_v0 : FVec Ideal S12x2048x2048 .f32) (ix3 (Pool.row l b) j d) = argA m c (ix4 l b j d) := by
  rw [V_v0]
  refine shapeCast_apply (argA m c) _ _ (ix4 l b j d) ?_
  rw [Shape.rowMajor_val_four, Shape.rowMajor_val_three]
  rfl

/-- An element of the second operand. -/
theorem V_v2_apply (j : Fin 2048) : (V m c main_v2 : FVec Ideal S12x1x2048 .f32) (ix3 (Pool.row l b) 0 j) = argB m c (ix4 l b j 0) := by
  rw [V_v2]
  refine (shapeCast_apply _ _ _ (ix2 (Pool.row l b) j) ?_).trans (shapeCast_apply (argB m c) _ _ (ix4 l b j 0) ?_)
  · rw [Shape.rowMajor_val_two, Shape.rowMajor_val_three]
    show (l.val * 4 + b.val) * 2048 + j.val = ((l.val * 4 + b.val) * 1 + 0) * 2048 + j.val
    omega
  · rw [Shape.rowMajor_val_four, Shape.rowMajor_val_two]
    show ((l.val * 4 + b.val) * 2048 + j.val) * 1 + 0 = (l.val * 4 + b.val) * 2048 + j.val
    omega

/-- Where the first operand's block lies. -/
theorem at0 : ∀ t : Fin grid0.N, win0_0.index t 0 = t.val / 4 ∧ win0_0.index t 1 = 1 ∧ win0_0.index t 2 = t.val % 4 := by decide +kernel
/-- Where the second operand's block lies. -/
theorem at1 : ∀ t : Fin grid0.N, win0_1.index t 0 = t.val / 4 ∧ win0_1.index t 1 = 0 ∧ win0_1.index t 2 = 0 := by decide +kernel
/-- Where the first result's block lies. -/
theorem at2 : ∀ t : Fin grid0.N, win0_2.index t 0 = t.val / 4 ∧ win0_2.index t 1 = 0 ∧ win0_2.index t 2 = t.val % 4 := by decide +kernel
/-- Where the second result's block lies. -/
theorem at3 : ∀ t : Fin grid0.N, win0_3.index t 0 = t.val / 4 ∧ win0_3.index t 1 = 0 ∧ win0_3.index t 2 = 0 := by decide +kernel

/-- The column of a point's block. -/
def col (t : Fin cfg0.N) (e : Fin 512) : Fin 2048 := ⟨512 * (t.val % 4) + e.val, by omega⟩

variable (t : Fin cfg0.N)

/-- Where an element of the first result's block lies in the array. -/
theorem emb2 (ht : t.val / 4 = (Pool.row l b).val) (e : Fin 512) :
    ((cfg0.win 2).blk t).view.emb (ix3 0 0 e : S1x1x512.Idx) = (ix3 (Pool.row l b) 0 (col t e) : S12x1x2048.Idx) := by
  obtain ⟨h0, h1, h2⟩ := at2 t
  funext a; apply Fin.ext
  match a with
  | ⟨0, _⟩ => show win0_2.index t (0 : Fin 3) * 1 + 1 * 0 = (Pool.row l b).val; omega
  | ⟨1, _⟩ => show win0_2.index t (1 : Fin 3) * 1 + 1 * 0 = 0; omega
  | ⟨2, _⟩ => show win0_2.index t (2 : Fin 3) * 512 + 1 * e.val = 512 * (t.val % 4) + e.val; omega

/-- Where the second result's block lies in the array. -/
theorem emb3 (ht : t.val / 4 = (Pool.row l b).val) :
    ((cfg0.win 3).blk t).view.emb (ix3 0 0 0 : S1x1x1.Idx) = (ix3 (Pool.row l b) 0 0 : S12x1x1.Idx) := by
  obtain ⟨h0, h1, h2⟩ := at3 t
  funext a; apply Fin.ext
  match a with
  | ⟨0, _⟩ => show win0_3.index t (0 : Fin 3) * 1 + 1 * 0 = (Pool.row l b).val; omega
  | ⟨1, _⟩ => show win0_3.index t (1 : Fin 3) * 1 + 1 * 0 = 0; omega
  | ⟨2, _⟩ => show win0_3.index t (2 : Fin 3) * 1 + 1 * 0 = 0; omega

/-- An element of the first operand's block: a step of a row. -/
theorem blk0 (ht : t.val / 4 = (Pool.row l b).val) (k : Fin 1024) (e : Fin 512) :
    (iblk m c 0 t : Vec Ideal S1x1024x512 .f32) (ix3 0 k e) = Ref.aSt (argA m c) l b (col t e) k := by
  obtain ⟨h0, h1, h2⟩ := at0 t
  refine Eq.trans ?_ (V_v0_apply m c l b ⟨1024 + k.val, by omega⟩ (col t e))
  show V m c main_v0 (((cfg0.win 0).blk t).view.emb (ix3 0 k e : S1x1024x512.Idx)) = V m c main_v0 _
  congr 1
  funext a; apply Fin.ext
  match a with
  | ⟨0, _⟩ => show win0_0.index t (0 : Fin 3) * 1 + 1 * 0 = (Pool.row l b).val; omega
  | ⟨1, _⟩ => show win0_0.index t (1 : Fin 3) * 1024 + 1 * k.val = 1024 + k.val; omega
  | ⟨2, _⟩ => show win0_0.index t (2 : Fin 3) * 512 + 1 * e.val = 512 * (t.val % 4) + e.val; omega

/-- An element of the second operand's block. -/
theorem blk1 (ht : t.val / 4 = (Pool.row l b).val) (j : Fin 2048) :
    (iblk m c 1 t : Vec Ideal S1x1x2048 .f32) (ix3 0 0 j) = argB m c (ix4 l b j 0) := by
  obtain ⟨h0, h1, h2⟩ := at1 t
  refine Eq.trans ?_ (V_v2_apply m c l b j)
  show V m c main_v2 (((cfg0.win 1).blk t).view.emb (ix3 0 0 j : S1x1x2048.Idx)) = V m c main_v2 _
  congr 1
  funext a; apply Fin.ext
  match a with
  | ⟨0, _⟩ => show win0_1.index t (0 : Fin 3) * 1 + 1 * 0 = (Pool.row l b).val; omega
  | ⟨1, _⟩ => show win0_1.index t (1 : Fin 3) * 1 + 1 * 0 = 0; omega
  | ⟨2, _⟩ => show win0_1.index t (2 : Fin 3) * 2048 + 1 * j.val = j.val; omega

/-- The mask the body loads: a step of a row. -/
theorem mask_ld (ht : t.val / 4 = (Pool.row l b).val) (k : Fin 1024) :
    (View.ld (iblk m c 1 t : Vec Ideal S1x1x2048 .f32) r0_0 : Vec Ideal S1x1x1024 .f32) (ix3 0 0 k) = Ref.bSt (argB m c) l b k :=
  (View.ld_unit_apply_of (iblk m c 1 t : Vec Ideal S1x1x2048 .f32) _ _ _ (ix3 0 0 k : S1x1x1024.Idx)
    (ix3 0 0 ⟨1024 + k.val, by omega⟩ : S1x1x2048.Idx)
    fun a => by match a with | ⟨0, _⟩ => rfl | ⟨1, _⟩ => rfl | ⟨2, _⟩ => rfl).trans (blk1 m c l b t ht _)

/-- Offsets of zero. -/
theorem zero3 : (![0, 0, 0] : Fin 3 → Nat) = fun _ => 0 := funext fun a => by fin_cases a <;> rfl

/-- What the body leaves in the first result's buffer. -/
theorem out2_eq (x0 : Vec Ideal S1x1024x512 .f32) (x1 : Vec Ideal S1x1x2048 .f32) :
    out0_2 x0 x1 = k0_pay2 (View.ld x1 r0_0) x0 := by
  unfold out0_2
  rw [View.canon_unit_zero (S := S1x1x512) zero3, View.ld_unit_zero (S := S1x1024x512) zero3]

/-- What the body leaves in the second result's buffer. -/
theorem out3_eq (x0 : Vec Ideal S1x1024x512 .f32) (x1 : Vec Ideal S1x1x2048 .f32) :
    out0_3 x0 x1 = k0_pay3 (View.ld x1 r0_0) := by
  unfold out0_3
  rw [View.canon_unit_zero (S := S1x1x1) zero3]

/-- The reference's pooled result with one row per layer and batch. -/
def rowsA (A : FVec Ideal S3x4x2048x2048 .f32) (B : FVec Ideal S3x4x2048x1 .f32) : FVec Ideal S12x1x2048 .f32 :=
  shapeCast S12x1x2048 (Ref.pooled A B) Cert.ReferenceRowsIdeal.Gen.facts.shapeCasts_S3x4x1x2048_S12x1x2048

/-- The reference's mask result with one row per layer and batch. -/
def rowsB (B : FVec Ideal S3x4x2048x1 .f32) : FVec Ideal S12x1x1 .f32 :=
  shapeCast S12x1x1 (Ref.masked B) Cert.ReferenceRowsIdeal.Gen.facts.shapeCasts_S3x4x1x1_S12x1x1

/-- One element. -/
theorem rowsA_apply (A : FVec Ideal S3x4x2048x2048 .f32) (B : FVec Ideal S3x4x2048x1 .f32) (d : Fin 2048) :
    rowsA A B (ix3 (Pool.row l b) 0 d) = Ref.pooled A B (ix4 l b 0 d) := by
  refine shapeCast_apply _ _ _ (ix4 l b 0 d) ?_
  rw [Shape.rowMajor_val_four, Shape.rowMajor_val_three]
  rfl

/-- One element. -/
theorem rowsB_apply (B : FVec Ideal S3x4x2048x1 .f32) : rowsB B (ix3 (Pool.row l b) 0 0) = Ref.masked B (ix4 l b 0 0) := by
  refine shapeCast_apply _ _ _ (ix4 l b 0 0) ?_
  rw [Shape.rowMajor_val_four, Shape.rowMajor_val_three]
  rfl

/-- Every row is the row of a layer and batch. -/
theorem row_surj (s : Nat) (h : s < 12) : ∃ l b, s = (Pool.row l b).val :=
  ⟨⟨s / 4, by omega⟩, ⟨s % 4, by omega⟩, by show s = s / 4 * 4 + s % 4; omega⟩

/-- A point's row. -/
theorem row_point : ∃ l b, t.val / 4 = (Pool.row l b).val :=
  row_surj _ (by have := t.isLt; have h : cfg0.N = 48 := N_0; omega)

/-- The second result's block is its whole buffer. -/
theorem cut3 (X : Vec Ideal S1x1x1 .f32) (j : S1x1x1.Idx) :
    ((cfg0.win 3).cut (grid0.coords t) X : Vec Ideal S1x1x1 .f32) j = X j := rfl

/-- An array read through the second result's block. -/
theorem read3 (ht : t.val / 4 = (Pool.row l b).val) (G : FVec Ideal S12x1x1 .f32) :
    (((cfg0.win 3).blk t).view.read (Elt Ideal) G : Vec Ideal S1x1x1 .f32) (ix3 0 0 0) = G (ix3 (Pool.row l b) 0 0) :=
  congrArg G (emb3 l b t ht)

/-- What a point writes back to the second result's array: its block of the reference's. -/
theorem flush3 :
    (dats m 0 c).flushed 3 t = ((cfg0.win 3).blk t).view.read (Elt Ideal) (rowsB (argB m c)) := by
  obtain ⟨l, b, ht⟩ := row_point t
  rw [flushed3, out3_eq]
  funext j
  refine (cut3 t _ j).trans ?_
  obtain ⟨u, v, e, rfl⟩ : ∃ (u : Fin 1) (v : Fin 1) (e : Fin 1), j = (ix3 u v e : S1x1x1.Idx) := ⟨_, _, _, eq_ix3 (n0 := 1) (n1 := 1) (n2 := 1) j⟩
  obtain rfl : u = 0 := Subsingleton.elim _ _
  obtain rfl : v = 0 := Subsingleton.elim _ _
  obtain rfl : e = 0 := Subsingleton.elim _ _
  refine Eq.trans ?_ (read3 l b t ht (rowsB (argB m c))).symm
  refine (pay3_apply _).trans (Eq.trans ?_ ((rowsB_apply l b (argB m c)).trans (Ref.masked_apply _ l b)).symm)
  exact congrArg (fun f : Fin 1024 → EReal => (Finset.univ : Finset (Fin 1024)).fold (max : EReal → EReal → EReal) (Ideal.ofBits .f32 0xFF800000#32) f)
    (funext fun k => mask_ld m c l b t ht k)

variable (hB : ∀ i, (0 : EReal) ≤ argB m c i)
include hB

/-- What a point writes back to the first result's array: its block of the reference's. -/
theorem flush2 :
    (dats m 0 c).flushed 2 t = ((cfg0.win 2).blk t).view.read (Elt Ideal) (rowsA (argA m c) (argB m c)) := by
  obtain ⟨l, b, ht⟩ := row_point t
  rw [flushed2, out2_eq]
  funext j
  obtain ⟨u, v, e, rfl⟩ : ∃ (u : Fin 1) (v : Fin 1) (e : Fin 512), j = (ix3 u v e : S1x1x512.Idx) := ⟨_, _, _, eq_ix3 (n0 := 1) (n1 := 1) (n2 := 512) j⟩
  obtain rfl : u = 0 := Subsingleton.elim _ _
  obtain rfl : v = 0 := Subsingleton.elim _ _
  show (k0_pay2 (View.ld (iblk m c 1 t : Vec Ideal S1x1x2048 .f32) r0_0) (iblk m c 0 t) (ix3 0 0 e) : EReal)
    = rowsA (argA m c) (argB m c) (((cfg0.win 2).blk t).view.emb (ix3 0 0 e : S1x1x512.Idx))
  rw [emb2 l b t ht, rowsA_apply, pay2_apply, Ref.pooled_apply, Ideal.ofBits_zero_f32, Pool.choose_zero]
  have hs : (total (View.ld (iblk m c 1 t : Vec Ideal S1x1x2048 .f32) r0_0) : EReal) = ∑ k : Fin 1024, Ref.bSt (argB m c) l b k :=
    (total_eq _).trans (Finset.sum_congr rfl fun k _ => mask_ld m c l b t ht k)
  rw [← hs]
  refine Eq.trans ?_ (Pool.weighted Finset.univ (Ref.aSt (argA m c) l b (col t e)) (Ref.bSt (argB m c) l b) (fun k _ => hB _) _ hs)
  refine Finset.sum_congr rfl fun k _ => ?_
  rw [mask_ld m c l b t ht k]
  exact congrArg (fun a : EReal => a * _) (blk0 m c l b t ht k e)

omit hB in
/-- An index of the first result's array lies in a point's block. -/
theorem cover2 (i : S12x1x2048.Idx) : ∃ t : Fin cfg0.N, (cfg0.win 2).flush t = true ∧ i ∈ ((cfg0.win 2).blk t).view.set := by
  obtain ⟨s, u, d, rfl⟩ : ∃ (s : Fin 12) (u : Fin 1) (d : Fin 2048), i = ix3 s u d := ⟨_, _, _, eq_ix3 i⟩
  obtain rfl : u = 0 := Subsingleton.elim _ _
  obtain ⟨l, b, hr⟩ := row_surj s.val s.isLt
  obtain rfl : s = Pool.row l b := Fin.ext hr
  have hs := (Pool.row l b).isLt
  have hd := d.isLt
  have hN : cfg0.N = 48 := N_0
  let t : Fin cfg0.N := ⟨4 * (Pool.row l b).val + d.val / 512, by omega⟩
  have ht : t.val / 4 = (Pool.row l b).val := by show (4 * (Pool.row l b).val + d.val / 512) / 4 = _; omega
  refine ⟨t, flush0_2 t, ?_⟩
  have h := ((cfg0.win 2).blk t).view.emb_mem_set (ix3 0 0 ⟨d.val % 512, by omega⟩ : S1x1x512.Idx)
  rw [emb2 l b t ht] at h
  have hc : col t ⟨d.val % 512, by omega⟩ = d := Fin.ext (by
    show 512 * ((4 * (Pool.row l b).val + d.val / 512) % 4) + d.val % 512 = d.val; omega)
  rwa [hc] at h

omit hB in
/-- An index of the second result's array lies in the block of a point that writes back. -/
theorem cover3 (i : S12x1x1.Idx) : ∃ t : Fin cfg0.N, (cfg0.win 3).flush t = true ∧ i ∈ ((cfg0.win 3).blk t).view.set := by
  obtain ⟨s, u, d, rfl⟩ : ∃ (s : Fin 12) (u : Fin 1) (d : Fin 1), i = ix3 s u d := ⟨_, _, _, eq_ix3 i⟩
  obtain rfl : u = 0 := Subsingleton.elim _ _
  obtain rfl : d = 0 := Subsingleton.elim _ _
  obtain ⟨l, b, hr⟩ := row_surj s.val s.isLt
  obtain rfl : s = Pool.row l b := Fin.ext hr
  have hs := (Pool.row l b).isLt
  have hN : cfg0.N = 48 := N_0
  let t : Fin cfg0.N := ⟨4 * (Pool.row l b).val + 3, by omega⟩
  have ht : t.val / 4 = (Pool.row l b).val := by show (4 * (Pool.row l b).val + 3) / 4 = _; omega
  refine ⟨t, (flush0_3 t).mpr (by show (4 * (Pool.row l b).val + 3) % 4 = 3; omega), ?_⟩
  have h := ((cfg0.win 3).blk t).view.emb_mem_set (ix3 0 0 0 : S1x1x1.Idx)
  rwa [emb3 l b t ht] at h

/-- The first result's array after the call: the reference's pooled result, one row per layer and batch. -/
theorem final2 : (dats m 0 c).arrAt 2 cfg0.N = rowsA (argA m c) (argB m c) :=
  (dats m 0 c).arrAt_eq_of_cover 2 (rowsA (argA m c) (argB m c)) (fun t _ => flush2 m c t hB) cover2

omit hB in
/-- The second result's array after the call: the reference's mask result, one row per layer and batch. -/
theorem final3 : (dats m 0 c).arrAt 3 cfg0.N = rowsB (argB m c) :=
  (dats m 0 c).arrAt_eq_of_cover 3 (rowsB (argB m c)) (fun t _ => flush3 m c t) cover3

end Cert.Proof.Tc
end
-- ==== Proof.AlgebraicTc.lean ====
/-
  The TensorCore call's claims: its executions end and leave the arguments, and over the extended reals it ends with the
  reference's two results, one row per layer and batch, on a mask with no negative element.
-/
module

public import proofs.«01_k».proof.Defs
public import proofs.«01_k».proof.Proof.Algebraic
public import proofs.«01_k».proof.Proof.TcValue
public import proofs.«01_k».proof.Proof.Gen.KernelTc.Frame
public import proofs.«01_k».proof.Proof.Gen.KernelTc
public import proofs.«01_k».proof.Proof.Gen.ReferenceRowsIdeal.Run

@[expose] public section

noncomputable section

namespace Cert.Proof

open Idealize.ShloMosaic Idealize.ShloMosaic.TcCoe Idealize.SL.Sem Cert.KernelTc.Gen Cert.KernelTcIdeal.Gen Cert.ReferenceRowsIdeal.Gen Cert.Pre_mask_nonneg.Gen

/-- The call's printed program ends quiescent, its arguments unchanged. -/
theorem frame_tc : Cert.quiescent_KernelTc := fun m g _ => Cert.KernelTc.Gen.frame m g

/-- The call over the extended reals ends quiescent, its arguments unchanged. -/
theorem frame_tc_ideal : Cert.quiescent_KernelTcIdeal := fun m g _ => Cert.KernelTcIdeal.Gen.frame m g

/-- The same of the memories whose mask has no negative element. -/
theorem frame_tc_ideal_pre : Cert.quiescent_KernelTcIdeal_pre_mask_nonneg := fun m g _ => frame_tc_ideal m g trivial

/-- The reference by rows: it declares no counter. -/
theorem frame_rows : Cert.quiescent_ReferenceRowsIdeal := fun m g _ =>
  (θ_run Cert.ReferenceRowsIdeal.defs _ _).mono (fun r h => ⟨fun c => ⟨(h c).2.2.1, (h c).2.2.2⟩, sem_eq_zero_of_no_sems (by decide) r.2⟩)
    (Cert.ReferenceRowsIdeal.Value.run (F := Ideal) m g)

/-- The same of the memories whose mask has no negative element. -/
theorem frame_rows_pre : Cert.quiescent_ReferenceRowsIdeal_pre_mask_nonneg := fun m g _ => frame_rows m g trivial

/-- The call's and the reference's results are the same. -/
theorem algebraic_tc : Cert.algebraic_KernelTcIdeal_ReferenceRowsIdeal_pre_mask_nonneg := by
  intro m g m' g' hpre hm
  have h0 := fun c => nonneg_of_pre _ _ (hpre c)
  refine ⟨fun c => Tc.rowsA (Tc.argA m c) (Tc.argB m c), fun c => Tc.rowsB (Tc.argB m c), ?_, ?_⟩
  · exact (θ_run Cert.KernelTcIdeal.defs _ _).mono
      (fun _ h c => ⟨(h c).1.trans (Tc.final2 m c (h0 c)), (h c).2.1.trans (Tc.final3 m c), (h c).2.2.1, (h c).2.2.2⟩)
      (Cert.KernelTcIdeal.Value.run_blocks (F := Ideal) m g)
  · refine (θ_run Cert.ReferenceRowsIdeal.defs _ _).mono (fun r h c => ⟨?_, ?_, (h c).2.2.1, (h c).2.2.2⟩)
      (Cert.ReferenceRowsIdeal.Value.run (F := Ideal) m' g')
    · refine (h c).1.trans ?_
      rw [(hm c).1, (hm c).2]
      rfl
    · refine (h c).2.1.trans ?_
      rw [(hm c).2]
      rfl

end Cert.Proof

end
-- ==== Proof.lean ====
/- The proof of the certificate's claim. -/
module

public import proofs.«01_k».proof.Defs
public import proofs.«01_k».proof.Proof.Frames
public import proofs.«01_k».proof.Proof.Algebraic
public import proofs.«01_k».proof.Proof.AlgebraicTc

@[expose] public section

noncomputable section

namespace Cert.Proof

open Idealize.ShloMosaic Idealize.SL.Sem Cert.Kernel

/-- Everything that the certificate claims. -/
theorem claim : Cert.Claim :=
  ⟨Cert.Kernel.Gen.facts, Cert.KernelIdeal.Gen.facts, Cert.ReferenceIdeal.Gen.facts, Cert.KernelTc.Gen.facts,
    Cert.KernelTcIdeal.Gen.facts, Cert.ReferenceRowsIdeal.Gen.facts, Cert.Pre_mask_nonneg.Gen.facts,
    frame_kernel, frame_ideal, frame_ideal_pre, frame_reference, frame_reference_pre,
    frame_tc, frame_tc_ideal, frame_tc_ideal_pre, frame_rows, frame_rows_pre,
    trivial, algebraic, trivial, algebraic_tc⟩

end Cert.Proof

end
